-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendReferenceIdeal (m : (ℓ : Loc Cert.AttendReferenceIdeal.nD Cert.AttendReferenceIdeal.τ Cert.AttendReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5)
      ∧ r.2.mem ((c.tc : Thread Cert.FinalReferenceIdeal.nD Cert.FinalReferenceIdeal.τ).loc Cert.FinalReferenceIdeal.main_arg6) = m ((c.tc : Thread Cert.FinalReferenceIdeal.nD Cert.FinalReferenceIdeal.τ).loc Cert.FinalReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v5)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v20) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)
      ∧ m' ((c.tc : Thread Cert.FinalReferenceIdeal.nD Cert.FinalReferenceIdeal.τ).loc Cert.FinalReferenceIdeal.main_arg6) = m ((c.tc : Thread Cert.FinalIdeal.nD Cert.FinalIdeal.τ).loc Cert.FinalIdeal.main_arg6)) →
    ∃ (v0 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v5) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v33) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5)
          ∧ r.2.mem ((c.tc : Thread Cert.FinalReferenceIdeal.nD Cert.FinalReferenceIdeal.τ).loc Cert.FinalReferenceIdeal.main_arg6) = m' ((c.tc : Thread Cert.FinalReferenceIdeal.nD Cert.FinalReferenceIdeal.τ).loc Cert.FinalReferenceIdeal.main_arg6))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v16_0)) (v1 : (c : Dev Cert.ProjectIdeal.nD) → Buf (Elt Ideal) ((c.tc : Thread Cert.ProjectIdeal.nD Cert.ProjectIdeal.τ).loc Cert.ProjectIdeal.main_v16_1)) (v2 : (c : Dev Cert.ProjectIdeal.nD) → Buf (Elt Ideal) ((c.tc : Thread Cert.ProjectIdeal.nD Cert.ProjectIdeal.τ).loc Cert.ProjectIdeal.main_v16_2)) (v3 : (c : Dev Cert.ProjectIdeal.nD) → Buf (Elt Ideal) ((c.tc : Thread Cert.ProjectIdeal.nD Cert.ProjectIdeal.τ).loc Cert.ProjectIdeal.main_v16_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v16_0) = v0 c
          ∧ r.2.mem ((c.tc : Thread Cert.ProjectIdeal.nD Cert.ProjectIdeal.τ).loc Cert.ProjectIdeal.main_v16_1) = v1 c
          ∧ r.2.mem ((c.tc : Thread Cert.ProjectIdeal.nD Cert.ProjectIdeal.τ).loc Cert.ProjectIdeal.main_v16_2) = v2 c
          ∧ r.2.mem ((c.tc : Thread Cert.ProjectIdeal.nD Cert.ProjectIdeal.τ).loc Cert.ProjectIdeal.main_v16_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v87) = v0 c
          ∧ r.2.mem ((c.tc : Thread Cert.ProjectReferenceIdeal.nD Cert.ProjectReferenceIdeal.τ).loc Cert.ProjectReferenceIdeal.main_v89) = v1 c
          ∧ r.2.mem ((c.tc : Thread Cert.ProjectReferenceIdeal.nD Cert.ProjectReferenceIdeal.τ).loc Cert.ProjectReferenceIdeal.main_v90) = v2 c
          ∧ r.2.mem ((c.tc : Thread Cert.ProjectReferenceIdeal.nD Cert.ProjectReferenceIdeal.τ).loc Cert.ProjectReferenceIdeal.main_v91) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Attend_AttendIdeal : Prop :=
  True

def algebraic_AttendIdeal_AttendReferenceIdeal [hAttendIdeal : Cert.AttendIdeal.Facts] [hAttendReferenceIdeal : Cert.AttendReferenceIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v84_0)) (v1 : (c : Dev Cert.AttendIdeal.nD) → Buf (Elt Ideal) ((c.tc : Thread Cert.AttendIdeal.nD Cert.AttendIdeal.τ).loc Cert.AttendIdeal.main_v84_1)) (v2 : (c : Dev Cert.AttendIdeal.nD) → Buf (Elt Ideal) ((c.tc : Thread Cert.AttendIdeal.nD Cert.AttendIdeal.τ).loc Cert.AttendIdeal.main_v84_2)) (v3 : (c : Dev Cert.AttendIdeal.nD) → Buf (Elt Ideal) ((c.tc : Thread Cert.AttendIdeal.nD Cert.AttendIdeal.τ).loc Cert.AttendIdeal.main_v84_3)) (v4 : (c : Dev Cert.AttendIdeal.nD) → Buf (Elt Ideal) ((c.tc : Thread Cert.AttendIdeal.nD Cert.AttendIdeal.τ).loc Cert.AttendIdeal.main_v84_4)) (v5 : (c : Dev Cert.AttendIdeal.nD) → Buf (Elt Ideal) ((c.tc : Thread Cert.AttendIdeal.nD Cert.AttendIdeal.τ).loc Cert.AttendIdeal.main_v84_5)) (v6 : (c : Dev Cert.AttendIdeal.nD) → Buf (Elt Ideal) ((c.tc : Thread Cert.AttendIdeal.nD Cert.AttendIdeal.τ).loc Cert.AttendIdeal.main_v84_6)) (v7 : (c : Dev Cert.AttendIdeal.nD) → Buf (Elt Ideal) ((c.tc : Thread Cert.AttendIdeal.nD Cert.AttendIdeal.τ).loc Cert.AttendIdeal.main_v84_7)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v84_0) = v0 c
          ∧ r.2.mem ((c.tc : Thread Cert.AttendIdeal.nD Cert.AttendIdeal.τ).loc Cert.AttendIdeal.main_v84_1) = v1 c
          ∧ r.2.mem ((c.tc : Thread Cert.AttendIdeal.nD Cert.AttendIdeal.τ).loc Cert.AttendIdeal.main_v84_2) = v2 c
          ∧ r.2.mem ((c.tc : Thread Cert.AttendIdeal.nD Cert.AttendIdeal.τ).loc Cert.AttendIdeal.main_v84_3) = v3 c
          ∧ r.2.mem ((c.tc : Thread Cert.AttendIdeal.nD Cert.AttendIdeal.τ).loc Cert.AttendIdeal.main_v84_4) = v4 c
          ∧ r.2.mem ((c.tc : Thread Cert.AttendIdeal.nD Cert.AttendIdeal.τ).loc Cert.AttendIdeal.main_v84_5) = v5 c
          ∧ r.2.mem ((c.tc : Thread Cert.AttendIdeal.nD Cert.AttendIdeal.τ).loc Cert.AttendIdeal.main_v84_6) = v6 c
          ∧ r.2.mem ((c.tc : Thread Cert.AttendIdeal.nD Cert.AttendIdeal.τ).loc Cert.AttendIdeal.main_v84_7) = v7 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v163) = v0 c
          ∧ r.2.mem ((c.tc : Thread Cert.AttendReferenceIdeal.nD Cert.AttendReferenceIdeal.τ).loc Cert.AttendReferenceIdeal.main_v164) = v1 c
          ∧ r.2.mem ((c.tc : Thread Cert.AttendReferenceIdeal.nD Cert.AttendReferenceIdeal.τ).loc Cert.AttendReferenceIdeal.main_v165) = v2 c
          ∧ r.2.mem ((c.tc : Thread Cert.AttendReferenceIdeal.nD Cert.AttendReferenceIdeal.τ).loc Cert.AttendReferenceIdeal.main_v168) = v3 c
          ∧ r.2.mem ((c.tc : Thread Cert.AttendReferenceIdeal.nD Cert.AttendReferenceIdeal.τ).loc Cert.AttendReferenceIdeal.main_v181) = v4 c
          ∧ r.2.mem ((c.tc : Thread Cert.AttendReferenceIdeal.nD Cert.AttendReferenceIdeal.τ).loc Cert.AttendReferenceIdeal.main_v190) = v5 c
          ∧ r.2.mem ((c.tc : Thread Cert.AttendReferenceIdeal.nD Cert.AttendReferenceIdeal.τ).loc Cert.AttendReferenceIdeal.main_v199) = v6 c
          ∧ r.2.mem ((c.tc : Thread Cert.AttendReferenceIdeal.nD Cert.AttendReferenceIdeal.τ).loc Cert.AttendReferenceIdeal.main_v200) = v7 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hFinal : Cert.Final.Facts) (hFinalIdeal : Cert.FinalIdeal.Facts) (hFinalReferenceIdeal : Cert.FinalReferenceIdeal.Facts) (hProject : Cert.Project.Facts) (hProjectIdeal : Cert.ProjectIdeal.Facts) (hProjectReferenceIdeal : Cert.ProjectReferenceIdeal.Facts) (hAttend : Cert.Attend.Facts) (hAttendIdeal : Cert.AttendIdeal.Facts) (hAttendReferenceIdeal : Cert.AttendReferenceIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_First (hFirst := hFirst)
    ∧ quiescent_FirstIdeal (hFirstIdeal := hFirstIdeal)
    ∧ quiescent_FirstReferenceIdeal (hFirstReferenceIdeal := hFirstReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Attend (hAttend := hAttend)
    ∧ quiescent_AttendIdeal (hAttendIdeal := hAttendIdeal)
    ∧ quiescent_AttendReferenceIdeal (hAttendReferenceIdeal := hAttendReferenceIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_First_FirstIdeal
    ∧ algebraic_FirstIdeal_FirstReferenceIdeal (hFirstIdeal := hFirstIdeal) (hFirstReferenceIdeal := hFirstReferenceIdeal)
    ∧ preserves_Final_FinalIdeal
    ∧ algebraic_FinalIdeal_FinalReferenceIdeal (hFinalIdeal := hFinalIdeal) (hFinalReferenceIdeal := hFinalReferenceIdeal)
    ∧ preserves_Project_ProjectIdeal
    ∧ algebraic_ProjectIdeal_ProjectReferenceIdeal (hProjectIdeal := hProjectIdeal) (hProjectReferenceIdeal := hProjectReferenceIdeal)
    ∧ preserves_Attend_AttendIdeal
    ∧ algebraic_AttendIdeal_AttendReferenceIdeal (hAttendIdeal := hAttendIdeal) (hAttendReferenceIdeal := hAttendReferenceIdeal)
-- ==== Pre_finite_qkv.lean ====
abbrev S8x4096x1024 : Shape := ⟨3, ![8, 4096, 1024]⟩
abbrev S8x4096x2048 : Shape := ⟨3, ![8, 4096, 2048]⟩
abbrev S2048 : Shape := ⟨1, ![2048]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x4096x2048 : S_.BroadcastsInDim S8x4096x2048 (![] : Fin 0 → Fin S8x4096x2048.rank)

variable [Facts]

def fn {F : FTy → Type} [FloatOps F] (main_arg0 : FVec F S8x4096x1024 .bf16) (main_arg1 : FVec F S8x4096x1024 .bf16) (main_arg2 : FVec F S8x4096x2048 .bf16) (main_arg3 : FVec F S8x4096x2048 .bf16) (main_arg4 : FVec F S2048 .f32) : IVec S8x4096x1024 1 × IVec S8x4096x1024 1 × IVec S8x4096x2048 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x1024 .f32 := (extf .f32 · bitsLt_bf16_f32) main_arg1
  let main_v5 : FVec F S8x4096x1024 .f32 := Host.absf main_v4
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  let main_v8 : FVec F S8x4096x2048 .f32 := (extf .f32 · bitsLt_bf16_f32) main_arg2
  let main_v9 : FVec F S8x4096x2048 .f32 := Host.absf main_v8
  let main_cst_1 : FVec F S_ .f32 := constant S_ .f32 0x7F800000#32
  let main_v10 : FVec F S8x4096x2048 .f32 := broadcastInDim S8x4096x2048 ![] bcast_S_S8x4096x2048 main_cst_1
  let main_v11 : IVec S8x4096x2048 1 := cmpf .olt main_v9 main_v10
  (main_v3, main_v7, main_v11)
-- ==== Kernel.lean ====
abbrev S8x4096x1024 : Shape := ⟨3, ![8, 4096, 1024]⟩
abbrev S8x4096x2048 : Shape := ⟨3, ![8, 4096, 2048]⟩
abbrev S2048 : Shape := ⟨1, ![2048]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x8x128 : Shape := ⟨3, ![4, 8, 128]⟩
abbrev S1x2048 : Shape := ⟨2, ![1, 2048]⟩
abbrev S1x256x1024 : Shape := ⟨3, ![1, 256, 1024]⟩
abbrev S1x256x2048 : Shape := ⟨3, ![1, 256, 2048]⟩
abbrev S4x256x512 : Shape := ⟨3, ![4, 256, 512]⟩
abbrev S1x256x512 : Shape := ⟨3, ![1, 256, 512]⟩
abbrev S256x512 : Shape := ⟨2, ![256, 512]⟩
abbrev S1x256x1 : Shape := ⟨3, ![1, 256, 1]⟩
abbrev S1x8x128 : Shape := ⟨3, ![1, 8, 128]⟩
abbrev S8x128 : Shape := ⟨2, ![8, 128]⟩
abbrev S1x1 : Shape := ⟨2, ![1, 1]⟩
abbrev S1x512 : Shape := ⟨2, ![1, 512]⟩

abbrev nBuf : Space → Nat
  | .hbm => 66
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x2048, .bf16⟩
  | .hbm, ⟨3, _⟩ => ⟨S8x4096x2048, .bf16⟩
  | .hbm, ⟨4, _⟩ => ⟨S2048, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S256, .f32⟩
  | .hbm, ⟨16, _⟩ => ⟨S256x1, .f32⟩
  | .hbm, ⟨17, _⟩ => ⟨S1x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S4x1x1, .f32⟩
  | .hbm, ⟨28, _⟩ => ⟨S1x256x256, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S_, .f32⟩
  | .hbm, ⟨34, _⟩ => ⟨S_, .f32⟩
  | .hbm, ⟨35, _⟩ => ⟨S4x256x256, .i1⟩
  | .hbm, ⟨36, _⟩ => ⟨S4x256x256, .f32⟩
  | .hbm, ⟨37, _⟩ => ⟨S4x256x256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S4x1, .f32⟩
  | .hbm, ⟨42, _⟩ => ⟨S1x256, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256x1, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S4x1, .f32⟩
  | .hbm, ⟨52, _⟩ => ⟨S1x256, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S4x256x1, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4x1x1, .f32⟩
  | .hbm, ⟨63, _⟩ => ⟨S4x8x128, .f32⟩
  | .hbm, ⟨64, _⟩ => ⟨S1x2048, .f32⟩
  | .hbm, ⟨65, _⟩ => ⟨S8x4096x2048, .bf16⟩
  | .local _ .vmem, ⟨0, _⟩ => ⟨S4x256x256, .f32⟩
  | .local _ .vmem, ⟨1, _⟩ => ⟨S4x256x1, .f32⟩
  | .local _ .vmem, ⟨2, _⟩ => ⟨S4x256x1, .f32⟩
  | .local _ .vmem, ⟨3, _⟩ => ⟨S4x8x128, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x2048, .f32⟩
  | .local _ .vmem, ⟨13, _⟩ => ⟨S1x256x2048, .bf16⟩
  | .local _ .vmem, ⟨14, _⟩ => ⟨S1x256x2048, .bf16⟩
  | .local _ .vmem, ⟨15, _⟩ => ⟨S4x256x512, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x1024 : Shape := ⟨3, ![8, 4096, 1024]⟩
abbrev S8x4096x2048 : Shape := ⟨3, ![8, 4096, 2048]⟩
abbrev S2048 : Shape := ⟨1, ![2048]⟩
abbrev S8x4096x4x256 : Shape := ⟨4, ![8, 4096, 4, 256]⟩
abbrev S8x4096x4x512 : Shape := ⟨4, ![8, 4096, 4, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S8x4x256x512 : Shape := ⟨4, ![8, 4, 256, 512]⟩
abbrev S8x32x128x4x256 : Shape := ⟨5, ![8, 32, 128, 4, 256]⟩
abbrev S32x8x4x128x256 : Shape := ⟨5, ![32, 8, 4, 128, 256]⟩
abbrev S8x32x128x4x512 : Shape := ⟨5, ![8, 32, 128, 4, 512]⟩
abbrev S32x8x4x128x512 : Shape := ⟨5, ![32, 8, 4, 128, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S8x4096x4 : Shape := ⟨3, ![8, 4096, 4]⟩
abbrev S8x4096x4x1 : Shape := ⟨4, ![8, 4096, 4, 1]⟩
abbrev S1x1x2048 : Shape := ⟨3, ![1, 1, 2048]⟩

abbrev nBuf : Space → Nat
  | .hbm => 177
  | .vmem => 0
  | .smem => 0
  | _ => 0

abbrev hbmTy0_0 (i : Nat) : BufTy := match i % 128 with
  | 0 => ⟨S8x4096x1024, .bf16⟩
  | 1 => ⟨S8x4096x1024, .bf16⟩
  | 2 => ⟨S8x4096x2048, .bf16⟩
  | 3 => ⟨S8x4096x2048, .bf16⟩
  | 4 => ⟨S2048, .f32⟩
  | 5 => ⟨S8x4096x1024, .f32⟩
  | 6 => ⟨S8x4096x4x256, .f32⟩
  | 7 => ⟨S8x4096x1024, .f32⟩
  | 8 => ⟨S8x4096x4x256, .f32⟩
  | 9 => ⟨S8x4096x2048, .f32⟩
  | 10 => ⟨S8x4096x4x512, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S4, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S_, .f32⟩
  | 28 => ⟨S128x128, .f32⟩
  | 29 => ⟨S128x128, .i1⟩
  | 30 => ⟨S_, .f32⟩
  | 31 => ⟨S128x128, .f32⟩
  | 32 => ⟨S128x128, .f32⟩
  | 33 => ⟨S4x1x1, .f32⟩
  | 34 => ⟨S1x128x128, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S_, .f32⟩
  | 45 => ⟨S128, .f32⟩
  | 46 => ⟨S128, .f32⟩
  | 47 => ⟨S4x1, .f32⟩
  | 48 => ⟨S1x128, .f32⟩
  | 49 => ⟨S4x128, .f32⟩
  | 50 => ⟨S4x128, .f32⟩
  | 51 => ⟨S4x128, .f32⟩
  | 52 => ⟨S4x128, .f32⟩
  | 53 => ⟨S4x128x1, .f32⟩
  | 54 => ⟨S_, .f32⟩
  | 55 => ⟨S128, .f32⟩
  | 56 => ⟨S128, .f32⟩
  | 57 => ⟨S4x1, .f32⟩
  | 58 => ⟨S1x128, .f32⟩
  | 59 => ⟨S4x128, .f32⟩
  | 60 => ⟨S4x128, .f32⟩
  | 61 => ⟨S4x128, .f32⟩
  | 62 => ⟨S4x128, .f32⟩
  | 63 => ⟨S4x128x1, .f32⟩
  | 64 => ⟨S_, .f32⟩
  | 65 => ⟨S4, .f32⟩
  | 66 => ⟨S4, .f32⟩
  | 67 => ⟨S4, .f32⟩
  | 68 => ⟨S4x1x1, .f32⟩
  | 69 => ⟨S_, .f32⟩
  | 70 => ⟨S8x4x256x512, .f32⟩
  | 71 => ⟨S8x32x128x4x256, .f32⟩
  | 72 => ⟨S32x8x4x128x256, .f32⟩
  | 73 => ⟨S8x32x128x4x256, .f32⟩
  | 74 => ⟨S32x8x4x128x256, .f32⟩
  | 75 => ⟨S8x32x128x4x512, .f32⟩
  | 76 => ⟨S32x8x4x128x512, .f32⟩
  | 77 => ⟨S_, .f32⟩
  | 78 => ⟨S32x8x4x128x512, .f32⟩
  | 79 => ⟨S_, .i32⟩
  | 80 => ⟨S32x8x4x128x256, .f32⟩
  | 81 => ⟨S32x8x4x128x256, .f32⟩
  | 82 => ⟨S32x8x4x128x512, .f32⟩
  | 83 => ⟨S4x128x128, .f32⟩
  | 84 => ⟨S4x128x1, .f32⟩
  | 85 => ⟨S4x1x1, .f32⟩
  | 86 => ⟨S4x128x1, .f32⟩
  | 87 => ⟨S_, .i32⟩
  | 88 => ⟨S8x4x256x512, .f32⟩
  | 89 => ⟨S32x8x4x128x512, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x8x4x128x256, .f32⟩
  | 97 => ⟨S8x4x128x256, .f32⟩
  | 98 => ⟨S_, .i32⟩
  | 99 => ⟨S_, .i32⟩
  | 100 => ⟨S_, .i32⟩
  | 101 => ⟨S_, .i32⟩
  | 102 => ⟨S1x8x4x128x256, .f32⟩
  | 103 => ⟨S8x4x128x256, .f32⟩
  | 104 => ⟨S_, .i32⟩
  | 105 => ⟨S_, .i32⟩
  | 106 => ⟨S_, .i32⟩
  | 107 => ⟨S_, .i32⟩
  | 108 => ⟨S1x8x4x128x512, .f32⟩
  | 109 => ⟨S8x4x128x512, .f32⟩
  | 110 => ⟨S8x4x128x128, .f32⟩
  | 111 => ⟨S1x4x128x128, .f32⟩
  | 112 => ⟨S8x4x128x128, .f32⟩
  | 113 => ⟨S8x4x128x128, .f32⟩
  | 114 => ⟨S8x4x128x512, .f32⟩
  | 115 => ⟨S1x4x128x1, .f32⟩
  | 116 => ⟨S8x4x128x256, .f32⟩
  | 117 => ⟨S8x4x128x256, .f32⟩
  | 118 => ⟨S8x4x128x512, .f32⟩
  | 119 => ⟨S8x4x128x512, .f32⟩
  | 120 => ⟨S1x4x1x1, .f32⟩
  | 121 => ⟨S8x4x256x512, .f32⟩
  | 122 => ⟨S8x4x256x512, .f32⟩
  | 123 => ⟨S1x4x128x1, .f32⟩
  | 124 => ⟨S8x4x128x256, .f32⟩
  | 125 => ⟨S8x4x128x256, .f32⟩
  | 126 => ⟨S8x4x256x512, .f32⟩
  | 127 => ⟨S8x4x256x512, .f32⟩
  | _ => ⟨S8x4096x1024, .bf16⟩

abbrev hbmTy0_1 (i : Nat) : BufTy := match i % 128 with
  | 0 => ⟨S1x8x4x128x512, .f32⟩
  | 1 => ⟨S_, .i32⟩
  | 2 => ⟨S_, .i32⟩
  | 3 => ⟨S_, .i32⟩
  | 4 => ⟨S_, .i32⟩
  | 5 => ⟨S32x8x4x128x512, .f32⟩
  | 6 => ⟨S_, .i32⟩
  | 7 => ⟨S_, .i32⟩
  | 8 => ⟨S8x32x128x4x512, .f32⟩
  | 9 => ⟨S8x4096x4x512, .f32⟩
  | 10 => ⟨S_, .f32⟩
  | 11 => ⟨S8x4096x4, .f32⟩
  | 12 => ⟨S8x4096x4x1, .f32⟩
  | 13 => ⟨S_, .f32⟩
  | 14 => ⟨S8x4096x4x1, .f32⟩
  | 15 => ⟨S8x4096x4x1, .f32⟩
  | 16 => ⟨S8x4096x4x512, .f32⟩
  | 17 => ⟨S8x4096x4x512, .f32⟩
  | 18 => ⟨S8x4096x4x512, .f32⟩
  | 19 => ⟨S_, .f32⟩
  | 20 => ⟨S8x4096x4, .f32⟩
  | 21 => ⟨S8x4096x4x1, .f32⟩
  | 22 => ⟨S_, .f32⟩
  | 23 => ⟨S8x4096x4x1, .f32⟩
  | 24 => ⟨S8x4096x4x1, .f32⟩
  | 25 => ⟨S8x4096x4x512, .f32⟩
  | 26 => ⟨S8x4096x4x512, .f32⟩
  | 27 => ⟨S_, .f32⟩
  | 28 => ⟨S8x4096x4x1, .f32⟩
  | 29 => ⟨S8x4096x4x1, .f32⟩
  | 30 => ⟨S8x4096x4x1, .f32⟩
  | 31 => ⟨S8x4096x4x512, .f32⟩
  | 32 => ⟨S8x4096x4x512, .f32⟩
  | 33 => ⟨S8x4096x2048, .f32⟩
  | 34 => ⟨S1x1x2048, .f32⟩
  | 35 => ⟨S8x4096x2048, .f32⟩
  | 36 => ⟨S8x4096x2048, .f32⟩
  | 37 => ⟨S8x4096x2048, .f32⟩
  | 38 => ⟨S8x4096x2048, .f32⟩
  | 39 => ⟨S8x4096x2048, .f32⟩
  | 40 => ⟨S_, .f32⟩
  | 41 => ⟨S8x4096x2048, .f32⟩
  | 42 => ⟨S8x4096x2048, .f32⟩
  | 43 => ⟨S_, .f32⟩
  | 44 => ⟨S8x4096x2048, .f32⟩
  | 45 => ⟨S8x4096x2048, .f32⟩
  | 46 => ⟨S8x4096x2048, .f32⟩
  | 47 => ⟨S8x4096x2048, .f32⟩
  | 48 => ⟨S8x4096x2048, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_c : Ref sig .tc := ⟨.hbm, 79, rfl⟩
abbrev main_v61_0 : Ref sig .tc := ⟨.hbm, 80, rfl⟩
abbrev main_v61_1 : Ref sig .tc := ⟨.hbm, 81, rfl⟩
abbrev main_v61_2 : Ref sig .tc := ⟨.hbm, 82, rfl⟩
abbrev main_v61_3 : Ref sig .tc := ⟨.hbm, 83, rfl⟩
abbrev main_v61_4 : Ref sig .tc := ⟨.hbm, 84, rfl⟩
abbrev main_v61_5 : Ref sig .tc := ⟨.hbm, 85, rfl⟩
abbrev main_v61_6 : Ref sig .tc := ⟨.hbm, 86, rfl⟩
abbrev main_v61_7 : Ref sig .tc := ⟨.hbm, 87, rfl⟩
abbrev main_v61_8 : Ref sig .tc := ⟨.hbm, 88, rfl⟩
abbrev main_v61_9 : Ref sig .tc := ⟨.hbm, 89, rfl⟩
abbrev main_while0c_c_23 : Ref sig .tc := ⟨.hbm, 90, rfl⟩
abbrev main_while0c_v90 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_v0 : Ref sig .tc := ⟨.hbm, 96, rfl⟩
abbrev main_while0b_v90 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_call2_v0 : Ref sig .tc := ⟨.hbm, 102, rfl⟩
abbrev main_while0b_v91 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_call3_c_2 : Ref sig .tc := ⟨.hbm, 107, rfl⟩
abbrev main_while0b_call3_v0 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_v95 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_v101 : Ref sig .tc := ⟨.hbm, 118, rfl⟩
abbrev main_while0b_v102 : Ref sig .tc := ⟨.hbm, 119, rfl⟩
abbrev main_while0b_v103 : Ref sig .tc := ⟨.hbm, 120, rfl⟩
abbrev main_while0b_v104 : Ref sig .tc := ⟨.hbm, 121, rfl⟩
abbrev main_while0b_v105 : Ref sig .tc := ⟨.hbm, 122, rfl⟩
abbrev main_while0b_v106 : Ref sig .tc := ⟨.hbm, 123, rfl⟩
abbrev main_while0b_v107 : Ref sig .tc := ⟨.hbm, 124, rfl⟩
abbrev main_while0b_v108 : Ref sig .tc := ⟨.hbm, 125, rfl⟩
abbrev main_while0b_v109 : Ref sig .tc := ⟨.hbm, 126, rfl⟩
abbrev main_while0b_v110 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v111 : Ref sig .tc := ⟨.hbm, 133, rfl⟩
abbrev main_while0b_c_23 : Ref sig .tc := ⟨.hbm, 134, rfl⟩
abbrev main_while0b_v112 : Ref sig .tc := ⟨.hbm, 135, rfl⟩
abbrev main_v62 : Ref sig .tc := ⟨.hbm, 136, rfl⟩
abbrev main_v63 : Ref sig .tc := ⟨.hbm, 137, rfl⟩
abbrev main_cst_9 : Ref sig .tc := ⟨.hbm, 138, rfl⟩
abbrev main_v64 : Ref sig .tc := ⟨.hbm, 139, rfl⟩
abbrev main_v65 : Ref sig .tc := ⟨.hbm, 140, rfl⟩
abbrev main_cst_10 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_cst_11 : Ref sig .tc := ⟨.hbm, 147, rfl⟩
abbrev main_v71 : Ref sig .tc := ⟨.hbm, 148, rfl⟩
abbrev main_v72 : Ref sig .tc := ⟨.hbm, 149, rfl⟩
abbrev main_cst_12 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_13 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_call5_v0 : Ref sig .tc := ⟨.hbm, 166, rfl⟩
abbrev main_call5_v1 : Ref sig .tc := ⟨.hbm, 167, rfl⟩
abbrev main_call5_cst : Ref sig .tc := ⟨.hbm, 168, rfl⟩
abbrev main_call5_v2 : Ref sig .tc := ⟨.hbm, 169, rfl⟩
abbrev main_call5_v3 : Ref sig .tc := ⟨.hbm, 170, rfl⟩
abbrev main_call5_cst_0 : Ref sig .tc := ⟨.hbm, 171, rfl⟩
abbrev main_call5_v4 : Ref sig .tc := ⟨.hbm, 172, rfl⟩
abbrev main_call5_v5 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩

abbrev nD : Nat := 1
abbrev τ : Topo := Topo.v7x

variable {F : FTy → Type} [FloatOps F]

abbrev main_while0_count : Scf.Loop 32 := ⟨0#32, 32#32, 1#32⟩
-- ==== First.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FirstReferenceIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Final.lean ====
abbrev S32768x1024 : Shape := ⟨2, ![32768, 1024]⟩
abbrev S32768x2048 : Shape := ⟨2, ![32768, 2048]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S2048x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalReferenceIdeal.lean ====
abbrev S32768x1024 : Shape := ⟨2, ![32768, 1024]⟩
abbrev S32768x2048 : Shape := ⟨2, ![32768, 2048]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x2048, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Project.lean ====
abbrev S32768x1024 : Shape := ⟨2, ![32768, 1024]⟩
abbrev S32768x1 : Shape := ⟨2, ![32768, 1]⟩
abbrev S1024 : Shape := ⟨1, ![1024]⟩
abbrev S1024x6144 : Shape := ⟨2, ![1024, 6144]⟩
abbrev S1024x1024 : Shape := ⟨2, ![1024, 1024]⟩
abbrev S1024x2048 : Shape := ⟨2, ![1024, 2048]⟩
abbrev S128 : Shape := ⟨1, ![128]⟩
abbrev S_ : Shape := ⟨0, ![]⟩
abbrev S1x128 : Shape := ⟨2, ![1, 128]⟩
abbrev S1x1024 : Shape := ⟨2, ![1, 1024]⟩
abbrev S32768x2048 : Shape := ⟨2, ![32768, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S512x128 : Shape := ⟨2, ![512, 128]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩

abbrev nBuf : Space → Nat
  | .hbm => 26
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x6144, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S1x1024, .f32⟩
  | .hbm, ⟨22, _⟩ => ⟨S32768x1024, .bf16⟩
  | .hbm, ⟨23, _⟩ => ⟨S32768x1024, .bf16⟩
  | .hbm, ⟨24, _⟩ => ⟨S32768x2048, .bf16⟩
  | .hbm, ⟨25, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectReferenceIdeal.lean ====
abbrev S32768x1024 : Shape := ⟨2, ![32768, 1024]⟩
abbrev S32768x1 : Shape := ⟨2, ![32768, 1]⟩
abbrev S1024 : Shape := ⟨1, ![1024]⟩
abbrev S1024x6144 : Shape := ⟨2, ![1024, 6144]⟩
abbrev S_ : Shape := ⟨0, ![]⟩
abbrev S32768 : Shape := ⟨1, ![32768]⟩
abbrev S1x1024 : Shape := ⟨2, ![1, 1024]⟩
abbrev S32768x6144 : Shape := ⟨2, ![32768, 6144]⟩
abbrev S32768x2048 : Shape := ⟨2, ![32768, 2048]⟩
abbrev S32768x4x256 : Shape := ⟨3, ![32768, 4, 256]⟩
abbrev S128 : Shape := ⟨1, ![128]⟩
abbrev S1x128 : Shape := ⟨2, ![1, 128]⟩
abbrev S32768x128 : Shape := ⟨2, ![32768, 128]⟩
abbrev S32768x1x128 : Shape := ⟨3, ![32768, 1, 128]⟩
abbrev S32768x4x128 : Shape := ⟨3, ![32768, 4, 128]⟩
abbrev S32768x4x0 : Shape := ⟨3, ![32768, 4, 0]⟩

abbrev nBuf : Space → Nat
  | .hbm => 104
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x6144, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x6144, .f32⟩
  | .hbm, ⟨21, _⟩ => ⟨S32768x1024, .f32⟩
  | .hbm, ⟨22, _⟩ => ⟨S32768x1024, .f32⟩
  | .hbm, ⟨23, _⟩ => ⟨S32768x2048, .f32⟩
  | .hbm, ⟨24, _⟩ => ⟨S32768x2048, .f32⟩
  | .hbm, ⟨25, _⟩ => ⟨S32768x4x256, .f32⟩
  | .hbm, ⟨26, _⟩ => ⟨S32768, .i32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S32768, .f32⟩
  | .hbm, ⟨36, _⟩ => ⟨S32768x1, .f32⟩
  | .hbm, ⟨37, _⟩ => ⟨S1x128, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S32768x128, .f32⟩
  | .hbm, ⟨42, _⟩ => ⟨S32768x1x128, .f32⟩
  | .hbm, ⟨43, _⟩ => ⟨S32768x128, .f32⟩
  | .hbm, ⟨44, _⟩ => ⟨S32768x1x128, .f32⟩
  | .hbm, ⟨45, _⟩ => ⟨S32768x4x128, .f32⟩
  | .hbm, ⟨46, _⟩ => ⟨S32768x4x128, .f32⟩
  | .hbm, ⟨47, _⟩ => ⟨S32768x4x128, .f32⟩
  | .hbm, ⟨48, _⟩ => ⟨S32768x4x128, .f32⟩
  | .hbm, ⟨49, _⟩ => ⟨S32768x4x128, .f32⟩
  | .hbm, ⟨50, _⟩ => ⟨S32768x4x128, .f32⟩
  | .hbm, ⟨51, _⟩ => ⟨S32768x4x128, .f32⟩
  | .hbm, ⟨52, _⟩ => ⟨S32768x4x128, .f32⟩
  | .hbm, ⟨53, _⟩ => ⟨S32768x4x128, .f32⟩
  | .hbm, ⟨54, _⟩ => ⟨S32768x4x128, .f32⟩
  | .hbm, ⟨55, _⟩ => ⟨S32768x4x128, .f32⟩
  | .hbm, ⟨56, _⟩ => ⟨S32768x4x128, .f32⟩
  | .hbm, ⟨57, _⟩ => ⟨S32768x4x256, .f32⟩
  | .hbm, ⟨58, _⟩ => ⟨S32768x4x0, .f32⟩
  | .hbm, ⟨59, _⟩ => ⟨S32768x4x256, .f32⟩
  | .hbm, ⟨60, _⟩ => ⟨S32768x4x256, .f32⟩
  | .hbm, ⟨61, _⟩ => ⟨S32768, .i32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S32768, .f32⟩
  | .hbm, ⟨71, _⟩ => ⟨S32768x1, .f32⟩
  | .hbm, ⟨72, _⟩ => ⟨S1x128, .f32⟩
  | .hbm, ⟨73, _⟩ => ⟨S32768x128, .f32⟩
  | .hbm, ⟨74, _⟩ => ⟨S32768x128, .f32⟩
  | .hbm, ⟨75, _⟩ => ⟨S32768x128, .f32⟩
  | .hbm, ⟨76, _⟩ => ⟨S32768x128, .f32⟩
  | .hbm, ⟨77, _⟩ => ⟨S32768x1x128, .f32⟩
  | .hbm, ⟨78, _⟩ => ⟨S32768x128, .f32⟩
  | .hbm, ⟨79, _⟩ => ⟨S32768x1x128, .f32⟩
  | .hbm, ⟨80, _⟩ => ⟨S32768x4x128, .f32⟩
  | .hbm, ⟨81, _⟩ => ⟨S32768x4x128, .f32⟩
  | .hbm, ⟨82, _⟩ => ⟨S32768x4x128, .f32⟩
  | .hbm, ⟨83, _⟩ => ⟨S32768x4x128, .f32⟩
  | .hbm, ⟨84, _⟩ => ⟨S32768x4x128, .f32⟩
  | .hbm, ⟨85, _⟩ => ⟨S32768x4x128, .f32⟩
  | .hbm, ⟨86, _⟩ => ⟨S32768x4x128, .f32⟩
  | .hbm, ⟨87, _⟩ => ⟨S32768x4x128, .f32⟩
  | .hbm, ⟨88, _⟩ => ⟨S32768x4x128, .f32⟩
  | .hbm, ⟨89, _⟩ => ⟨S32768x4x128, .f32⟩
  | .hbm, ⟨90, _⟩ => ⟨S32768x4x128, .f32⟩
  | .hbm, ⟨91, _⟩ => ⟨S32768x4x128, .f32⟩
  | .hbm, ⟨92, _⟩ => ⟨S32768x4x256, .f32⟩
  | .hbm, ⟨93, _⟩ => ⟨S32768x4x0, .f32⟩
  | .hbm, ⟨94, _⟩ => ⟨S32768x4x256, .f32⟩
  | .hbm, ⟨95, _⟩ => ⟨S_, .f32⟩
  | .hbm, ⟨96, _⟩ => ⟨S32768x4x256, .f32⟩
  | .hbm, ⟨97, _⟩ => ⟨S32768x4x256, .f32⟩
  | .hbm, ⟨98, _⟩ => ⟨S32768x1024, .f32⟩
  | .hbm, ⟨99, _⟩ => ⟨S32768x1024, .bf16⟩
  | .hbm, ⟨100, _⟩ => ⟨S32768x1024, .f32⟩
  | .hbm, ⟨101, _⟩ => ⟨S32768x1024, .bf16⟩
  | .hbm, ⟨102, _⟩ => ⟨S32768x2048, .bf16⟩
  | .hbm, ⟨103, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_6 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩

abbrev nD : Nat := 1
abbrev τ : Topo := Topo.v7x

variable {F : FTy → Type} [FloatOps F]
-- ==== Attend.lean ====
abbrev S32768x1024 : Shape := ⟨2, ![32768, 1024]⟩
abbrev S32768x1 : Shape := ⟨2, ![32768, 1]⟩
abbrev S1024 : Shape := ⟨1, ![1024]⟩
abbrev S1024x1864 : Shape := ⟨2, ![1024, 1864]⟩
abbrev S1024x1024 : Shape := ⟨2, ![1024, 1024]⟩
abbrev S1024x8x128 : Shape := ⟨3, ![1024, 8, 128]⟩
abbrev S1024x8x16 : Shape := ⟨3, ![1024, 8, 16]⟩
abbrev S1024x8x48 : Shape := ⟨3, ![1024, 8, 48]⟩
abbrev S1024x128 : Shape := ⟨2, ![1024, 128]⟩
abbrev S1024x16 : Shape := ⟨2, ![1024, 16]⟩
abbrev S1024x48 : Shape := ⟨2, ![1024, 48]⟩
abbrev S1024x256 : Shape := ⟨2, ![1024, 256]⟩
abbrev S1024x512 : Shape := ⟨2, ![1024, 512]⟩
abbrev S1024x4x2x64 : Shape := ⟨4, ![1024, 4, 2, 64]⟩
abbrev S1024x4x1x64 : Shape := ⟨4, ![1024, 4, 1, 64]⟩
abbrev S1024x4x64 : Shape := ⟨3, ![1024, 4, 64]⟩
abbrev S1024x4x8 : Shape := ⟨3, ![1024, 4, 8]⟩
abbrev S1024x4x48 : Shape := ⟨3, ![1024, 4, 48]⟩
abbrev S1024x4x128 : Shape := ⟨3, ![1024, 4, 128]⟩
abbrev S1024x64 : Shape := ⟨2, ![1024, 64]⟩
abbrev S_ : Shape := ⟨0, ![]⟩
abbrev S1024x8 : Shape := ⟨2, ![1024, 8]⟩
abbrev S16 : Shape := ⟨1, ![16]⟩
abbrev S8 : Shape := ⟨1, ![8]⟩
abbrev S32 : Shape := ⟨1, ![32]⟩
abbrev S64 : Shape := ⟨1, ![64]⟩
abbrev S128 : Shape := ⟨1, ![128]⟩
abbrev S1x128 : Shape := ⟨2, ![1, 128]⟩
abbrev S48 : Shape := ⟨1, ![48]⟩
abbrev S1x1024 : Shape := ⟨2, ![1, 1024]⟩
abbrev S8x8x4096x128 : Shape := ⟨4, ![8, 8, 4096, 128]⟩
abbrev S32768x128 : Shape := ⟨2, ![32768, 128]⟩
abbrev S8x8x4096 : Shape := ⟨3, ![8, 8, 4096]⟩
abbrev S8x128x4096 : Shape := ⟨3, ![8, 128, 4096]⟩
abbrev S32768x512 : Shape := ⟨2, ![32768, 512]⟩
abbrev S512x1024 : Shape := ⟨2, ![512, 1024]⟩
abbrev S512x1 : Shape := ⟨2, ![512, 1]⟩
abbrev S1x8x512x128 : Shape := ⟨4, ![1, 8, 512, 128]⟩
abbrev S512x128 : Shape := ⟨2, ![512, 128]⟩
abbrev S1x8x512 : Shape := ⟨3, ![1, 8, 512]⟩
abbrev S1x128x512 : Shape := ⟨3, ![1, 128, 512]⟩
abbrev S512x512 : Shape := ⟨2, ![512, 512]⟩
abbrev S512 : Shape := ⟨1, ![512]⟩
abbrev S512x256 : Shape := ⟨2, ![512, 256]⟩
abbrev S1x1x512x128 : Shape := ⟨4, ![1, 1, 512, 128]⟩
abbrev S8x128 : Shape := ⟨2, ![8, 128]⟩
abbrev S8x512 : Shape := ⟨2, ![8, 512]⟩
abbrev S128x512 : Shape := ⟨2, ![128, 512]⟩

abbrev nBuf : Space → Nat
  | .hbm => 110
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x1864, .f32⟩
  | .hbm, ⟨4, _⟩ => ⟨S1024x1024, .f32⟩
  | .hbm, ⟨5, _⟩ => ⟨S1024x8x128, .f32⟩
  | .hbm, ⟨6, _⟩ => ⟨S1024x8x16, .f32⟩
  | .hbm, ⟨7, _⟩ => ⟨S1024x8x48, .f32⟩
  | .hbm, ⟨8, _⟩ => ⟨S1024x8x16, .f32⟩
  | .hbm, ⟨9, _⟩ => ⟨S1024x8x48, .f32⟩
  | .hbm, ⟨10, _⟩ => ⟨S1024x8x128, .f32⟩
  | .hbm, ⟨11, _⟩ => ⟨S1024x1024, .f32⟩
  | .hbm, ⟨12, _⟩ => ⟨S1024x1024, .bf16⟩
  | .hbm, ⟨13, _⟩ => ⟨S1024x128, .f32⟩
  | .hbm, ⟨14, _⟩ => ⟨S1024x16, .f32⟩
  | .hbm, ⟨15, _⟩ => ⟨S1024x48, .f32⟩
  | .hbm, ⟨16, _⟩ => ⟨S1024x16, .f32⟩
  | .hbm, ⟨17, _⟩ => ⟨S1024x48, .f32⟩
  | .hbm, ⟨18, _⟩ => ⟨S1024x128, .f32⟩
  | .hbm, ⟨19, _⟩ => ⟨S1024x128, .f32⟩
  | .hbm, ⟨20, _⟩ => ⟨S1024x256, .f32⟩
  | .hbm, ⟨21, _⟩ => ⟨S1024x256, .bf16⟩
  | .hbm, ⟨22, _⟩ => ⟨S1024x512, .f32⟩
  | .hbm, ⟨23, _⟩ => ⟨S1024x4x2x64, .f32⟩
  | .hbm, ⟨24, _⟩ => ⟨S1024x4x1x64, .f32⟩
  | .hbm, ⟨25, _⟩ => ⟨S1024x4x64, .f32⟩
  | .hbm, ⟨26, _⟩ => ⟨S1024x4x1x64, .f32⟩
  | .hbm, ⟨27, _⟩ => ⟨S1024x4x64, .f32⟩
  | .hbm, ⟨28, _⟩ => ⟨S1024x4x8, .f32⟩
  | .hbm, ⟨29, _⟩ => ⟨S1024x4x8, .f32⟩
  | .hbm, ⟨30, _⟩ => ⟨S1024x4x48, .f32⟩
  | .hbm, ⟨31, _⟩ => ⟨S1024x4x8, .f32⟩
  | .hbm, ⟨32, _⟩ => ⟨S1024x4x8, .f32⟩
  | .hbm, ⟨33, _⟩ => ⟨S1024x4x48, .f32⟩
  | .hbm, ⟨34, _⟩ => ⟨S1024x4x128, .f32⟩
  | .hbm, ⟨35, _⟩ => ⟨S1024x512, .f32⟩
  | .hbm, ⟨36, _⟩ => ⟨S1024x512, .bf16⟩
  | .hbm, ⟨37, _⟩ => ⟨S1024x64, .f32⟩
  | .hbm, ⟨38, _⟩ => ⟨S_, .f32⟩
  | .hbm, ⟨39, _⟩ => ⟨S1024x64, .f32⟩
  | .hbm, ⟨40, _⟩ => ⟨S1024x8, .f32⟩
  | .hbm, ⟨41, _⟩ => ⟨S1024x8, .f32⟩
  | .hbm, ⟨42, _⟩ => ⟨S1024x48, .f32⟩
  | .hbm, ⟨43, _⟩ => ⟨S1024x8, .f32⟩
  | .hbm, ⟨44, _⟩ => ⟨S1024x8, .f32⟩
  | .hbm, ⟨45, _⟩ => ⟨S1024x48, .f32⟩
  | .hbm, ⟨46, _⟩ => ⟨S1024x128, .f32⟩
  | .hbm, ⟨47, _⟩ => ⟨S1024x8, .f32⟩
  | .hbm, ⟨48, _⟩ => ⟨S1024x8, .f32⟩
  | .hbm, ⟨49, _⟩ => ⟨S1024x48, .f32⟩
  | .hbm, ⟨50, _⟩ => ⟨S1024x8, .f32⟩
  | .hbm, ⟨51, _⟩ => ⟨S1024x8, .f32⟩
  | .hbm, ⟨52, _⟩ => ⟨S1024x48, .f32⟩
  | .hbm, ⟨53, _⟩ => ⟨S1024x128, .f32⟩
  | .hbm, ⟨54, _⟩ => ⟨S1024x256, .f32⟩
  | .hbm, ⟨55, _⟩ => ⟨S1024x256, .bf16⟩
  | .hbm, ⟨56, _⟩ => ⟨S1024x8, .f32⟩
  | .hbm, ⟨57, _⟩ => ⟨S_, .i32⟩
  | .hbm, ⟨58, _⟩ => ⟨S_, .f32⟩
  | .hbm, ⟨59, _⟩ => ⟨S1024x128, .f32⟩
  | .hbm, ⟨60, _⟩ => ⟨S1024x128, .bf16⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S_, .f32⟩
  | .hbm, ⟨86, _⟩ => ⟨S32, .f32⟩
  | .hbm, ⟨87, _⟩ => ⟨S64, .f32⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S48, .f32⟩
  | .hbm, ⟨95, _⟩ => ⟨S_, .f32⟩
  | .hbm, ⟨96, _⟩ => ⟨S16, .f32⟩
  | .hbm, ⟨97, _⟩ => ⟨S_, .f32⟩
  | .hbm, ⟨98, _⟩ => ⟨S48, .f32⟩
  | .hbm, ⟨99, _⟩ => ⟨S128, .f32⟩
  | .hbm, ⟨100, _⟩ => ⟨S1x128, .f32⟩
  | .hbm, ⟨101, _⟩ => ⟨S1x1024, .f32⟩
  | .hbm, ⟨102, _⟩ => ⟨S8x8x4096x128, .bf16⟩
  | .hbm, ⟨103, _⟩ => ⟨S32768x128, .bf16⟩
  | .hbm, ⟨104, _⟩ => ⟨S8x8x4096, .f32⟩
  | .hbm, ⟨105, _⟩ => ⟨S8x128x4096, .bf16⟩
  | .hbm, ⟨106, _⟩ => ⟨S32768x512, .bf16⟩
  | .hbm, ⟨107, _⟩ => ⟨S32768x128, .bf16⟩
  | .hbm, ⟨108, _⟩ => ⟨S32768x128, .bf16⟩
  | .hbm, ⟨109, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x1024, .bf16⟩
  | .local _ .vmem, ⟨6, _⟩ => ⟨S1024x256, .bf16⟩
  | .local _ .vmem, ⟨7, _⟩ => ⟨S1024x512, .bf16⟩
  | .local _ .vmem, ⟨8, _⟩ => ⟨S1024x256, .bf16⟩
  | .local _ .vmem, ⟨9, _⟩ => ⟨S1024x128, .bf16⟩
  | .local _ .vmem, ⟨10, _⟩ => ⟨S1x128, .f32⟩
  | .local _ .vmem, ⟨11, _⟩ => ⟨S1x128, .f32⟩
  | .local _ .vmem, ⟨12, _⟩ => ⟨S1x8x512x128, .bf16⟩
  | .local _ .vmem, ⟨13, _⟩ => ⟨S1x8x512x128, .bf16⟩
  | .local _ .vmem, ⟨14, _⟩ => ⟨S512x128, .bf16⟩
  | .local _ .vmem, ⟨15, _⟩ => ⟨S512x128, .bf16⟩
  | .local _ .vmem, ⟨16, _⟩ => ⟨S1x8x512, .f32⟩
  | .local _ .vmem, ⟨17, _⟩ => ⟨S1x8x512, .f32⟩
  | .local _ .vmem, ⟨18, _⟩ => ⟨S1x128x512, .bf16⟩
  | .local _ .vmem, ⟨19, _⟩ => ⟨S1x128x512, .bf16⟩
  | .local _ .vmem, ⟨20, _⟩ => ⟨S512x512, .bf16⟩
  | .local _ .vmem, ⟨21, _⟩ => ⟨S512x512, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .f32⟩
  | .local _ .vmem, ⟨27, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_c : Ref sig .tc := ⟨.hbm, 57, rfl⟩
abbrev main_call0_v0 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_0 : Ref sig .tc := ⟨.hbm, 63, rfl⟩
abbrev main_v56 : Ref sig .tc := ⟨.hbm, 64, rfl⟩
abbrev main_v57 : Ref sig .tc := ⟨.hbm, 65, rfl⟩
abbrev main_cst_1 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_2 : Ref sig .tc := ⟨.hbm, 71, rfl⟩
abbrev main_v62 : Ref sig .tc := ⟨.hbm, 72, rfl⟩
abbrev main_v63 : Ref sig .tc := ⟨.hbm, 73, rfl⟩
abbrev main_cst_3 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84_0 : Ref sig .tc := ⟨.hbm, 102, rfl⟩
abbrev main_v84_1 : Ref sig .tc := ⟨.hbm, 103, rfl⟩
abbrev main_v84_2 : Ref sig .tc := ⟨.hbm, 104, rfl⟩
abbrev main_v84_3 : Ref sig .tc := ⟨.hbm, 105, rfl⟩
abbrev main_v84_4 : Ref sig .tc := ⟨.hbm, 106, rfl⟩
abbrev main_v84_5 : Ref sig .tc := ⟨.hbm, 107, rfl⟩
abbrev main_v84_6 : Ref sig .tc := ⟨.hbm, 108, rfl⟩
abbrev main_v84_7 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AttendReferenceIdeal.lean ====
abbrev S32768x1024 : Shape := ⟨2, ![32768, 1024]⟩
abbrev S32768x1 : Shape := ⟨2, ![32768, 1]⟩
abbrev S1024 : Shape := ⟨1, ![1024]⟩
abbrev S1024x1864 : Shape := ⟨2, ![1024, 1864]⟩
abbrev S_ : Shape := ⟨0, ![]⟩
abbrev S32768 : Shape := ⟨1, ![32768]⟩
abbrev S1x1024 : Shape := ⟨2, ![1, 1024]⟩
abbrev S32768x1864 : Shape := ⟨2, ![32768, 1864]⟩
abbrev S32768x128 : Shape := ⟨2, ![32768, 128]⟩
abbrev S32768x512 : Shape := ⟨2, ![32768, 512]⟩
abbrev S32768x64 : Shape := ⟨2, ![32768, 64]⟩
abbrev S32768x8 : Shape := ⟨2, ![32768, 8]⟩
abbrev S32768x8x128 : Shape := ⟨3, ![32768, 8, 128]⟩
abbrev S16 : Shape := ⟨1, ![16]⟩
abbrev S1x16 : Shape := ⟨2, ![1, 16]⟩
abbrev S32768x16 : Shape := ⟨2, ![32768, 16]⟩
abbrev S32768x1x16 : Shape := ⟨3, ![32768, 1, 16]⟩
abbrev S32768x8x16 : Shape := ⟨3, ![32768, 8, 16]⟩
abbrev S32768x8x32 : Shape := ⟨3, ![32768, 8, 32]⟩
abbrev S32768x8x96 : Shape := ⟨3, ![32768, 8, 96]⟩
abbrev S32768x1x128 : Shape := ⟨3, ![32768, 1, 128]⟩
abbrev S32768x1x32 : Shape := ⟨3, ![32768, 1, 32]⟩
abbrev S32768x1x96 : Shape := ⟨3, ![32768, 1, 96]⟩
abbrev S32768x8x64 : Shape := ⟨3, ![32768, 8, 64]⟩
abbrev S8 : Shape := ⟨1, ![8]⟩
abbrev S1x8 : Shape := ⟨2, ![1, 8]⟩
abbrev S32768x1x8 : Shape := ⟨3, ![32768, 1, 8]⟩
abbrev S32768x8x8 : Shape := ⟨3, ![32768, 8, 8]⟩
abbrev S32768x8x48 : Shape := ⟨3, ![32768, 8, 48]⟩
abbrev S32768x1x64 : Shape := ⟨3, ![32768, 1, 64]⟩
abbrev S32768x1x48 : Shape := ⟨3, ![32768, 1, 48]⟩
abbrev S32768x48 : Shape := ⟨2, ![32768, 48]⟩
abbrev S32768x4x2x64 : Shape := ⟨4, ![32768, 4, 2, 64]⟩
abbrev S8x1x4096 : Shape := ⟨3, ![8, 1, 4096]⟩
abbrev S8x4096x8x128 : Shape := ⟨4, ![8, 4096, 8, 128]⟩
abbrev S8x8x4096x128 : Shape := ⟨4, ![8, 8, 4096, 128]⟩
abbrev S8x8x4096 : Shape := ⟨3, ![8, 8, 4096]⟩
abbrev S8x4096x128 : Shape := ⟨3, ![8, 4096, 128]⟩
abbrev S8x128x4096 : Shape := ⟨3, ![8, 128, 4096]⟩
abbrev S32768x4x1x64 : Shape := ⟨4, ![32768, 4, 1, 64]⟩
abbrev S32768x4x64 : Shape := ⟨3, ![32768, 4, 64]⟩
abbrev S32768x4x8 : Shape := ⟨3, ![32768, 4, 8]⟩
abbrev S32768x4x48 : Shape := ⟨3, ![32768, 4, 48]⟩
abbrev S32768x4x128 : Shape := ⟨3, ![32768, 4, 128]⟩

abbrev nBuf : Space → Nat
  | .hbm => 223
  | .vmem => 0
  | .smem => 0
  | _ => 0

abbrev hbmTy0_0 (i : Nat) : BufTy := match i % 128 with
  | 0 => ⟨S32768x1024, .f32⟩
  | 1 => ⟨S32768x1, .i32⟩
  | 2 => ⟨S1024, .f32⟩
  | 3 => ⟨S1024x1864, .f32⟩
  | 4 => ⟨S32768x1024, .f32⟩
  | 5 => ⟨S_, .f32⟩
  | 6 => ⟨S32768, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1024, .f32⟩
  | 16 => ⟨S32768x1024, .f32⟩
  | 17 => ⟨S1x1024, .f32⟩
  | 18 => ⟨S32768x1024, .f32⟩
  | 19 => ⟨S32768x1024, .f32⟩
  | 20 => ⟨S32768x1864, .f32⟩
  | 21 => ⟨S32768x1024, .f32⟩
  | 22 => ⟨S32768x128, .f32⟩
  | 23 => ⟨S32768x128, .f32⟩
  | 24 => ⟨S32768x512, .f32⟩
  | 25 => ⟨S32768x64, .f32⟩
  | 26 => ⟨S32768x8, .f32⟩
  | 27 => ⟨S32768, .i32⟩
  | 28 => ⟨S32768x8x128, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S32768, .f32⟩
  | 38 => ⟨S32768x1, .f32⟩
  | 39 => ⟨S1x16, .f32⟩
  | 40 => ⟨S32768x16, .f32⟩
  | 41 => ⟨S32768x16, .f32⟩
  | 42 => ⟨S32768x16, .f32⟩
  | 43 => ⟨S32768x16, .f32⟩
  | 44 => ⟨S32768x1x16, .f32⟩
  | 45 => ⟨S32768x16, .f32⟩
  | 46 => ⟨S32768x1x16, .f32⟩
  | 47 => ⟨S32768x8x16, .f32⟩
  | 48 => ⟨S32768x8x16, .f32⟩
  | 49 => ⟨S32768x8x16, .f32⟩
  | 50 => ⟨S32768x8x16, .f32⟩
  | 51 => ⟨S32768x8x16, .f32⟩
  | 52 => ⟨S32768x8x16, .f32⟩
  | 53 => ⟨S32768x8x16, .f32⟩
  | 54 => ⟨S32768x8x16, .f32⟩
  | 55 => ⟨S32768x8x16, .f32⟩
  | 56 => ⟨S32768x8x16, .f32⟩
  | 57 => ⟨S32768x8x16, .f32⟩
  | 58 => ⟨S32768x8x16, .f32⟩
  | 59 => ⟨S32768x8x32, .f32⟩
  | 60 => ⟨S32768x8x96, .f32⟩
  | 61 => ⟨S32768x8x128, .f32⟩
  | 62 => ⟨S32768x1x128, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S32768, .f32⟩
  | 72 => ⟨S32768x1, .f32⟩
  | 73 => ⟨S1x16, .f32⟩
  | 74 => ⟨S32768x16, .f32⟩
  | 75 => ⟨S32768x16, .f32⟩
  | 76 => ⟨S32768x16, .f32⟩
  | 77 => ⟨S32768x16, .f32⟩
  | 78 => ⟨S32768x1x16, .f32⟩
  | 79 => ⟨S32768x16, .f32⟩
  | 80 => ⟨S32768x1x16, .f32⟩
  | 81 => ⟨S32768x1x16, .f32⟩
  | 82 => ⟨S32768x1x16, .f32⟩
  | 83 => ⟨S32768x1x16, .f32⟩
  | 84 => ⟨S32768x1x16, .f32⟩
  | 85 => ⟨S32768x1x16, .f32⟩
  | 86 => ⟨S32768x1x16, .f32⟩
  | 87 => ⟨S32768x1x16, .f32⟩
  | 88 => ⟨S32768x1x16, .f32⟩
  | 89 => ⟨S32768x1x32, .f32⟩
  | 90 => ⟨S32768x1x96, .f32⟩
  | 91 => ⟨S32768x1x128, .f32⟩
  | 92 => ⟨S32768x128, .f32⟩
  | 93 => ⟨S32768x8x64, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S32768, .f32⟩
  | 103 => ⟨S32768x1, .f32⟩
  | 104 => ⟨S1x8, .f32⟩
  | 105 => ⟨S32768x8, .f32⟩
  | 106 => ⟨S32768x8, .f32⟩
  | 107 => ⟨S32768x8, .f32⟩
  | 108 => ⟨S32768x8, .f32⟩
  | 109 => ⟨S32768x1x8, .f32⟩
  | 110 => ⟨S32768x8, .f32⟩
  | 111 => ⟨S32768x1x8, .f32⟩
  | 112 => ⟨S32768x8x8, .f32⟩
  | 113 => ⟨S32768x8x8, .f32⟩
  | 114 => ⟨S32768x8x8, .f32⟩
  | 115 => ⟨S32768x8x8, .f32⟩
  | 116 => ⟨S32768x8x8, .f32⟩
  | 117 => ⟨S32768x8x8, .f32⟩
  | 118 => ⟨S32768x8x8, .f32⟩
  | 119 => ⟨S32768x8x8, .f32⟩
  | 120 => ⟨S32768x8x8, .f32⟩
  | 121 => ⟨S32768x8x8, .f32⟩
  | 122 => ⟨S32768x8x8, .f32⟩
  | 123 => ⟨S32768x8x8, .f32⟩
  | 124 => ⟨S32768x8x16, .f32⟩
  | 125 => ⟨S32768x8x48, .f32⟩
  | 126 => ⟨S32768x8x64, .f32⟩
  | 127 => ⟨S32768x1x64, .f32⟩
  | _ => ⟨S32768x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S32768, .f32⟩
  | 9 => ⟨S32768x1, .f32⟩
  | 10 => ⟨S1x8, .f32⟩
  | 11 => ⟨S32768x8, .f32⟩
  | 12 => ⟨S32768x8, .f32⟩
  | 13 => ⟨S32768x8, .f32⟩
  | 14 => ⟨S32768x8, .f32⟩
  | 15 => ⟨S32768x1x8, .f32⟩
  | 16 => ⟨S32768x8, .f32⟩
  | 17 => ⟨S32768x1x8, .f32⟩
  | 18 => ⟨S32768x1x8, .f32⟩
  | 19 => ⟨S32768x1x8, .f32⟩
  | 20 => ⟨S32768x1x8, .f32⟩
  | 21 => ⟨S32768x1x8, .f32⟩
  | 22 => ⟨S32768x1x8, .f32⟩
  | 23 => ⟨S32768x1x8, .f32⟩
  | 24 => ⟨S32768x1x8, .f32⟩
  | 25 => ⟨S32768x1x8, .f32⟩
  | 26 => ⟨S32768x1x16, .f32⟩
  | 27 => ⟨S32768x1x48, .f32⟩
  | 28 => ⟨S32768x1x64, .f32⟩
  | 29 => ⟨S32768x64, .f32⟩
  | 30 => ⟨S_, .f32⟩
  | 31 => ⟨S32768x8, .f32⟩
  | 32 => ⟨S32768x8, .f32⟩
  | 33 => ⟨S32768x8x16, .f32⟩
  | 34 => ⟨S32768x8x48, .f32⟩
  | 35 => ⟨S32768x8x16, .f32⟩
  | 36 => ⟨S32768x8x48, .f32⟩
  | 37 => ⟨S32768x8x128, .f32⟩
  | 38 => ⟨S_, .f32⟩
  | 39 => ⟨S32768x8x128, .f32⟩
  | 40 => ⟨S32768x8x128, .f32⟩
  | 41 => ⟨S32768x16, .f32⟩
  | 42 => ⟨S32768x48, .f32⟩
  | 43 => ⟨S32768x16, .f32⟩
  | 44 => ⟨S32768x48, .f32⟩
  | 45 => ⟨S32768x128, .f32⟩
  | 46 => ⟨S32768x4x2x64, .f32⟩
  | 47 => ⟨S32768x128, .f32⟩
  | 48 => ⟨S_, .f32⟩
  | 49 => ⟨S32768, .f32⟩
  | 50 => ⟨S8x1x4096, .f32⟩
  | 51 => ⟨S8x4096x8x128, .f32⟩
  | 52 => ⟨S8x8x4096x128, .f32⟩
  | 53 => ⟨S8x8x4096x128, .bf16⟩
  | 54 => ⟨S32768x128, .bf16⟩
  | 55 => ⟨S8x8x4096, .f32⟩
  | 56 => ⟨S8x4096x128, .f32⟩
  | 57 => ⟨S8x128x4096, .f32⟩
  | 58 => ⟨S8x128x4096, .bf16⟩
  | 59 => ⟨S32768x4x1x64, .f32⟩
  | 60 => ⟨S32768x4x64, .f32⟩
  | 61 => ⟨S32768x4x1x64, .f32⟩
  | 62 => ⟨S32768x4x64, .f32⟩
  | 63 => ⟨S32768x4x8, .f32⟩
  | 64 => ⟨S32768x4x8, .f32⟩
  | 65 => ⟨S32768x4x48, .f32⟩
  | 66 => ⟨S32768x4x8, .f32⟩
  | 67 => ⟨S32768x4x8, .f32⟩
  | 68 => ⟨S32768x4x48, .f32⟩
  | 69 => ⟨S32768x4x128, .f32⟩
  | 70 => ⟨S32768x512, .f32⟩
  | 71 => ⟨S32768x512, .bf16⟩
  | 72 => ⟨S_, .f32⟩
  | 73 => ⟨S32768x64, .f32⟩
  | 74 => ⟨S32768x8, .f32⟩
  | 75 => ⟨S32768x8, .f32⟩
  | 76 => ⟨S32768x48, .f32⟩
  | 77 => ⟨S32768x8, .f32⟩
  | 78 => ⟨S32768x8, .f32⟩
  | 79 => ⟨S32768x48, .f32⟩
  | 80 => ⟨S32768x128, .f32⟩
  | 81 => ⟨S32768x128, .bf16⟩
  | 82 => ⟨S_, .f32⟩
  | 83 => ⟨S32768x64, .f32⟩
  | 84 => ⟨S32768x8, .f32⟩
  | 85 => ⟨S32768x8, .f32⟩
  | 86 => ⟨S32768x48, .f32⟩
  | 87 => ⟨S32768x8, .f32⟩
  | 88 => ⟨S32768x8, .f32⟩
  | 89 => ⟨S32768x48, .f32⟩
  | 90 => ⟨S32768x128, .f32⟩
  | 91 => ⟨S32768x128, .bf16⟩
  | 92 => ⟨S_, .i32⟩
  | 93 => ⟨S_, .f32⟩
  | 94 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_6 : Ref sig .tc := ⟨.hbm, 96, rfl⟩
abbrev main_v85 : Ref sig .tc := ⟨.hbm, 97, rfl⟩
abbrev main_v86 : Ref sig .tc := ⟨.hbm, 98, rfl⟩
abbrev main_cst_7 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_cst_8 : Ref sig .tc := ⟨.hbm, 130, rfl⟩
abbrev main_v117 : Ref sig .tc := ⟨.hbm, 131, rfl⟩
abbrev main_v118 : Ref sig .tc := ⟨.hbm, 132, rfl⟩
abbrev main_cst_9 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_cst_10 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_cst_11 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_cst_12 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_cst_13 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_cst_14 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_c : Ref sig .tc := ⟨.hbm, 220, rfl⟩
abbrev main_call0_v0 : Ref sig .tc := ⟨.hbm, 221, rfl⟩
abbrev main_v200 : Ref sig .tc := ⟨.hbm, 222, rfl⟩

abbrev nD : Nat := 1
abbrev τ : Topo := Topo.v7x

variable {F : FTy → Type} [FloatOps F]
-- ==== Proof.Decay.lean ====
/-
  THE MATHEMATICS OF RETENTION, over the real numbers.

  With a decay rate `exp g`, row `n` of the retention of queries `q`, keys `k` and one column `v` of the values is
  `∑ m ≤ n, exp ((n - m) g) (q n ⬝ k m) v m`. A chunked evaluation carries the state
  `∑ m < N, exp ((N - 1 - m) g) k m v m`. Here: one chunk of any length `C` carries the state from `N` to `N + C`, and the
  rows of the chunk are the rows of the retention, whatever `C` is. Then the same two equations on extended reals that are
  coercions of reals, which is the form both programs are read in.
-/
module

public import Idealize.ShloMosaic.PureOps.Ideal

@[expose] public section

noncomputable section

namespace Retention

/-- The decay over `n` steps at logarithmic rate `g`. -/
def decay (g : ℝ) (n : ℕ) : ℝ := Real.exp (n * g)

theorem decay_zero (g : ℝ) : decay g 0 = 1 := by simp [decay]

theorem decay_add (g : ℝ) (a b : ℕ) : decay g (a + b) = decay g a * decay g b := by
  unfold decay; rw [← Real.exp_add]; push_cast; ring_nf

/-- The state after `N` rows: one entry of it, for the key column `k` and the value column `v`. -/
def state (g : ℝ) (k v : ℕ → ℝ) (N : ℕ) : ℝ := ∑ m ∈ Finset.range N, decay g (N - 1 - m) * k m * v m

/-- Row `n` of the retention, for one value column `v`. -/
def row {D : ℕ} (g : ℝ) (q k : ℕ → Fin D → ℝ) (v : ℕ → ℝ) (n : ℕ) : ℝ :=
  ∑ m ∈ Finset.range (n + 1), decay g (n - m) * (∑ d, q n d * k m d) * v m

theorem state_zero (g : ℝ) (k v : ℕ → ℝ) : state g k v 0 = 0 := by simp [state]

/-- A chunk of `C` rows carries the state from `N` to `N + C`. -/
theorem state_add (g : ℝ) (k v : ℕ → ℝ) (N C : ℕ) :
    state g k v (N + C)
      = decay g C * state g k v N + ∑ m : Fin C, (k (N + m.val) * decay g (C - 1 - m.val)) * v (N + m.val) := by
  unfold state
  rw [Finset.sum_range_add, Finset.mul_sum]
  congr 1
  · refine Finset.sum_congr rfl fun m hm => ?_
    have hm := Finset.mem_range.mp hm
    rw [show N + C - 1 - m = C + (N - 1 - m) by omega, decay_add]; ring
  · rw [← Fin.sum_univ_eq_sum_range (fun m => decay g (N + C - 1 - (N + m)) * k (N + m) * v (N + m))]
    refine Finset.sum_congr rfl fun m _ => ?_
    rw [show N + C - 1 - (N + m.val) = C - 1 - m.val by omega]; ring

/-- Row `n` of a chunk that starts at `N`: the rows of the chunk up to it, and the carried state. -/
theorem row_add {D : ℕ} (g : ℝ) (q k : ℕ → Fin D → ℝ) (v : ℕ → ℝ) (N C : ℕ) (n : Fin C) :
    row g q k v (N + n.val)
      = (∑ m : Fin C, ((∑ d, q (N + n.val) d * k (N + m.val) d) * (if m.val ≤ n.val then decay g (n.val - m.val) else 0))
            * v (N + m.val))
        + ∑ d, (q (N + n.val) d * decay g (n.val + 1)) * state g (fun m => k m d) v N := by
  unfold row
  rw [show N + n.val + 1 = N + (n.val + 1) by omega, Finset.sum_range_add, add_comm]
  congr 1
  · have hC : C = (n.val + 1) + (C - (n.val + 1)) := by have := n.isLt; omega
    rw [Fin.sum_univ_eq_sum_range (fun m => ((∑ d, q (N + n.val) d * k (N + m) d) * (if m ≤ n.val then decay g (n.val - m) else 0))
            * v (N + m)) C]
    have hs : ∀ f : ℕ → ℝ, (∀ m, n.val < m → f m = 0) →
        ∑ m ∈ Finset.range C, f m = ∑ m ∈ Finset.range (n.val + 1), f m := by
      intro f hf
      rw [← Finset.sum_subset (Finset.range_mono (Nat.succ_le_of_lt n.isLt))]
      intro m _ hm
      exact hf m (by rw [Finset.mem_range] at hm; omega)
    rw [hs _ (fun m hm => by rw [if_neg (by omega)]; ring)]
    refine Finset.sum_congr rfl fun m hm => ?_
    have hm := Finset.mem_range.mp hm
    rw [if_pos (by omega), show N + n.val - (N + m) = n.val - m by omega]; ring
  · unfold state
    simp only [Finset.mul_sum, Finset.sum_mul]
    rw [Finset.sum_comm]
    refine Finset.sum_congr rfl fun d _ => Finset.sum_congr rfl fun m hm => ?_
    have hm := Finset.mem_range.mp hm
    rw [show N + n.val - m = (n.val + 1) + (N - 1 - m) by omega, decay_add]; ring

/-! ## On extended reals -/

/-- A sum of coerced reals is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The carried state after a chunk, on extended reals. -/
theorem state_step (g : ℝ) (k v : ℕ → ℝ) (N C : ℕ) :
    ((decay g C : ℝ) : EReal) * (state g k v N : ℝ)
        + ∑ m : Fin C, ((k (N + m.val) : ℝ) * ((decay g (C - 1 - m.val) : ℝ) : EReal)) * (v (N + m.val) : ℝ)
      = (state g k v (N + C) : ℝ) := by
  rw [state_add]
  simp only [← EReal.coe_mul, coe_sum, ← EReal.coe_add]

/-- A row of a chunk, on extended reals. -/
theorem row_step {D : ℕ} (g : ℝ) (q k : ℕ → Fin D → ℝ) (v : ℕ → ℝ) (N C : ℕ) (n : Fin C) :
    (∑ m : Fin C, ((∑ d, ((q (N + n.val) d : ℝ) : EReal) * (k (N + m.val) d : ℝ))
          * (((if m.val ≤ n.val then decay g (n.val - m.val) else 0 : ℝ)) : EReal)) * (v (N + m.val) : ℝ))
        + ∑ d, (((q (N + n.val) d : ℝ) : EReal) * (decay g (n.val + 1) : ℝ)) * (state g (fun m => k m d) v N : ℝ)
      = (row g q k v (N + n.val) : ℝ) := by
  rw [row_add g q k v N C n]
  simp only [← EReal.coe_mul, coe_sum, ← EReal.coe_add]

end Retention

end
-- ==== Proof.Powers.lean ====
/-
  THE DECAYS AS EXTENDED REALS. Every table of either program is `exp` of a natural multiple of a head's logarithm
  `lg h = log (1 - exp (a (b - h)))`, the words `a` and `b` being the programs' own constants. The argument of that logarithm
  is positive, so `lg h` is a real number and every table entry is a power `decay (lg h) n`.
-/
module

public import proofs.«01_k».proof.Proof.Decay
public import Idealize.ShloMosaic.Lib.Pointwise

@[expose] public section

noncomputable section

namespace Retention

open Idealize.ShloMosaic

/-- A row number, converted to a float. -/
theorem sitofp_nat (n : ℕ) (h : n < 2 ^ 31) : (FloatOps.sitofp FTy.f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e, Int.cast_natCast]

/-- The logarithm of head `h`'s decay, in the programs' operations. -/
def lgE (h : ℕ) : EReal :=
  Ideal.log1p (-Ideal.exp (Ideal.ofBits FTy.f32 0x3F317218#32
    * (Ideal.ofBits FTy.f32 0xC0A00000#32 - FloatOps.sitofp (F := Ideal) FTy.f32 (BitVec.ofNat 32 h))))

/-- The logarithm of head `h`'s decay. -/
def lg (h : ℕ) : ℝ := Real.log (1 - Real.exp (11629080 * (2 ^ 24)⁻¹ * (-5 - (h : ℝ))))

theorem word_log2 : Ideal.ofBits FTy.f32 0x3F317218#32 = ((11629080 * (2 ^ 24)⁻¹ : ℝ) : EReal) := by
  simp [Ideal.ofBits, Ideal.ieee]

theorem word_neg5 : Ideal.ofBits FTy.f32 0xC0A00000#32 = ((-5 : ℝ) : EReal) := by
  simp [Ideal.ofBits, Ideal.ieee]
  rw [← EReal.coe_mul]
  norm_num

theorem word_255 : Ideal.ofBits FTy.f32 0x437F0000#32 = (((255 : ℕ) : ℝ) : EReal) := by
  simp [Ideal.ofBits, Ideal.ieee]
  rw [← EReal.coe_mul]
  norm_num

theorem word_256 : Ideal.ofBits FTy.f32 0x43800000#32 = (((256 : ℕ) : ℝ) : EReal) := by
  simp [Ideal.ofBits, Ideal.ieee]
  rw [← EReal.coe_mul]
  norm_num

theorem word_127 : Ideal.ofBits FTy.f32 0x42FE0000#32 = (((127 : ℕ) : ℝ) : EReal) := by
  simp [Ideal.ofBits, Ideal.ieee]
  rw [← EReal.coe_mul]
  norm_num

theorem word_128 : Ideal.ofBits FTy.f32 0x43000000#32 = (((128 : ℕ) : ℝ) : EReal) := by
  simp [Ideal.ofBits, Ideal.ieee]
  rw [← EReal.coe_mul]
  norm_num

/-- The programs' logarithm is that real number: the argument of `log1p` lies above -1. -/
theorem lgE_eq (h : ℕ) (hh : h < 2 ^ 31) : lgE h = ((lg h : ℝ) : EReal) := by
  have hneg : (11629080 * (2 ^ 24)⁻¹ * (-5 - (h : ℝ)) : ℝ) < 0 :=
    mul_neg_of_pos_of_neg (by norm_num) (by have : (0 : ℝ) ≤ h := Nat.cast_nonneg h; linarith)
  have hpos : ¬ (1 - Real.exp (11629080 * (2 ^ 24)⁻¹ * (-5 - (h : ℝ))) : ℝ) ≤ 0 := by
    have := Real.exp_lt_one_iff.mpr hneg
    linarith
  unfold lgE
  rw [sitofp_nat h hh, word_log2, word_neg5, ← EReal.coe_sub, ← EReal.coe_mul]
  show Ideal.log (1 + -((Real.exp _ : ℝ) : EReal)) = _
  rw [← EReal.coe_neg, ← EReal.coe_one, ← EReal.coe_add, ← sub_eq_add_neg]
  show (if _ then _ else _) = _
  rw [if_neg hpos]
  rfl

/-- `exp` of `n` times the logarithm. -/
theorem exp_nat (g : ℝ) (n : ℕ) : Ideal.exp (((n : ℝ) : EReal) * ((g : ℝ) : EReal)) = ((decay g n : ℝ) : EReal) := by
  rw [← EReal.coe_mul]
  rfl

theorem exp_succ (g : ℝ) (n : ℕ) : Ideal.exp ((((n : ℝ) : EReal) + 1) * ((g : ℝ) : EReal)) = ((decay g (n + 1) : ℝ) : EReal) := by
  rw [← exp_nat, ← EReal.coe_one, ← EReal.coe_add, Nat.cast_add, Nat.cast_one]

theorem exp_sub (g : ℝ) (a n : ℕ) (h : n ≤ a) :
    Ideal.exp ((((a : ℝ) : EReal) - ((n : ℝ) : EReal)) * ((g : ℝ) : EReal)) = ((decay g (a - n) : ℝ) : EReal) := by
  rw [← exp_nat, ← EReal.coe_sub, Nat.cast_sub h]

/-- An entry of the decay matrix: the power between two rows, or zero when the second comes later. -/
theorem decay_entry (g : ℝ) (n k : ℕ) :
    (if (0 : EReal) ≤ ((n : ℝ) : EReal) - ((k : ℝ) : EReal)
        then Ideal.exp (max (((n : ℝ) : EReal) - ((k : ℝ) : EReal)) 0 * ((g : ℝ) : EReal)) else (0 : EReal))
      = ((if k ≤ n then decay g (n - k) else 0 : ℝ) : EReal) := by
  by_cases h : k ≤ n
  · have h1 : (0 : EReal) ≤ ((n : ℝ) : EReal) - ((k : ℝ) : EReal) := by
      rw [← EReal.coe_sub, ← Nat.cast_sub h]
      exact EReal.coe_nonneg.mpr (Nat.cast_nonneg _)
    rw [if_pos h1, if_pos h, max_eq_left h1, exp_sub g n k h]
  · have h1 : ¬ (0 : EReal) ≤ ((n : ℝ) : EReal) - ((k : ℝ) : EReal) := by
      rw [← EReal.coe_sub, EReal.coe_nonneg, sub_nonneg, Nat.cast_le]
      exact h
    rw [if_neg h1, if_neg h]
    rfl

end Retention

end
-- ==== Proof.Rows.lean ====
/-
  THE RETENTION LAYER'S RESULT, from finite queries, keys and values: how the columns of the arrays split into heads, the rows
  of one head as real numbers, and the normalized and gated row. Both programs are proved equal to `retained`.
-/
module

public import proofs.«01_k».proof.Proof.Powers

@[expose] public section

noncomputable section

namespace Retention

open Idealize.ShloMosaic

/-- Column `d` of head `h` in a row of queries or of keys. -/
abbrev qcol (h : Fin 4) (d : Fin 256) : Fin 1024 := ⟨256 * h.val + d.val, by omega⟩
/-- Column `e` of head `h` in a row of values, of gates or of the result. -/
abbrev vcol (h : Fin 4) (e : Fin 512) : Fin 2048 := ⟨512 * h.val + e.val, by omega⟩

/-- A row `o` of one head normalized over its columns, scaled by `g` and gated by `b`: column `e`. -/
def gated (o : Fin 512 → EReal) (g b : EReal) (e : Fin 512) : EReal :=
  b * Ideal.logistic b
    * ((o e - Ideal.div (∑ x, o x) (Ideal.ofBits FTy.f32 0x44000000#32))
        * Ideal.rsqrt
            (Ideal.div
                (∑ x,
                  (o x - Ideal.div (∑ x, o x) (Ideal.ofBits FTy.f32 0x44000000#32))
                    * (o x - Ideal.div (∑ x, o x) (Ideal.ofBits FTy.f32 0x44000000#32)))
                (Ideal.ofBits FTy.f32 0x44000000#32)
              + Ideal.ofBits FTy.f32 0x358637BD#32)
        * g)

/-- Every entry is a real number. -/
def Finite {s : Shape} (a : s.Idx → EReal) : Prop := ∀ i, a i ≠ ⊤ ∧ a i ≠ ⊥

/-- Row `n` of head `h` of the queries or keys of batch element `b`, as real numbers. -/
def qrow (a : (⟨3, ![8, 4096, 1024]⟩ : Shape).Idx → EReal) (b : Fin 8) (h : Fin 4) (n : ℕ) (d : Fin 256) : ℝ :=
  if hn : n < 4096 then (a (ix3 b ⟨n, hn⟩ (qcol h d))).toReal else 0

/-- Row `n` of head `h` of the values of batch element `b`, as real numbers. -/
def vrow (a : (⟨3, ![8, 4096, 2048]⟩ : Shape).Idx → EReal) (b : Fin 8) (h : Fin 4) (n : ℕ) (e : Fin 512) : ℝ :=
  if hn : n < 4096 then (a (ix3 b ⟨n, hn⟩ (vcol h e))).toReal else 0

theorem qrow_coe {a : (⟨3, ![8, 4096, 1024]⟩ : Shape).Idx → EReal} (f : Finite a) (b : Fin 8) (h : Fin 4) (n : ℕ) (hn : n < 4096)
    (d : Fin 256) : a (ix3 b ⟨n, hn⟩ (qcol h d)) = ((qrow a b h n d : ℝ) : EReal) := by
  unfold qrow
  rw [dif_pos hn, EReal.coe_toReal (f _).1 (f _).2]

theorem vrow_coe {a : (⟨3, ![8, 4096, 2048]⟩ : Shape).Idx → EReal} (f : Finite a) (b : Fin 8) (h : Fin 4) (n : ℕ) (hn : n < 4096)
    (e : Fin 512) : a (ix3 b ⟨n, hn⟩ (vcol h e)) = ((vrow a b h n e : ℝ) : EReal) := by
  unfold vrow
  rw [dif_pos hn, EReal.coe_toReal (f _).1 (f _).2]

/-- The state of head `h` of batch element `b` after `N` rows: entry `(d, e)`. -/
def headState (k : (⟨3, ![8, 4096, 1024]⟩ : Shape).Idx → EReal) (v : (⟨3, ![8, 4096, 2048]⟩ : Shape).Idx → EReal)
    (b : Fin 8) (h : Fin 4) (d : Fin 256) (e : Fin 512) (N : ℕ) : ℝ :=
  state (lg h.val) (fun n => qrow k b h n d) (fun n => vrow v b h n e) N

/-- Row `n` of head `h` of batch element `b`, before normalization: column `e`. -/
def headRow (q k : (⟨3, ![8, 4096, 1024]⟩ : Shape).Idx → EReal) (v : (⟨3, ![8, 4096, 2048]⟩ : Shape).Idx → EReal)
    (b : Fin 8) (h : Fin 4) (n : ℕ) (e : Fin 512) : ℝ :=
  row (lg h.val) (qrow q b h) (qrow k b h) (fun n => vrow v b h n e) n

/-- The layer's result: row `n`, column `e` of head `h` of batch element `b`. -/
def retained (q k : (⟨3, ![8, 4096, 1024]⟩ : Shape).Idx → EReal) (v gate : (⟨3, ![8, 4096, 2048]⟩ : Shape).Idx → EReal)
    (gn : (⟨1, ![2048]⟩ : Shape).Idx → EReal) (b : Fin 8) (h : Fin 4) (n : Fin 4096) (e : Fin 512) : EReal :=
  gated (fun x => ((headRow q k v b h n.val x : ℝ) : EReal)) (gn (ix1 (vcol h e))) (gate (ix3 b n (vcol h e))) e

end Retention

end
-- ==== Proof.Block.lean ====
/-
  ONE BLOCK OF THE RETENTION KERNEL, read at an index over the extended reals.

  The body is four heads unrolled. Each head's printed values are the same functions of the head's slices of the windows, so
  they are read once (`mix_at`, `carry_at`, `gate_at`) and every head is an instance. `blockOut` and `blockState` say what a
  point leaves in its block of the result and in the carried state, whatever the state was before; at a first chunk that
  state is zero.
-/
module

public import proofs.«01_k».proof.Proof.Gen.KernelIdeal.Value
public import proofs.«01_k».proof.Proof.Rows
public import Idealize.ShloMosaic.Lib.Pointwise
public import Idealize.ShloMosaic.Lib.Pipeline.ReadBack

@[expose] public section

noncomputable section

namespace Cert.KernelIdeal.Block

open Cert.KernelIdeal Cert.KernelIdeal.Gen Idealize.ShloMosaic Idealize.ShloMosaic.TcCoe Idealize.SL.Sem
open Retention (qcol vcol gated)

/-- Row `n`, column `e` of head `h` before normalization: the chunk's own rows, and the state it starts from. -/
def mix (x0 : S4x256x256.Idx → EReal) (x1 : S4x256x1.Idx → EReal) (x4 x5 : S1x256x1024.Idx → EReal) (x6 : S1x256x2048.Idx → EReal)
    (xs : S4x256x512.Idx → EReal) (h : Fin 4) (n : Fin 256) (e : Fin 512) : EReal :=
  ∑ m, (∑ d, x4 (ix3 0 n (qcol h d)) * x5 (ix3 0 m (qcol h d))) * x0 (ix3 h n m) * x6 (ix3 0 m (vcol h e))
    + ∑ d, x4 (ix3 0 n (qcol h d)) * x1 (ix3 h n 0) * xs (ix3 h d e)

/-- Entry `(d, e)` of head `h` of the state a chunk leaves. -/
def carry (x2 : S4x256x1.Idx → EReal) (x3 : S4x8x128.Idx → EReal) (x5 : S1x256x1024.Idx → EReal) (x6 : S1x256x2048.Idx → EReal)
    (xs : S4x256x512.Idx → EReal) (h : Fin 4) (d : Fin 256) (e : Fin 512) : EReal :=
  x3 (ix3 h 0 0) * xs (ix3 h d e) + ∑ m, x5 (ix3 0 m (qcol h d)) * x2 (ix3 h m 0) * x6 (ix3 0 m (vcol h e))

/-- The head's product, from its slices. -/
theorem mix_at (v3 v5 : Vec Ideal S1x256x256 .bf16) (v7 : Vec Ideal S1x256x512 .bf16) (v9 : Vec Ideal S1x256x512 .f32)
    (v12 : Vec Ideal S1x256x256 .f32) (v18 : Vec Ideal S1x256x1 .f32) (i : Fin 256) (j : Fin 512) :
    k0_pay7 v3 v5 v7 v9 v12 v18 (ix2 i j)
      = ∑ x, (∑ x_1, v3 (ix3 0 i x_1) * v5 (ix3 0 x x_1)) * v12 (ix3 0 i x) * v7 (ix3 0 x j)
        + ∑ x, v3 (ix3 0 i x) * v18 (ix3 0 i 0) * v9 (ix3 0 x j) := by
  pointwise [k0_pay7, k0_pay4, k0_pay5, k0_pay6]

/-- The head's next state, from its slices. -/
theorem carry_at (v6 : Vec Ideal S1x256x256 .bf16) (v8 : Vec Ideal S1x256x512 .bf16) (v30 : Vec Ideal S1x256x512 .f32)
    (v26 : Vec Ideal S1x8x128 .f32) (v32 : Vec Ideal S1x256x1 .f32) (i : Fin 256) (j : Fin 512) :
    k0_pay9 (k0_pay4 v6) (k0_pay5 v8) (k0_pay8 v30 v26) v32 (ix3 0 i j)
      = v26 (ix3 0 0 0) * v30 (ix3 0 i j) + ∑ x, v6 (ix3 0 x i) * v32 (ix3 0 x 0) * v8 (ix3 0 x j) := by
  pointwise [k0_pay9, k0_pay4, k0_pay5, k0_pay6, k0_pay8]

/-- The head's normalized and gated rows, from the product. -/
theorem gate_at (v25 : FVec Ideal S256x512 .f32) (v58 : Vec Ideal S1x512 .f32) (v62 : Vec Ideal S1x256x512 .bf16)
    (i : Fin 256) (j : Fin 512) :
    k0_pay11 (k0_pay10 v25 v58 v62) (ix3 0 i j) = gated (fun x => v25 (ix2 i x)) (v58 (ix2 0 j)) (v62 (ix3 0 i j)) j := by
  pointwise [k0_pay11, k0_pay10]
  rfl

/-- What a point leaves in its block of the result, over the state `xs` it starts from. -/
def blockOut (x0 : S4x256x256.Idx → EReal) (x1 : S4x256x1.Idx → EReal) (x4 x5 : S1x256x1024.Idx → EReal)
    (x6 x7 : S1x256x2048.Idx → EReal) (x8 : S1x2048.Idx → EReal) (xs : S4x256x512.Idx → EReal) (y : S1x256x2048.Idx) : EReal :=
  gated (mix x0 x1 x4 x5 x6 xs ⟨(y 2).val / 512, by have : (y 2).val < 2048 := (y 2).isLt; omega⟩ (y 1))
    (x8 (ix2 0 (y 2))) (x7 (ix3 0 (y 1) (y 2))) ⟨(y 2).val % 512, by omega⟩

/-- What a point leaves in the carried state, over the state `xs` it starts from. -/
def blockState (x2 : S4x256x1.Idx → EReal) (x3 : S4x8x128.Idx → EReal) (x5 : S1x256x1024.Idx → EReal) (x6 : S1x256x2048.Idx → EReal)
    (xs : S4x256x512.Idx → EReal) (y : S4x256x512.Idx) : EReal :=
  carry x2 x3 x5 x6 xs (y 0) (y 1) (y 2)

theorem blockOut_at (x0 : S4x256x256.Idx → EReal) (x1 : S4x256x1.Idx → EReal) (x4 x5 : S1x256x1024.Idx → EReal)
    (x6 x7 : S1x256x2048.Idx → EReal) (x8 : S1x2048.Idx → EReal) (xs : S4x256x512.Idx → EReal) (h : Fin 4) (n : Fin 256) (e : Fin 512) :
    blockOut x0 x1 x4 x5 x6 x7 x8 xs (ix3 0 n (vcol h e))
      = gated (mix x0 x1 x4 x5 x6 xs h n) (x8 (ix2 0 (vcol h e))) (x7 (ix3 0 n (vcol h e))) e := by
  have e1 : (⟨(512 * h.val + e.val) / 512, by omega⟩ : Fin 4) = h := Fin.ext (by show _ / 512 = _; omega)
  have e2 : (⟨(512 * h.val + e.val) % 512, by omega⟩ : Fin 512) = e := Fin.ext (by show _ % 512 = _; omega)
  show gated (mix x0 x1 x4 x5 x6 xs ⟨(512 * h.val + e.val) / 512, _⟩ n) _ _ ⟨(512 * h.val + e.val) % 512, _⟩ = _
  rw [e1, e2]
  rfl

/-- Head `h`'s slice of a row block of queries or keys. -/
def qslice (h : Fin 4) : Rect S1x256x1024 :=
  Rect.unit ![0, 0, 256 * h.val] ![1, 256, 256] fun a => by
    match a with | ⟨0, _⟩ => show 0 + 1 ≤ 1; omega | ⟨1, _⟩ => show 0 + 256 ≤ 256; omega | ⟨2, _⟩ => show 256 * h.val + 256 ≤ 1024; omega

/-- Head `h`'s slice of a row block of values, gates or results. -/
def vslice (h : Fin 4) : Rect S1x256x2048 :=
  Rect.unit ![0, 0, 512 * h.val] ![1, 256, 512] fun a => by
    match a with | ⟨0, _⟩ => show 0 + 1 ≤ 1; omega | ⟨1, _⟩ => show 0 + 256 ≤ 256; omega | ⟨2, _⟩ => show 512 * h.val + 512 ≤ 2048; omega

/-- Head `h`'s slice of the norm's scale. -/
def gslice (h : Fin 4) : Rect S1x2048 :=
  Rect.unit ![0, 512 * h.val] ![1, 512] fun a => by
    match a with | ⟨0, _⟩ => show 0 + 1 ≤ 1; omega | ⟨1, _⟩ => show 512 * h.val + 512 ≤ 2048; omega

/-- Head `h`'s slice of an array whose first axis is the head. -/
def hslice (A B : ℕ) (h : Fin 4) : Rect ⟨3, ![4, A, B]⟩ :=
  Rect.unit ![h.val, 0, 0] ![1, A, B] fun a => by
    match a with
    | ⟨0, _⟩ => show h.val + 1 ≤ 4; omega
    | ⟨1, _⟩ => show 0 + A ≤ A; omega
    | ⟨2, _⟩ => show 0 + B ≤ B; omega

/-- What head `h` reads of a block of queries or keys. -/
def qpart {e : EltTy} (x : S1x256x1024.Idx → Elt Ideal e) (h : Fin 4) : S1x256x256.Idx → Elt Ideal e := View.ld (Val := Elt Ideal) x (qslice h)
/-- What head `h` reads of a block of values or gates. -/
def vpart {e : EltTy} (x : S1x256x2048.Idx → Elt Ideal e) (h : Fin 4) : S1x256x512.Idx → Elt Ideal e := View.ld (Val := Elt Ideal) x (vslice h)
/-- What head `h` reads of the norm's scale. -/
def gpart {e : EltTy} (x : S1x2048.Idx → Elt Ideal e) (h : Fin 4) : S1x512.Idx → Elt Ideal e := View.ld (Val := Elt Ideal) x (gslice h)
/-- What head `h` reads of an array whose first axis is the head. -/
def hpart {A B : ℕ} {e : EltTy} (x : (⟨3, ![4, A, B]⟩ : Shape).Idx → Elt Ideal e) (h : Fin 4) : (⟨3, ![1, A, B]⟩ : Shape).Idx → Elt Ideal e :=
  View.ld (Val := Elt Ideal) x (hslice A B h)

theorem ld_qslice {e : EltTy} (x : S1x256x1024.Idx → Elt Ideal e) (h : Fin 4) (n d : Fin 256) :
    qpart x h (ix3 0 n d) = x (ix3 0 n (qcol h d)) :=
  congrArg x (funext fun a => Fin.ext (by
    match a with
    | ⟨0, _⟩ => rfl
    | ⟨1, _⟩ => show 0 + 1 * n.val = n.val; omega
    | ⟨2, _⟩ => show 256 * h.val + 1 * d.val = 256 * h.val + d.val; omega))

theorem emb_vslice (h : Fin 4) (n : Fin 256) (j : Fin 512) :
    (vslice h).emb (ix3 0 n j) = (ix3 0 n (vcol h j) : S1x256x2048.Idx) :=
  funext fun a => Fin.ext (by
    match a with
    | ⟨0, _⟩ => rfl
    | ⟨1, _⟩ => show 0 + 1 * n.val = n.val; omega
    | ⟨2, _⟩ => show 512 * h.val + 1 * j.val = 512 * h.val + j.val; omega)

theorem ld_vslice {e : EltTy} (x : S1x256x2048.Idx → Elt Ideal e) (h : Fin 4) (n : Fin 256) (j : Fin 512) :
    vpart x h (ix3 0 n j) = x (ix3 0 n (vcol h j)) := congrArg x (emb_vslice h n j)

theorem ld_gslice {e : EltTy} (x : S1x2048.Idx → Elt Ideal e) (h : Fin 4) (j : Fin 512) :
    gpart x h (ix2 0 j) = x (ix2 0 (vcol h j)) :=
  congrArg x (funext fun a => Fin.ext (by
    match a with
    | ⟨0, _⟩ => rfl
    | ⟨1, _⟩ => show 512 * h.val + 1 * j.val = 512 * h.val + j.val; omega))

theorem emb_hslice {A B : ℕ} (h : Fin 4) (n : Fin A) (j : Fin B) : (hslice A B h).emb (ix3 0 n j) = ix3 h n j :=
  funext fun a => Fin.ext (by
    match a with
    | ⟨0, _⟩ => rfl
    | ⟨1, _⟩ => show 0 + 1 * n.val = n.val; omega
    | ⟨2, _⟩ => show 0 + 1 * j.val = j.val; omega)

theorem ld_hslice {A B : ℕ} {e : EltTy} (x : (⟨3, ![4, A, B]⟩ : Shape).Idx → Elt Ideal e) (h : Fin 4) (n : Fin A) (j : Fin B) :
    hpart x h (ix3 0 n j) = x (ix3 h n j) := congrArg x (emb_hslice h n j)

/-- The store of head `h` into the block of the result. -/
def outPiece (x0 : Vec Ideal S4x256x256 .f32) (x1 : Vec Ideal S4x256x1 .f32) (x4 x5 : Vec Ideal S1x256x1024 .bf16)
    (x6 x7 : Vec Ideal S1x256x2048 .bf16) (x8 : Vec Ideal S1x2048 .f32) (xs : Vec Ideal S4x256x512 .f32) (h : Fin 4) :
    View.Piece (Elt Ideal) S1x256x2048 .bf16 :=
  ⟨vslice h, k0_pay11 (k0_pay10 (k0_pay7 (qpart x4 h) (qpart x5 h) (vpart x6 h)
    (hpart xs h) (hpart x0 h) (hpart x1 h))
    (gpart x8 h) (vpart x7 h))⟩

/-- The store of head `h` into the carried state. -/
def statePiece (x2 : Vec Ideal S4x256x1 .f32) (x3 : Vec Ideal S4x8x128 .f32) (x5 : Vec Ideal S1x256x1024 .bf16)
    (x6 : Vec Ideal S1x256x2048 .bf16) (xs : Vec Ideal S4x256x512 .f32) (h : Fin 4) : View.Piece (Elt Ideal) S4x256x512 .f32 :=
  ⟨hslice 256 512 h, k0_pay9 (k0_pay4 (qpart x5 h)) (k0_pay5 (vpart x6 h))
    (k0_pay8 (hpart xs h) (hpart x3 h)) (hpart x2 h)⟩

/-- The store of head `h` is its slice of `blockOut`. -/
theorem outPiece_at (x0 : Vec Ideal S4x256x256 .f32) (x1 : Vec Ideal S4x256x1 .f32) (x4 x5 : Vec Ideal S1x256x1024 .bf16)
    (x6 x7 : Vec Ideal S1x256x2048 .bf16) (x8 : Vec Ideal S1x2048 .f32) (xs : Vec Ideal S4x256x512 .f32) (h : Fin 4)
    (x : S1x256x512.Idx) :
    (outPiece x0 x1 x4 x5 x6 x7 x8 xs h).2 x = blockOut x0 x1 x4 x5 x6 x7 x8 xs ((vslice h).emb x) := by
  obtain ⟨n, j, rfl⟩ : ∃ (n : Fin 256) (j : Fin 512), x = (ix3 0 n j : S1x256x512.Idx) :=
    ⟨x 1, x 2, by
      rw [eq_ix3 (n0 := 1) (n1 := 256) (n2 := 512) x]
      exact congrArg (fun a => (ix3 a (x 1) (x 2) : S1x256x512.Idx)) (Subsingleton.elim (α := Fin 1) _ _)⟩
  refine ((gate_at _ _ _ n j).trans ?_).trans (congrArg _ (emb_vslice h n j)).symm
  rw [blockOut_at]
  rw [ld_gslice, ld_vslice]
  congr 1
  funext i
  rw [mix_at]
  unfold mix
  simp only [ld_qslice, ld_vslice, ld_hslice]

/-- The store of head `h` is its slice of `blockState`. -/
theorem statePiece_at (x2 : Vec Ideal S4x256x1 .f32) (x3 : Vec Ideal S4x8x128 .f32) (x5 : Vec Ideal S1x256x1024 .bf16)
    (x6 : Vec Ideal S1x256x2048 .bf16) (xs : Vec Ideal S4x256x512 .f32) (h : Fin 4) (x : S1x256x512.Idx) :
    (statePiece x2 x3 x5 x6 xs h).2 x = blockState x2 x3 x5 x6 xs ((hslice 256 512 h).emb x) := by
  obtain ⟨n, j, rfl⟩ : ∃ (n : Fin 256) (j : Fin 512), x = (ix3 0 n j : S1x256x512.Idx) :=
    ⟨x 1, x 2, by
      rw [eq_ix3 (n0 := 1) (n1 := 256) (n2 := 512) x]
      exact congrArg (fun a => (ix3 a (x 1) (x 2) : S1x256x512.Idx)) (Subsingleton.elim (α := Fin 1) _ _)⟩
  refine ((carry_at _ _ _ _ _ n j).trans ?_).trans (congrArg _ (emb_hslice (A := 256) (B := 512) h n j)).symm
  show _ = carry x2 x3 x5 x6 xs h n j
  unfold carry
  simp only [ld_qslice, ld_vslice, ld_hslice]

/-- The four heads' stores, the last first, over earlier stores `L`: at an index some head's slice holds. -/
theorem canon_out (x0 : Vec Ideal S4x256x256 .f32) (x1 : Vec Ideal S4x256x1 .f32) (x4 x5 : Vec Ideal S1x256x1024 .bf16)
    (x6 x7 : Vec Ideal S1x256x2048 .bf16) (x8 : Vec Ideal S1x2048 .f32) (xs : Vec Ideal S4x256x512 .f32) (y : S1x256x2048.Idx) :
    View.canon (Val := Elt Ideal) (e := .bf16) [outPiece x0 x1 x4 x5 x6 x7 x8 xs 3, outPiece x0 x1 x4 x5 x6 x7 x8 xs 2, outPiece x0 x1 x4 x5 x6 x7 x8 xs 1,
      outPiece x0 x1 x4 x5 x6 x7 x8 xs 0] y = blockOut x0 x1 x4 x5 x6 x7 x8 xs y := by
  refine View.canon_apply_of_pieces (Val := Elt Ideal) (e := .bf16) (blockOut x0 x1 x4 x5 x6 x7 x8 xs) _ (View.PiecesOf.mem (Val := Elt Ideal) (e := .bf16) (by exact ⟨outPiece_at _ _ _ _ _ _ _ _ 3, outPiece_at _ _ _ _ _ _ _ _ 2,
    outPiece_at _ _ _ _ _ _ _ _ 1, outPiece_at _ _ _ _ _ _ _ _ 0, trivial⟩)) y ?_
  have hy : (y 2).val < 2048 := (y 2).isLt
  have h4 : (y 2).val / 512 < 4 := by omega
  have hm : ∀ h : Fin 4, h.val = (y 2).val / 512 → y ∈ (vslice h).set := fun h hh => by
    have e : y = (vslice h).emb (ix3 0 (y 1) ⟨(y 2).val % 512, by omega⟩ : S1x256x512.Idx) := by
      refine ((eq_ix3 (n0 := 1) (n1 := 256) (n2 := 2048) y).trans ?_).trans (emb_vslice h (y 1) ⟨(y 2).val % 512, by omega⟩).symm
      have e0 : y 0 = (0 : Fin 1) := Subsingleton.elim (α := Fin 1) _ _
      have e2 : y 2 = vcol h ⟨(y 2).val % 512, by omega⟩ := Fin.ext (by show _ = 512 * h.val + (y 2).val % 512; omega)
      rw [e0]; exact congrArg (fun a => (ix3 0 (y 1) a : S1x256x2048.Idx)) e2
    rw [e]
    exact LoadRect.idx_mem _ _
  interval_cases hq : (y 2).val / 512
  · exact ⟨outPiece x0 x1 x4 x5 x6 x7 x8 xs 0, by simp, hm 0 rfl⟩
  · exact ⟨outPiece x0 x1 x4 x5 x6 x7 x8 xs 1, by simp, hm 1 rfl⟩
  · exact ⟨outPiece x0 x1 x4 x5 x6 x7 x8 xs 2, by simp, hm 2 rfl⟩
  · exact ⟨outPiece x0 x1 x4 x5 x6 x7 x8 xs 3, by simp, hm 3 rfl⟩

/-- The four heads' stores into the state, over earlier stores `L`. -/
theorem canon_state (x2 : Vec Ideal S4x256x1 .f32) (x3 : Vec Ideal S4x8x128 .f32) (x5 : Vec Ideal S1x256x1024 .bf16)
    (x6 : Vec Ideal S1x256x2048 .bf16) (xs : Vec Ideal S4x256x512 .f32) (L : List (View.Piece (Elt Ideal) S4x256x512 .f32))
    (y : S4x256x512.Idx) :
    View.canon (Val := Elt Ideal) (e := .f32) ([statePiece x2 x3 x5 x6 xs 3, statePiece x2 x3 x5 x6 xs 2, statePiece x2 x3 x5 x6 xs 1,
      statePiece x2 x3 x5 x6 xs 0] ++ L) y = blockState x2 x3 x5 x6 xs y := by
  refine View.canon_append_of_piecesOf (Val := Elt Ideal) (e := .f32) (blockState x2 x3 x5 x6 xs) L _ (by exact ⟨statePiece_at _ _ _ _ _ 3, statePiece_at _ _ _ _ _ 2,
    statePiece_at _ _ _ _ _ 1, statePiece_at _ _ _ _ _ 0, trivial⟩) y ?_
  have hm : y ∈ (hslice 256 512 (y 0)).set := by
    have e : y = (hslice 256 512 (y 0)).emb (ix3 0 (y 1) (y 2) : S1x256x512.Idx) :=
      (eq_ix3 (n0 := 4) (n1 := 256) (n2 := 512) y).trans (emb_hslice (A := 256) (B := 512) (y 0) (y 1) (y 2)).symm
    rw [e]
    exact LoadRect.idx_mem _ _
  refine ⟨statePiece x2 x3 x5 x6 xs (y 0), ?_, hm⟩
  generalize (y 0 : Fin 4) = h
  fin_cases h <;> simp

/-- The state a first chunk starts from. -/
theorem zero_state : (k0_pay3 (F := Ideal) : Vec Ideal S4x256x512 .f32) = fun _ => 0 := by
  funext y
  rw [eq_ix3 (n0 := 4) (n1 := 256) (n2 := 512) y]
  pointwise [k0_pay3]

/-- A point that starts from the zero state: its block of the result. -/
theorem out_A (c : Dev nD) (t : Fin cfg0.N) (hc : cond0_0 (grid0.coords t)) (x0 : Vec Ideal S4x256x256 .f32) (x1 x2 : Vec Ideal S4x256x1 .f32)
    (x3 : Vec Ideal S4x8x128 .f32) (x4 x5 : Vec Ideal S1x256x1024 .bf16) (x6 x7 : Vec Ideal S1x256x2048 .bf16)
    (x8 : Vec Ideal S1x2048 .f32) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8
      = blockOut x0 x1 x4 x5 x6 x7 x8 (fun _ => 0) := by
  funext y
  unfold out0_A_9
  rw [View.read_writes_eq_canon _ _ _ (cover0_A_9 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    read_unread_whole]
  simp (config := { decide := true }) only [↓View.readCov_skip, ↓View.readCov_fill]
  exact (canon_out x0 x1 x4 x5 x6 x7 x8 (k0_pay3 (F := Ideal)) y).trans (by rw [zero_state])

/-- A point that starts from the zero state: the state it leaves. -/
theorem state_A (c : Dev nD) (t : Fin cfg0.N) (hc : cond0_0 (grid0.coords t)) (x0 : Vec Ideal S4x256x256 .f32) (x1 x2 : Vec Ideal S4x256x1 .f32)
    (x3 : Vec Ideal S4x8x128 .f32) (x4 x5 : Vec Ideal S1x256x1024 .bf16) (x6 x7 : Vec Ideal S1x256x2048 .bf16)
    (x8 : Vec Ideal S1x2048 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8
      = blockState x2 x3 x5 x6 (fun _ => 0) := by
  funext y
  unfold sout0_A_0
  rw [View.read_writes_eq_canon _ _ _ (scover0_A_0 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    read_unread_whole]
  simp (config := { decide := true }) only [↓View.readCov_skip, ↓View.readCov_fill]
  exact (canon_state x2 x3 x5 x6 (k0_pay3 (F := Ideal)) _ y).trans (by rw [zero_state])

/-- A point that starts from the state it carries: its block of the result. -/
theorem out_B (c : Dev nD) (t : Fin cfg0.N) (hc : ¬cond0_0 (grid0.coords t)) (x0 : Vec Ideal S4x256x256 .f32) (x1 x2 : Vec Ideal S4x256x1 .f32)
    (x3 : Vec Ideal S4x8x128 .f32) (x4 x5 : Vec Ideal S1x256x1024 .bf16) (x6 x7 : Vec Ideal S1x256x2048 .bf16)
    (x8 : Vec Ideal S1x2048 .f32)
    (xs : Vec Ideal S4x256x512 .f32) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8 xs
      = blockOut x0 x1 x4 x5 x6 x7 x8 xs := by
  funext y
  unfold out0_B_9
  rw [View.read_writes_eq_canon _ _ _ (cover0_B_9 c _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    read_unread_whole]
  exact canon_out x0 x1 x4 x5 x6 x7 x8 xs y

/-- A point that starts from the state it carries: the state it leaves. -/
theorem state_B (c : Dev nD) (t : Fin cfg0.N) (hc : ¬cond0_0 (grid0.coords t)) (x0 : Vec Ideal S4x256x256 .f32) (x1 x2 : Vec Ideal S4x256x1 .f32)
    (x3 : Vec Ideal S4x8x128 .f32) (x4 x5 : Vec Ideal S1x256x1024 .bf16) (x6 x7 : Vec Ideal S1x256x2048 .bf16)
    (x8 : Vec Ideal S1x2048 .f32)
    (xs : Vec Ideal S4x256x512 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) hc x0 x1 x2 x3 x4 x5 x6 x7 x8 xs
      = blockState x2 x3 x5 x6 xs := by
  funext y
  unfold sout0_B_0
  rw [View.read_writes_eq_canon _ _ _ (scover0_B_0 c _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread,
    read_unread_whole]
  exact canon_state x2 x3 x5 x6 xs [] y

end Cert.KernelIdeal.Block

end
-- ==== Proof.Tables.lean ====
/-
  THE KERNEL'S TABLES. Before the kernel runs, @main tabulates each head's decay over one chunk: the matrix of decays within the
  chunk, the weights of the state a row reads, the weights of the rows the state takes up, and the decay of a whole chunk. Every entry is a power of the
  head's decay, a finite number.
-/
module

public import proofs.«01_k».proof.Proof.Gen.KernelIdeal.Value
public import proofs.«01_k».proof.Proof.Powers
public import Idealize.ShloMosaic.Lib.Pointwise

@[expose] public section

noncomputable section

namespace Cert.KernelIdeal.Block

open Cert.KernelIdeal Cert.KernelIdeal.Gen Idealize.ShloMosaic Idealize.ShloMosaic.TcCoe Idealize.SL.Sem
open Retention (decay lg lgE)

variable (m : (ℓ : Loc nD τ sig) → Buf (Elt Ideal) ℓ)

/-- The heads' decays, as @main computes them. -/
def logs : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

theorem logs_at (h : Fin 4) : logs (ix1 h) = ((lg h.val : ℝ) : EReal) := by
  rw [← Retention.lgE_eq _ (by omega)]
  pointwise [logs]
  rfl

/-- The differences of the rows of a chunk. -/
def diffs : FVec Ideal S256x256 .f32 :=
  subf (broadcastInDim S256x256 ![0, 1] bcast_S256x1_S256x256_0_1 (broadcastInDim S256x1 ![0] bcast_S256_S256x1_0 (sitofp .f32 (iotaInDim S256 32 0))))
    (broadcastInDim S256x256 ![0, 1] bcast_S1x256_S256x256_0_1 (broadcastInDim S1x256 ![1] bcast_S256_S1x256_1 (sitofp .f32 (iotaInDim S256 32 0))))

theorem V_decays (c : Dev nD) : V m c main_v24 = select (broadcastInDim S4x256x256 ![1, 2] bcast_S256x256_S4x256x256_1_2
      (cmpf .oge diffs (broadcastInDim S256x256 ![] bcast_S_S256x256 (constant S_ .f32 0x00000000#32))))
    (Host.exp (mulf (broadcastInDim S4x256x256 ![0, 1, 2] bcast_S1x256x256_S4x256x256_0_1_2 (broadcastInDim S1x256x256 ![1, 2] bcast_S256x256_S1x256x256_1_2
      (maximumf diffs (broadcastInDim S256x256 ![] bcast_S_S256x256 (constant S_ .f32 0x00000000#32)))))
      (broadcastInDim S4x256x256 ![0, 1, 2] bcast_S4x1x1_S4x256x256_0_1_2 (broadcastInDim S4x1x1 ![0] bcast_S4_S4x1x1_0 logs))))
    (broadcastInDim S4x256x256 ![] bcast_S_S4x256x256 (constant S_ .f32 0x00000000#32)) := by
  show StableHlo.after (List.flatten [hostOps0, hostOps0_1, hostOps0_2]) _ _ = _
  after_results
  rfl

/-- Row `n` weighs row `k` of its chunk by the decay between them, and not at all when `k` comes later. -/
theorem decays_at (c : Dev nD) (h : Fin 4) (n k : Fin 256) : (V m c main_v24 : S4x256x256.Idx → EReal) (ix3 h n k) = ((if k.val ≤ n.val then decay (lg h.val) (n.val - k.val) else 0 : ℝ) : EReal) := by
  rw [V_decays]
  pointwise [diffs]
  rw [logs_at, Retention.sitofp_nat _ (by omega), Retention.sitofp_nat _ (by omega)]
  exact Retention.decay_entry _ _ _

theorem V_xi (c : Dev nD) : V m c main_v33 = broadcastInDim S4x256x1 ![0, 1] bcast_S4x256_S4x256x1_0_1 (Host.exp (mulf
    (broadcastInDim S4x256 ![0, 1] bcast_S1x256_S4x256_0_1 (broadcastInDim S1x256 ![1] bcast_S256_S1x256_1
      (addf (sitofp .f32 (iotaInDim S256 32 0)) (broadcastInDim S256 ![] bcast_S_S256 (constant S_ .f32 0x3F800000#32)))))
    (broadcastInDim S4x256 ![0, 1] bcast_S4x1_S4x256_0_1 (broadcastInDim S4x1 ![0] bcast_S4_S4x1_0 logs)))) := by
  show StableHlo.after (List.flatten [hostOps0, hostOps0_1, hostOps0_2]) _ _ = _
  after_results
  rfl

/-- Row `n` reads the state a chunk starts from by the decay over `n + 1` rows. -/
theorem xi_at (c : Dev nD) (h : Fin 4) (n : Fin 256) : (V m c main_v33 : S4x256x1.Idx → EReal) (ix3 h n 0) = ((decay (lg h.val) (n.val + 1) : ℝ) : EReal) := by
  rw [V_xi]
  pointwise []
  rw [logs_at, Retention.sitofp_nat _ (by omega)]
  exact Retention.exp_succ _ _

theorem V_zeta (c : Dev nD) : V m c main_v42 = broadcastInDim S4x256x1 ![0, 1] bcast_S4x256_S4x256x1_0_1 (Host.exp (mulf
    (broadcastInDim S4x256 ![0, 1] bcast_S1x256_S4x256_0_1 (broadcastInDim S1x256 ![1] bcast_S256_S1x256_1
      (subf (broadcastInDim S256 ![] bcast_S_S256 (constant S_ .f32 0x437F0000#32)) (sitofp .f32 (iotaInDim S256 32 0)))))
    (broadcastInDim S4x256 ![0, 1] bcast_S4x1_S4x256_0_1 (broadcastInDim S4x1 ![0] bcast_S4_S4x1_0 logs)))) := by
  show StableHlo.after (List.flatten [hostOps0, hostOps0_1, hostOps0_2]) _ _ = _
  after_results
  rfl

/-- Row `n` enters the state a chunk leaves by the decay to the end of the chunk. -/
theorem zeta_at (c : Dev nD) (h : Fin 4) (n : Fin 256) : (V m c main_v42 : S4x256x1.Idx → EReal) (ix3 h n 0) = ((decay (lg h.val) (256 - 1 - n.val) : ℝ) : EReal) := by
  rw [V_zeta]
  pointwise []
  rw [logs_at, Retention.sitofp_nat _ (by omega), Retention.word_255]
  exact Retention.exp_sub _ 255 n.val (by omega)

theorem V_whole (c : Dev nD) : V m c main_v47 = broadcastInDim S4x8x128 ![0, 1, 2] bcast_S4x1x1_S4x8x128_0_1_2 (broadcastInDim S4x1x1 ![0] bcast_S4_S4x1x1_0
    (Host.exp (mulf (broadcastInDim S4 ![] bcast_S_S4 (constant S_ .f32 0x43800000#32)) logs))) := by
  show StableHlo.after (List.flatten [hostOps0, hostOps0_1, hostOps0_2]) _ _ = _
  after_results
  rfl

/-- The decay of a whole chunk. -/
theorem whole_at (c : Dev nD) (h : Fin 4) (a : Fin 8) (b : Fin 128) : (V m c main_v47 : S4x8x128.Idx → EReal) (ix3 h a b) = ((decay (lg h.val) 256 : ℝ) : EReal) := by
  rw [V_whole]
  pointwise []
  rw [logs_at, Retention.word_256]
  exact Retention.exp_nat _ 256

theorem V_scale (c : Dev nD) : V m c main_v48 = broadcastInDim S1x2048 ![1] bcast_S2048_S1x2048_1 (m ((c : Thread nD τ).loc main_arg4)) := by
  show StableHlo.after (List.flatten [hostOps0, hostOps0_1, hostOps0_2]) _ _ = _
  after_results
  rfl

end Cert.KernelIdeal.Block

end
-- ==== Proof.Array.lean ====
/-
  THE ARRAY THE RETENTION KERNEL LEAVES. Grid point `t` is chunk `t % 16` of batch element `t / 16`. By induction over the points the
  carried state before a point is the state of the rows before its chunk, so the chunk's rows are the rows of the
  retention, and the result array is `Retention.retained`.
-/
module

public import proofs.«01_k».proof.Proof.Block
public import proofs.«01_k».proof.Proof.Tables

@[expose] public section

noncomputable section

namespace Cert.KernelIdeal.Block

open Cert.KernelIdeal Cert.KernelIdeal.Gen Idealize.ShloMosaic Idealize.ShloMosaic.TcCoe Idealize.SL.Sem
open Retention (qcol vcol gated decay lg Finite qrow vrow headState headRow retained)

variable (m : (ℓ : Loc nD τ sig) → Buf (Elt Ideal) ℓ)

/-- The windows' index maps: the tables and the scale have one block, the rows of a point are chunk `t % 16` of batch element `t / 16`. -/
theorem index_tables : ∀ t : Fin cfg0.N, (∀ a, win0_0.index t a = 0) ∧ (∀ a, win0_1.index t a = 0) ∧ (∀ a, win0_2.index t a = 0)
    ∧ (∀ a, win0_3.index t a = 0) ∧ (∀ a, win0_8.index t a = 0) :=
  (by decide +kernel : ∀ t : Fin grid0.N, _)

theorem index_rows : ∀ t : Fin cfg0.N,
    (win0_4.index t 0 = t.val / 16 ∧ win0_4.index t 1 = t.val % 16 ∧ win0_4.index t 2 = 0)
    ∧ (win0_5.index t 0 = t.val / 16 ∧ win0_5.index t 1 = t.val % 16 ∧ win0_5.index t 2 = 0)
    ∧ (win0_6.index t 0 = t.val / 16 ∧ win0_6.index t 1 = t.val % 16 ∧ win0_6.index t 2 = 0)
    ∧ (win0_7.index t 0 = t.val / 16 ∧ win0_7.index t 1 = t.val % 16 ∧ win0_7.index t 2 = 0) :=
  (by decide +kernel : ∀ t : Fin grid0.N, _)

abbrev bOf (t : Fin cfg0.N) : Fin 8 := ⟨t.val / 16, by have := lt_of_lt_of_eq t.isLt (show cfg0.N = 128 from N_0); omega⟩
abbrev rowOf (t : Fin cfg0.N) (n : Fin 256) : Fin 4096 := ⟨256 * (t.val % 16) + n.val, by omega⟩

theorem blk0_at (c : Dev nD) (t : Fin cfg0.N) (h : Fin 4) (n k : Fin 256) :
    (iblk m c 0 t : S4x256x256.Idx → EReal) (ix3 h n k)
      = ((if k.val ≤ n.val then decay (lg h.val) (n.val - k.val) else 0 : ℝ) : EReal) := by
  rw [← decays_at m c h n k]
  unfold iblk
  rw [View.read_apply]
  show V m c main_v24 _ = _
  congr 1
  funext a; apply Fin.ext
  have i := (index_tables t).1
  match a with
  | ⟨0, _⟩ => show win0_0.index t 0 * 4 + 1 * h.val = h.val; rw [i]; omega
  | ⟨1, _⟩ => show win0_0.index t 1 * 256 + 1 * n.val = n.val; rw [i]; omega
  | ⟨2, _⟩ => show win0_0.index t 2 * 256 + 1 * k.val = k.val; rw [i]; omega

theorem blk1_at (c : Dev nD) (t : Fin cfg0.N) (h : Fin 4) (n : Fin 256) :
    (iblk m c 1 t : S4x256x1.Idx → EReal) (ix3 h n 0) = ((decay (lg h.val) (n.val + 1) : ℝ) : EReal) := by
  rw [← xi_at m c h n]
  unfold iblk
  rw [View.read_apply]
  show V m c main_v33 _ = _
  congr 1
  funext a; apply Fin.ext
  have i := (index_tables t).2.1
  match a with
  | ⟨0, _⟩ => show win0_1.index t 0 * 4 + 1 * h.val = h.val; rw [i]; omega
  | ⟨1, _⟩ => show win0_1.index t 1 * 256 + 1 * n.val = n.val; rw [i]; omega
  | ⟨2, _⟩ => show win0_1.index t 2 * 1 + 1 * 0 = 0; rw [i]

theorem blk2_at (c : Dev nD) (t : Fin cfg0.N) (h : Fin 4) (n : Fin 256) :
    (iblk m c 2 t : S4x256x1.Idx → EReal) (ix3 h n 0) = ((decay (lg h.val) (256 - 1 - n.val) : ℝ) : EReal) := by
  rw [← zeta_at m c h n]
  unfold iblk
  rw [View.read_apply]
  show V m c main_v42 _ = _
  congr 1
  funext a; apply Fin.ext
  have i := (index_tables t).2.2.1
  match a with
  | ⟨0, _⟩ => show win0_2.index t 0 * 4 + 1 * h.val = h.val; rw [i]; omega
  | ⟨1, _⟩ => show win0_2.index t 1 * 256 + 1 * n.val = n.val; rw [i]; omega
  | ⟨2, _⟩ => show win0_2.index t 2 * 1 + 1 * 0 = 0; rw [i]

theorem blk3_at (c : Dev nD) (t : Fin cfg0.N) (h : Fin 4) :
    (iblk m c 3 t : S4x8x128.Idx → EReal) (ix3 h 0 0) = ((decay (lg h.val) 256 : ℝ) : EReal) := by
  rw [← whole_at m c h 0 0]
  unfold iblk
  rw [View.read_apply]
  show V m c main_v47 _ = _
  congr 1
  funext a; apply Fin.ext
  have i := (index_tables t).2.2.2.1
  match a with
  | ⟨0, _⟩ => show win0_3.index t 0 * 4 + 1 * h.val = h.val; rw [i]; omega
  | ⟨1, _⟩ => show win0_3.index t 1 * 8 + 1 * 0 = 0; rw [i]
  | ⟨2, _⟩ => show win0_3.index t 2 * 128 + 1 * 0 = 0; rw [i]

theorem blk4_at (c : Dev nD) (t : Fin cfg0.N) (n : Fin 256) (j : Fin 1024) :
    (iblk m c 4 t : S1x256x1024.Idx → EReal) (ix3 0 n j)
      = (m ((c : Thread nD τ).loc main_arg0) : S8x4096x1024.Idx → EReal) (ix3 (bOf t) (rowOf t n) j) := by
  rw [← V_main_arg0 m c]
  unfold iblk
  rw [View.read_apply]
  show V m c main_arg0 _ = _
  congr 1
  funext a; apply Fin.ext
  obtain ⟨i0, i1, i2⟩ := (index_rows t).1
  match a with
  | ⟨0, _⟩ => show win0_4.index t 0 * 1 + 1 * 0 = t.val / 16; rw [i0]; omega
  | ⟨1, _⟩ => show win0_4.index t 1 * 256 + 1 * n.val = 256 * (t.val % 16) + n.val; rw [i1]; omega
  | ⟨2, _⟩ => show win0_4.index t 2 * 1024 + 1 * j.val = j.val; rw [i2]; omega

theorem blk5_at (c : Dev nD) (t : Fin cfg0.N) (n : Fin 256) (j : Fin 1024) :
    (iblk m c 5 t : S1x256x1024.Idx → EReal) (ix3 0 n j)
      = (m ((c : Thread nD τ).loc main_arg1) : S8x4096x1024.Idx → EReal) (ix3 (bOf t) (rowOf t n) j) := by
  rw [← V_main_arg1 m c]
  unfold iblk
  rw [View.read_apply]
  show V m c main_arg1 _ = _
  congr 1
  funext a; apply Fin.ext
  obtain ⟨i0, i1, i2⟩ := (index_rows t).2.1
  match a with
  | ⟨0, _⟩ => show win0_5.index t 0 * 1 + 1 * 0 = t.val / 16; rw [i0]; omega
  | ⟨1, _⟩ => show win0_5.index t 1 * 256 + 1 * n.val = 256 * (t.val % 16) + n.val; rw [i1]; omega
  | ⟨2, _⟩ => show win0_5.index t 2 * 1024 + 1 * j.val = j.val; rw [i2]; omega

theorem blk6_at (c : Dev nD) (t : Fin cfg0.N) (n : Fin 256) (j : Fin 2048) :
    (iblk m c 6 t : S1x256x2048.Idx → EReal) (ix3 0 n j)
      = (m ((c : Thread nD τ).loc main_arg2) : S8x4096x2048.Idx → EReal) (ix3 (bOf t) (rowOf t n) j) := by
  rw [← V_main_arg2 m c]
  unfold iblk
  rw [View.read_apply]
  show V m c main_arg2 _ = _
  congr 1
  funext a; apply Fin.ext
  obtain ⟨i0, i1, i2⟩ := (index_rows t).2.2.1
  match a with
  | ⟨0, _⟩ => show win0_6.index t 0 * 1 + 1 * 0 = t.val / 16; rw [i0]; omega
  | ⟨1, _⟩ => show win0_6.index t 1 * 256 + 1 * n.val = 256 * (t.val % 16) + n.val; rw [i1]; omega
  | ⟨2, _⟩ => show win0_6.index t 2 * 2048 + 1 * j.val = j.val; rw [i2]; omega

theorem blk7_at (c : Dev nD) (t : Fin cfg0.N) (n : Fin 256) (j : Fin 2048) :
    (iblk m c 7 t : S1x256x2048.Idx → EReal) (ix3 0 n j)
      = (m ((c : Thread nD τ).loc main_arg3) : S8x4096x2048.Idx → EReal) (ix3 (bOf t) (rowOf t n) j) := by
  rw [← V_main_arg3 m c]
  unfold iblk
  rw [View.read_apply]
  show V m c main_arg3 _ = _
  congr 1
  funext a; apply Fin.ext
  obtain ⟨i0, i1, i2⟩ := (index_rows t).2.2.2
  match a with
  | ⟨0, _⟩ => show win0_7.index t 0 * 1 + 1 * 0 = t.val / 16; rw [i0]; omega
  | ⟨1, _⟩ => show win0_7.index t 1 * 256 + 1 * n.val = 256 * (t.val % 16) + n.val; rw [i1]; omega
  | ⟨2, _⟩ => show win0_7.index t 2 * 2048 + 1 * j.val = j.val; rw [i2]; omega

theorem blk8_at (c : Dev nD) (t : Fin cfg0.N) (j : Fin 2048) :
    (iblk m c 8 t : S1x2048.Idx → EReal) (ix2 0 j) = (m ((c : Thread nD τ).loc main_arg4) : S2048.Idx → EReal) (ix1 j) := by
  have e : (V m c main_v48 : S1x2048.Idx → EReal) (ix2 0 j) = (m ((c : Thread nD τ).loc main_arg4) : S2048.Idx → EReal) (ix1 j) := by
    rw [V_scale]
    pointwise []
  rw [← e]
  unfold iblk
  rw [View.read_apply]
  show V m c main_v48 _ = _
  congr 1
  funext a; apply Fin.ext
  have i := (index_tables t).2.2.2.2
  match a with
  | ⟨0, _⟩ => show win0_8.index t 0 * 1 + 1 * 0 = 0; rw [i]
  | ⟨1, _⟩ => show win0_8.index t 1 * 2048 + 1 * j.val = j.val; rw [i]; omega

/-- The state of batch element `b` after `N` rows, every head. -/
def stateAt (c : Dev nD) (b : Fin 8) (N : ℕ) : S4x256x512.Idx → EReal := fun y =>
  ((headState (m ((c : Thread nD τ).loc main_arg1)) (m ((c : Thread nD τ).loc main_arg2)) b (y 0) (y 1) (y 2) N : ℝ) : EReal)

/-- Before the first chunk the state is zero. -/
theorem stateAt_zero (c : Dev nD) (b : Fin 8) : stateAt m c b 0 = fun _ => 0 := by
  funext y
  unfold stateAt headState
  rw [Retention.state_zero]
  rfl

/-- A point carries the state over the 256 rows of its chunk. -/
theorem point_state (c : Dev nD) (fk : Finite (m ((c : Thread nD τ).loc main_arg1))) (fv : Finite (m ((c : Thread nD τ).loc main_arg2)))
    (t : Fin cfg0.N) :
    blockState (iblk m c 2 t) (iblk m c 3 t) (iblk m c 5 t) (iblk m c 6 t) (stateAt m c (bOf t) (256 * (t.val % 16)))
      = stateAt m c (bOf t) (256 * (t.val % 16) + 256) := by
  funext y
  obtain ⟨h, d, e, rfl⟩ : ∃ (h : Fin 4) (d : Fin 256) (e : Fin 512), y = ix3 h d e := ⟨y 0, y 1, y 2, eq_ix3 (n0 := 4) (n1 := 256) (n2 := 512) y⟩
  show carry _ _ _ _ _ h d e = _
  unfold carry
  rw [blk3_at]
  simp only [blk2_at, blk5_at, blk6_at, Retention.qrow_coe fk, Retention.vrow_coe fv]
  exact Retention.state_step (lg h.val) (fun n => qrow (m ((c : Thread nD τ).loc main_arg1)) (bOf t) h n d)
    (fun n => vrow (m ((c : Thread nD τ).loc main_arg2)) (bOf t) h n e) (256 * (t.val % 16)) 256

/-- The rows of a point's chunk, before normalization, are the rows of the retention. -/
theorem point_mix (c : Dev nD) (fq : Finite (m ((c : Thread nD τ).loc main_arg0))) (fk : Finite (m ((c : Thread nD τ).loc main_arg1)))
    (fv : Finite (m ((c : Thread nD τ).loc main_arg2))) (t : Fin cfg0.N) (h : Fin 4) (n : Fin 256) (e : Fin 512) :
    mix (iblk m c 0 t) (iblk m c 1 t) (iblk m c 4 t) (iblk m c 5 t) (iblk m c 6 t) (stateAt m c (bOf t) (256 * (t.val % 16))) h n e
      = ((headRow (m ((c : Thread nD τ).loc main_arg0)) (m ((c : Thread nD τ).loc main_arg1)) (m ((c : Thread nD τ).loc main_arg2))
          (bOf t) h (256 * (t.val % 16) + n.val) e : ℝ) : EReal) := by
  unfold mix
  simp only [blk0_at, blk1_at, blk4_at, blk5_at, blk6_at, Retention.qrow_coe fq, Retention.qrow_coe fk, Retention.vrow_coe fv]
  exact Retention.row_step (lg h.val) (qrow (m ((c : Thread nD τ).loc main_arg0)) (bOf t) h)
    (qrow (m ((c : Thread nD τ).loc main_arg1)) (bOf t) h) (fun n => vrow (m ((c : Thread nD τ).loc main_arg2)) (bOf t) h n e)
    (256 * (t.val % 16)) 256 n

/-- What every point leaves: its block of the result and its state, over the state of the rows before its chunk. -/
theorem outsAt_eq (c : Dev nD) (fk : Finite (m ((c : Thread nD τ).loc main_arg1))) (fv : Finite (m ((c : Thread nD τ).loc main_arg2))) :
    ∀ (n : ℕ) (hn : n < cfg0.N), outsAt0 m c n hn
      = (blockOut (iblk m c 0 ⟨n, hn⟩) (iblk m c 1 ⟨n, hn⟩) (iblk m c 4 ⟨n, hn⟩) (iblk m c 5 ⟨n, hn⟩) (iblk m c 6 ⟨n, hn⟩)
          (iblk m c 7 ⟨n, hn⟩) (iblk m c 8 ⟨n, hn⟩) (stateAt m c (bOf ⟨n, hn⟩) (256 * (n % 16))),
        stateAt m c (bOf ⟨n, hn⟩) (256 * (n % 16) + 256)) := by
  intro n
  induction n with
  | zero =>
    intro hn
    refine (outsAt0_A m c ⟨0, hn⟩ (Nat.zero_mod _)).trans ?_
    rw [out_A, state_A, ← stateAt_zero m c (bOf ⟨0, hn⟩)]
    exact congrArg (Prod.mk _) (point_state m c fk fv ⟨0, hn⟩)
  | succ n ih =>
    intro hn
    have hN : n + 1 < 128 := lt_of_lt_of_eq hn (show cfg0.N = 128 from N_0)
    by_cases h0 : (n + 1) % 16 = 0
    · refine (outsAt0_A m c ⟨n + 1, hn⟩ h0).trans ?_
      rw [out_A, state_A, ← stateAt_zero m c (bOf ⟨n + 1, hn⟩)]
      have e : 0 = 256 * ((n + 1) % 16) := by omega
      rw [e]
      exact congrArg (Prod.mk _) (point_state m c fk fv ⟨n + 1, hn⟩)
    · refine (outsAt0_B m c ⟨n + 1, hn⟩ h0).trans ?_
      rw [out_B, state_B]
      have hp : (outsAt0 m c ((⟨n + 1, hn⟩ : Fin cfg0.N).val - 1) (Nat.lt_of_le_of_lt (Nat.sub_le _ _) (⟨n + 1, hn⟩ : Fin cfg0.N).isLt)).2
          = stateAt m c (bOf ⟨n + 1, hn⟩) (256 * ((n + 1) % 16)) := by
        refine (congrArg Prod.snd (ih (Nat.lt_of_succ_lt hn))).trans ?_
        show stateAt m c _ _ = _
        congr 1
        · exact Fin.ext (by show n / 16 = (n + 1) / 16; omega)
        · omega
      rw [hp]
      exact congrArg (Prod.mk _) (point_state m c fk fv ⟨n + 1, hn⟩)

/-- The array the kernel leaves is the layer's result. -/
theorem result_at (c : Dev nD) (fq : Finite (m ((c : Thread nD τ).loc main_arg0))) (fk : Finite (m ((c : Thread nD τ).loc main_arg1)))
    (fv : Finite (m ((c : Thread nD τ).loc main_arg2))) (b : Fin 8) (n : Fin 4096) (h : Fin 4) (e : Fin 512) :
    (Cert.KernelIdeal.Value.G9 m c : S8x4096x2048.Idx → EReal) (ix3 b n (vcol h e))
      = retained (m ((c : Thread nD τ).loc main_arg0)) (m ((c : Thread nD τ).loc main_arg1)) (m ((c : Thread nD τ).loc main_arg2))
          (m ((c : Thread nD τ).loc main_arg3)) (m ((c : Thread nD τ).loc main_arg4)) b h n e := by
  have hN : cfg0.N = 128 := N_0
  have hp : Cert.KernelIdeal.Value.pt9Of (ix3 b n (vcol h e)) = 16 * b.val + n.val / 256 := by
    show 16 * (b.val / 1 - 0) + 1 * (n.val / 256 - 0) + 1 * ((512 * h.val + e.val) / 2048 - 0) = _
    omega
  have hlt : Cert.KernelIdeal.Value.pt9Of (ix3 b n (vcol h e)) < cfg0.N := by rw [hp, hN]; omega
  unfold Cert.KernelIdeal.Value.G9
  rw [dif_pos hlt, ← Cert.KernelIdeal.Value.outsAt0_sweep m c _ hlt, outsAt_eq m c fk fv]
  generalize ht : (⟨_, hlt⟩ : Fin cfg0.N) = t
  have htv : t.val = 16 * b.val + n.val / 256 := by rw [← ht]; exact hp
  have hl : Cert.KernelIdeal.Value.loc9Of (ix3 b n (vcol h e)) = (ix3 0 ⟨n.val % 256, by omega⟩ (vcol h e) : S1x256x2048.Idx) := by
    funext a; apply Fin.ext
    match a with
    | ⟨0, _⟩ => show b.val % 1 = 0; omega
    | ⟨1, _⟩ => rfl
    | ⟨2, _⟩ => show (512 * h.val + e.val) % 2048 = 512 * h.val + e.val; omega
  rw [hl]
  have hs : 256 * (Cert.KernelIdeal.Value.pt9Of (ix3 b n (vcol h e)) % 16) = 256 * (t.val % 16) := by rw [← ht]
  rw [hs]
  show blockOut _ _ _ _ _ _ _ _ _ = _
  rw [blockOut_at, blk8_at, blk7_at]
  have hb : bOf t = b := Fin.ext (by show t.val / 16 = b.val; omega)
  have hr : rowOf t ⟨n.val % 256, by omega⟩ = n := Fin.ext (by show 256 * (t.val % 16) + n.val % 256 = n.val; omega)
  have hrv : 256 * (t.val % 16) + n.val % 256 = n.val := congrArg Fin.val hr
  have hm : mix (iblk m c 0 t) (iblk m c 1 t) (iblk m c 4 t) (iblk m c 5 t) (iblk m c 6 t)
      (stateAt m c (bOf t) (256 * (t.val % 16))) h ⟨n.val % 256, by omega⟩
      = fun x => ((headRow (m ((c : Thread nD τ).loc main_arg0)) (m ((c : Thread nD τ).loc main_arg1))
          (m ((c : Thread nD τ).loc main_arg2)) b h n.val x : ℝ) : EReal) := by
    funext x
    refine (point_mix m c fq fk fv t h _ x).trans ?_
    show ((headRow _ _ _ _ _ (256 * (t.val % 16) + n.val % 256) _ : ℝ) : EReal) = _
    rw [hrv, hb]
  unfold retained
  rw [hm, hr, hb]

end Cert.KernelIdeal.Block

end
-- ==== Proof.Entry.lean ====
/-
  WHAT THE REFERENCE'S LOOP STARTS FROM: the queries, keys and values cut in 32 chunks of 128 rows, head by head; each head's decay over
  one chunk, as tables; and the zero state.
-/
module

public import proofs.«01_k».proof.Proof.Gen.ReferenceIdeal.Run
public import proofs.«01_k».proof.Proof.Rows
public import Idealize.ShloMosaic.Lib.Pointwise

@[expose] public section

noncomputable section

namespace Cert.ReferenceIdeal.Loop

open Cert.ReferenceIdeal Cert.ReferenceIdeal.Gen Cert.ReferenceIdeal.Value Idealize.ShloMosaic Idealize.ShloMosaic.TcCoe Idealize.ShloMosaic.StableHlo
open Idealize.SL.Sem
open Retention (decay lg qcol vcol)

variable (m : (ℓ : Loc nD τ sig) → Buf (Elt Ideal) ℓ)

/-- The heads' decays, as the reference computes them. -/
def logs : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

theorem logs_at (h : Fin 4) : logs (ix1 h) = ((lg h.val : ℝ) : EReal) := by
  rw [← Retention.lgE_eq _ (by omega)]
  pointwise [logs]
  rfl

/-- The differences of the rows of a chunk. -/
def diffs : FVec Ideal S128x128 .f32 :=
  subf (broadcastInDim S128x128 ![0, 1] bcast_S128x1_S128x128_0_1 (broadcastInDim S128x1 ![0] bcast_S128_S128x1_0 (sitofp .f32 (iotaInDim S128 32 0))))
    (broadcastInDim S128x128 ![0, 1] bcast_S1x128_S128x128_0_1 (broadcastInDim S1x128 ![1] bcast_S128_S1x128_1 (sitofp .f32 (iotaInDim S128 32 0))))

/-- An array of rows of four heads, cut in chunks of 128 rows and then in heads: row `n` of chunk `j` is row `128 j + n`. -/
theorem chunk_read {α : Type} {W D : ℕ} (hW : W = 4 * D) (x : (⟨3, ![8, 4096, W]⟩ : Shape).Idx → α)
    (h1 : (⟨3, ![8, 4096, W]⟩ : Shape).ShapeCasts ⟨4, ![8, 4096, 4, D]⟩)
    (h2 : (⟨4, ![8, 4096, 4, D]⟩ : Shape).ShapeCasts ⟨5, ![8, 32, 128, 4, D]⟩)
    (h3 : (⟨5, ![8, 32, 128, 4, D]⟩ : Shape).Transposes [1, 0, 3, 2, 4] ⟨5, ![32, 8, 4, 128, D]⟩)
    (j : Fin 32) (b : Fin 8) (h : Fin 4) (n : Fin 128) (d : Fin D) (r : Fin 4096) (hr : r.val = 128 * j.val + n.val)
    (w : Fin W) (hw : w.val = D * h.val + d.val) :
    transpose ⟨5, ![32, 8, 4, 128, D]⟩ [1, 0, 3, 2, 4] (shapeCast ⟨5, ![8, 32, 128, 4, D]⟩ (shapeCast ⟨4, ![8, 4096, 4, D]⟩ x h1) h2) h3
      (ix5 j b h n d) = x (ix3 b r w) := by
  have hrow : b.val * 4096 + r.val = (b.val * 32 + j.val) * 128 + n.val := by omega
  subst hW
  rw [transpose_apply _ _ h3 _ (ix5 b j n h d) (by
      intro a
      match a with
      | ⟨0, _⟩ => rfl
      | ⟨1, _⟩ => rfl
      | ⟨2, _⟩ => rfl
      | ⟨3, _⟩ => rfl
      | ⟨4, _⟩ => rfl),
    shapeCast_apply _ h2 _ (ix4 b r h d) (by
      rw [Shape.rowMajor_val_four, Shape.rowMajor_val_five]
      show ((b.val * 4096 + r.val) * 4 + h.val) * D + d.val = (((b.val * 32 + j.val) * 128 + n.val) * 4 + h.val) * D + d.val
      rw [hrow]),
    shapeCast_apply _ h1 _ (ix3 b r w) (by
      rw [Shape.rowMajor_val_three, Shape.rowMajor_val_four]
      show (b.val * 4096 + r.val) * (4 * D) + w.val = ((b.val * 4096 + r.val) * 4 + h.val) * D + d.val
      rw [hw]; ring)]

/-- The carried buffers when the loop starts. -/
abbrev start (c : Dev nD) (r : Ref sig .tc) : (Proc.devRef .tc r : DevRef τ sig).ty.Contents (Elt Ideal) :=
  entryContents (preI (F := Ideal)) m c (Proc.devRef .tc r)

theorem start_decays (c : Dev nD) : start m c main_v61_3 = select (broadcastInDim S4x128x128 ![1, 2] bcast_S128x128_S4x128x128_1_2
      (cmpf .oge diffs (broadcastInDim S128x128 ![] bcast_S_S128x128 (constant S_ .f32 0x00000000#32))))
    (Host.exp (mulf (broadcastInDim S4x128x128 ![0, 1, 2] bcast_S1x128x128_S4x128x128_0_1_2 (broadcastInDim S1x128x128 ![1, 2] bcast_S128x128_S1x128x128_1_2
      (maximumf diffs (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 logs))))
    (broadcastInDim S4x128x128 ![] bcast_S_S4x128x128 (constant S_ .f32 0x00000000#32)) := by
  simp only [start, entryContents, preI, afterL_cons, afterL_nil]
  after_results
  rfl

/-- Row `n` weighs row `k` of its chunk by the decay between them, and not at all when `k` comes later. -/
theorem decays_at (c : Dev nD) (h : Fin 4) (n k : Fin 128) : (start m c main_v61_3 : S4x128x128.Idx → EReal) (ix3 h n k) = ((if k.val ≤ n.val then decay (lg h.val) (n.val - k.val) else 0 : ℝ) : EReal) := by
  rw [start_decays]
  pointwise [diffs]
  rw [logs_at, Retention.sitofp_nat _ (by omega), Retention.sitofp_nat _ (by omega)]
  exact Retention.decay_entry _ _ _

theorem start_xi (c : Dev nD) : start m c main_v61_4 = broadcastInDim S4x128x1 ![0, 1] bcast_S4x128_S4x128x1_0_1 (Host.exp (mulf
    (broadcastInDim S4x128 ![0, 1] bcast_S1x128_S4x128_0_1 (broadcastInDim S1x128 ![1] bcast_S128_S1x128_1
      (addf (sitofp .f32 (iotaInDim S128 32 0)) (broadcastInDim S128 ![] bcast_S_S128 (constant S_ .f32 0x3F800000#32)))))
    (broadcastInDim S4x128 ![0, 1] bcast_S4x1_S4x128_0_1 (broadcastInDim S4x1 ![0] bcast_S4_S4x1_0 logs)))) := by
  simp only [start, entryContents, preI, afterL_cons, afterL_nil]
  after_results
  rfl

/-- Row `n` reads the state a chunk starts from by the decay over `n + 1` rows. -/
theorem xi_at (c : Dev nD) (h : Fin 4) (n : Fin 128) : (start m c main_v61_4 : S4x128x1.Idx → EReal) (ix3 h n 0) = ((decay (lg h.val) (n.val + 1) : ℝ) : EReal) := by
  rw [start_xi]
  pointwise []
  rw [logs_at, Retention.sitofp_nat _ (by omega)]
  exact Retention.exp_succ _ _

theorem start_zeta (c : Dev nD) : start m c main_v61_6 = broadcastInDim S4x128x1 ![0, 1] bcast_S4x128_S4x128x1_0_1 (Host.exp (mulf
    (broadcastInDim S4x128 ![0, 1] bcast_S1x128_S4x128_0_1 (broadcastInDim S1x128 ![1] bcast_S128_S1x128_1
      (subf (broadcastInDim S128 ![] bcast_S_S128 (constant S_ .f32 0x42FE0000#32)) (sitofp .f32 (iotaInDim S128 32 0)))))
    (broadcastInDim S4x128 ![0, 1] bcast_S4x1_S4x128_0_1 (broadcastInDim S4x1 ![0] bcast_S4_S4x1_0 logs)))) := by
  simp only [start, entryContents, preI, afterL_cons, afterL_nil]
  after_results
  rfl

/-- Row `n` enters the state a chunk leaves by the decay to the end of the chunk. -/
theorem zeta_at (c : Dev nD) (h : Fin 4) (n : Fin 128) : (start m c main_v61_6 : S4x128x1.Idx → EReal) (ix3 h n 0) = ((decay (lg h.val) (128 - 1 - n.val) : ℝ) : EReal) := by
  rw [start_zeta]
  pointwise []
  rw [logs_at, Retention.sitofp_nat _ (by omega), Retention.word_127]
  exact Retention.exp_sub _ 127 n.val (by omega)

theorem start_whole (c : Dev nD) : start m c main_v61_5 = broadcastInDim S4x1x1 ![0] bcast_S4_S4x1x1_0
    (Host.exp (mulf (broadcastInDim S4 ![] bcast_S_S4 (constant S_ .f32 0x43000000#32)) logs)) := by
  simp only [start, entryContents, preI, afterL_cons, afterL_nil]
  after_results
  rfl

/-- The decay of a whole chunk. -/
theorem whole_at (c : Dev nD) (h : Fin 4) : (start m c main_v61_5 : S4x1x1.Idx → EReal) (ix3 h 0 0) = ((decay (lg h.val) 128 : ℝ) : EReal) := by
  rw [start_whole]
  pointwise []
  rw [logs_at, Retention.word_128]
  exact Retention.exp_nat _ 128

theorem start_queries (c : Dev nD) : start m c main_v61_0 = transpose S32x8x4x128x256 [1, 0, 3, 2, 4]
      (shapeCast S8x32x128x4x256 (shapeCast S8x4096x4x256 (m ((c : Thread nD τ).loc main_arg0) : S8x4096x1024.Idx → EReal) shapeCasts_S8x4096x1024_S8x4096x4x256)
        shapeCasts_S8x4096x4x256_S8x32x128x4x256) transposes_S8x32x128x4x256_S32x8x4x128x256_1_0_3_2_4 := by
  simp only [start, entryContents, preI, afterL_cons, afterL_nil]
  after_results
  rfl

/-- Row `n` of chunk `j` of the queries is row `128 j + n`. -/
theorem queries_at (c : Dev nD) (j : Fin 32) (b : Fin 8) (h : Fin 4) (n : Fin 128) (d : Fin 256) :
    (start m c main_v61_0 : S32x8x4x128x256.Idx → EReal) (ix5 j b h n d)
      = (m ((c : Thread nD τ).loc main_arg0) : S8x4096x1024.Idx → EReal) (ix3 b ⟨128 * j.val + n.val, by omega⟩ (qcol h d)) := by
  rw [start_queries]
  exact chunk_read (by decide) _ _ _ _ j b h n d _ rfl _ rfl

theorem start_keys (c : Dev nD) : start m c main_v61_1 = transpose S32x8x4x128x256 [1, 0, 3, 2, 4]
      (shapeCast S8x32x128x4x256 (shapeCast S8x4096x4x256 (m ((c : Thread nD τ).loc main_arg1) : S8x4096x1024.Idx → EReal) shapeCasts_S8x4096x1024_S8x4096x4x256)
        shapeCasts_S8x4096x4x256_S8x32x128x4x256) transposes_S8x32x128x4x256_S32x8x4x128x256_1_0_3_2_4 := by
  simp only [start, entryContents, preI, afterL_cons, afterL_nil]
  after_results
  rfl

/-- Row `n` of chunk `j` of the keys is row `128 j + n`. -/
theorem keys_at (c : Dev nD) (j : Fin 32) (b : Fin 8) (h : Fin 4) (n : Fin 128) (d : Fin 256) :
    (start m c main_v61_1 : S32x8x4x128x256.Idx → EReal) (ix5 j b h n d)
      = (m ((c : Thread nD τ).loc main_arg1) : S8x4096x1024.Idx → EReal) (ix3 b ⟨128 * j.val + n.val, by omega⟩ (qcol h d)) := by
  rw [start_keys]
  exact chunk_read (by decide) _ _ _ _ j b h n d _ rfl _ rfl

theorem start_values (c : Dev nD) : start m c main_v61_2 = transpose S32x8x4x128x512 [1, 0, 3, 2, 4]
      (shapeCast S8x32x128x4x512 (shapeCast S8x4096x4x512 (m ((c : Thread nD τ).loc main_arg2) : S8x4096x2048.Idx → EReal) shapeCasts_S8x4096x2048_S8x4096x4x512)
        shapeCasts_S8x4096x4x512_S8x32x128x4x512) transposes_S8x32x128x4x512_S32x8x4x128x512_1_0_3_2_4 := by
  simp only [start, entryContents, preI, afterL_cons, afterL_nil]
  after_results
  rfl

/-- Row `n` of chunk `j` of the values is row `128 j + n`. -/
theorem values_at (c : Dev nD) (j : Fin 32) (b : Fin 8) (h : Fin 4) (n : Fin 128) (d : Fin 512) :
    (start m c main_v61_2 : S32x8x4x128x512.Idx → EReal) (ix5 j b h n d)
      = (m ((c : Thread nD τ).loc main_arg2) : S8x4096x2048.Idx → EReal) (ix3 b ⟨128 * j.val + n.val, by omega⟩ (vcol h d)) := by
  rw [start_values]
  exact chunk_read (by decide) _ _ _ _ j b h n d _ rfl _ rfl

theorem start_state (c : Dev nD) : start m c main_v61_8 = (fun _ => 0 : S8x4x256x512.Idx → EReal) := by
  simp only [start, entryContents, preI, afterL_cons, afterL_nil]
  after_results
  funext y
  show Ideal.ofBits .f32 0x00000000#32 = 0
  simp [Ideal.ofBits, Ideal.ieee]

end Cert.ReferenceIdeal.Loop

end
-- ==== Proof.Trip.lean ====
/-
  ONE TRIP OF THE REFERENCE'S LOOP, entry by entry: the chunk it takes up, the state it leaves and the rows it writes.
-/
module

public import proofs.«01_k».proof.Proof.Entry
public import Idealize.ShloMosaic.Lib.WordCmp

@[expose] public section

noncomputable section

namespace Cert.ReferenceIdeal.Loop

open Cert.ReferenceIdeal Cert.ReferenceIdeal.Gen Cert.ReferenceIdeal.Value Idealize.ShloMosaic Idealize.ShloMosaic.TcCoe Idealize.ShloMosaic.StableHlo
open Idealize.SL.Sem

/-- The chunk a trip takes up: chunk `k` of the stack. -/
theorem slice_read {α : Type} {D : ℕ} (x : (⟨5, ![32, 8, 4, 128, D]⟩ : Shape).Idx → α) (start : Fin 5 → Int)
    (h1 : (⟨5, ![32, 8, 4, 128, D]⟩ : Shape).Slices (fun _ => 0) ⟨5, ![1, 8, 4, 128, D]⟩)
    (h2 : (⟨5, ![1, 8, 4, 128, D]⟩ : Shape).ShapeCasts ⟨4, ![8, 4, 128, D]⟩)
    (k : Fin 32) (hs : ∀ a, start a = ((![k.val, 0, 0, 0, 0] : Fin 5 → ℕ) a : Int)) (b : Fin 8) (h : Fin 4) (n : Fin 128) (d : Fin D) :
    shapeCast ⟨4, ![8, 4, 128, D]⟩ (Host.dynamicSlice ⟨5, ![1, 8, 4, 128, D]⟩ x start h1) h2 (ix4 b h n d) = x (ix5 k b h n d) := by
  rw [shapeCast_apply _ h2 _ (ix5 0 b h n d) (by
      rw [Shape.rowMajor_val_four, Shape.rowMajor_val_five]
      show (((0 * 8 + b.val) * 4 + h.val) * 128 + n.val) * D + d.val = _
      rw [Nat.zero_mul, Nat.zero_add]
      rfl),
    WordCmp.dynamicSlice_eq_extract _ x start h1 ![k.val, 0, 0, 0, 0] ⟨rfl, fun a => by
      match a with
      | ⟨0, _⟩ => show k.val + 1 ≤ 32; omega
      | ⟨1, _⟩ => show 0 + 8 ≤ 8; omega
      | ⟨2, _⟩ => show 0 + 4 ≤ 4; omega
      | ⟨3, _⟩ => show 0 + 128 ≤ 128; omega
      | ⟨4, _⟩ => show 0 + D ≤ D; omega⟩ hs]
  unfold extractStridedSlice
  refine congrArg x (funext fun a => Fin.ext ?_)
  match a with
  | ⟨0, _⟩ => show k.val + 0 = k.val; omega
  | ⟨1, _⟩ => show 0 + b.val = b.val; omega
  | ⟨2, _⟩ => show 0 + h.val = h.val; omega
  | ⟨3, _⟩ => show 0 + n.val = n.val; omega
  | ⟨4, _⟩ => show 0 + d.val = d.val; omega

/-- The rows a trip writes: chunk `k` of the stack is the update's, the others stay. -/
theorem update_read {α : Type} (x : S32x8x4x128x512.Idx → α) (u : S1x8x4x128x512.Idx → α) (start : Fin 5 → Int)
    (h1 : S32x8x4x128x512.Slices (fun _ => 0) S1x8x4x128x512)
    (k : Fin 32) (hs : ∀ a, start a = ((![k.val, 0, 0, 0, 0] : Fin 5 → ℕ) a : Int)) (j : Fin 32) (b : Fin 8) (h : Fin 4) (n : Fin 128)
    (e : Fin 512) :
    Host.dynamicUpdateSlice x u start h1 (ix5 j b h n e) = if j = k then u (ix5 0 b h n e) else x (ix5 j b h n e) := by
  rw [WordCmp.dynamicUpdateSlice_eq_update x u start h1 ![k.val, 0, 0, 0, 0] ⟨rfl, fun a => by
      match a with
      | ⟨0, _⟩ => show k.val + 1 ≤ 32; omega
      | ⟨1, _⟩ => show 0 + 8 ≤ 8; omega
      | ⟨2, _⟩ => show 0 + 4 ≤ 4; omega
      | ⟨3, _⟩ => show 0 + 128 ≤ 128; omega
      | ⟨4, _⟩ => show 0 + 512 ≤ 512; omega⟩ hs]
  unfold updateSlice
  by_cases hj : j = k
  · subst hj
    rw [if_pos rfl, dif_pos (by
      intro a
      match a with
      | ⟨0, _⟩ => show j.val ≤ j.val ∧ j.val < j.val + 1; omega
      | ⟨1, _⟩ => show 0 ≤ b.val ∧ b.val < 0 + 8; omega
      | ⟨2, _⟩ => show 0 ≤ h.val ∧ h.val < 0 + 4; omega
      | ⟨3, _⟩ => show 0 ≤ n.val ∧ n.val < 0 + 128; omega
      | ⟨4, _⟩ => show 0 ≤ e.val ∧ e.val < 0 + 512; omega)]
    refine congrArg u (funext fun a => Fin.ext ?_)
    match a with
    | ⟨0, _⟩ => show j.val - j.val = 0; omega
    | ⟨1, _⟩ => show b.val - 0 = b.val; omega
    | ⟨2, _⟩ => show h.val - 0 = h.val; omega
    | ⟨3, _⟩ => show n.val - 0 = n.val; omega
    | ⟨4, _⟩ => show e.val - 0 = e.val; omega
  · rw [if_neg hj, dif_neg]
    intro hin
    have := hin ⟨0, by decide⟩
    change k.val ≤ j.val ∧ j.val < k.val + 1 at this
    exact hj (Fin.ext (by omega))

/-- The state a trip leaves, of the decay of a chunk, the state it finds, the keys, their weights and the values. -/
def nextState (g : FVec Ideal S4x1x1 .f32) (s : FVec Ideal S8x4x256x512 .f32) (k : FVec Ideal S8x4x128x256 .f32)
    (z : FVec Ideal S4x128x1 .f32) (v : FVec Ideal S8x4x128x512 .f32) : FVec Ideal S8x4x256x512 .f32 :=
  addf (mulf (broadcastInDim S8x4x256x512 ![0, 1, 2, 3] bcast_S1x4x1x1_S8x4x256x512_0_1_2_3
      (broadcastInDim S1x4x1x1 ![1, 2, 3] bcast_S4x1x1_S1x4x1x1_1_2_3 g)) s)
    (Host.dotGeneral dot_S8x4x128x256_S8x4x128x512_S8x4x256x512_2_2_3_3_01_01 none
      (mulf k (broadcastInDim S8x4x128x256 ![0, 1, 2, 3] bcast_S1x4x128x1_S8x4x128x256_0_1_2_3
        (broadcastInDim S1x4x128x1 ![1, 2, 3] bcast_S4x128x1_S1x4x128x1_1_2_3 z))) v)

theorem nextState_at (g : FVec Ideal S4x1x1 .f32) (s : FVec Ideal S8x4x256x512 .f32) (k : FVec Ideal S8x4x128x256 .f32)
    (z : FVec Ideal S4x128x1 .f32) (v : FVec Ideal S8x4x128x512 .f32) (b : Fin 8) (h : Fin 4) (d : Fin 256) (e : Fin 512) :
    nextState g s k z v (ix4 b h d e) = g (ix3 h 0 0) * s (ix4 b h d e) + ∑ n, k (ix4 b h n d) * z (ix3 h n 0) * v (ix4 b h n e) := by
  pointwise [nextState]

/-- The rows a trip makes, of the queries, keys and values, the decays within the chunk, the state's weights and the state. -/
def nextRows (q k : FVec Ideal S8x4x128x256 .f32) (v : FVec Ideal S8x4x128x512 .f32) (w : FVec Ideal S4x128x128 .f32)
    (x : FVec Ideal S4x128x1 .f32) (s : FVec Ideal S8x4x256x512 .f32) : FVec Ideal S1x8x4x128x512 .f32 :=
  broadcastInDim S1x8x4x128x512 ![1, 2, 3, 4] bcast_S8x4x128x512_S1x8x4x128x512_1_2_3_4
    (addf (Host.dotGeneral dot_S8x4x128x128_S8x4x128x512_S8x4x128x512_3_2_2_3_01_01 none
        (mulf (Host.dotGeneral dot_S8x4x128x256_S8x4x128x256_S8x4x128x128_3_3_2_2_01_01 none q k)
          (broadcastInDim S8x4x128x128 ![0, 1, 2, 3] bcast_S1x4x128x128_S8x4x128x128_0_1_2_3
            (broadcastInDim S1x4x128x128 ![1, 2, 3] bcast_S4x128x128_S1x4x128x128_1_2_3 w))) v)
      (Host.dotGeneral dot_S8x4x128x256_S8x4x256x512_S8x4x128x512_3_2_2_3_01_01 none
        (mulf q (broadcastInDim S8x4x128x256 ![0, 1, 2, 3] bcast_S1x4x128x1_S8x4x128x256_0_1_2_3
          (broadcastInDim S1x4x128x1 ![1, 2, 3] bcast_S4x128x1_S1x4x128x1_1_2_3 x))) s))

theorem nextRows_at (q k : FVec Ideal S8x4x128x256 .f32) (v : FVec Ideal S8x4x128x512 .f32) (w : FVec Ideal S4x128x128 .f32)
    (x : FVec Ideal S4x128x1 .f32) (s : FVec Ideal S8x4x256x512 .f32) (b : Fin 8) (h : Fin 4) (n : Fin 128) (e : Fin 512) :
    nextRows q k v w x s (ix5 0 b h n e)
      = ∑ j, (∑ d, q (ix4 b h n d) * k (ix4 b h j d)) * w (ix3 h n j) * v (ix4 b h j e)
        + ∑ d, q (ix4 b h n d) * x (ix3 h n 0) * s (ix4 b h d e) := by
  pointwise [nextRows]

end Cert.ReferenceIdeal.Loop

end
-- ==== Proof.Loop.lean ====
/-
  THE REFERENCE'S RESULT. By induction over the 32 trips: before trip `k` the carried state is the state of the rows before chunk `k`, and the
  chunks before `k` of the stack hold the rows of the retention. The operations after the loop put the rows in order, normalize and
  gate them: the result is `Retention.retained`.
-/
module

public import proofs.«01_k».proof.Proof.Trip

@[expose] public section

noncomputable section

namespace Cert.ReferenceIdeal.Loop

open Cert.ReferenceIdeal Cert.ReferenceIdeal.Gen Cert.ReferenceIdeal.Value Idealize.ShloMosaic Idealize.ShloMosaic.TcCoe Idealize.ShloMosaic.StableHlo
open Idealize.SL.Sem
open Retention (decay lg qcol vcol gated Finite qrow vrow headState headRow retained)

variable (m : (ℓ : Loc nD τ sig) → Buf (Elt Ideal) ℓ)

/-- The carried buffers before trip `k`. -/
abbrev at_ (c : Dev nD) (k : ℕ) : Valuation τ sig (Elt Ideal) := STEP^[k] (entryContents (preI (F := Ideal)) m c)

theorem at_succ (c : Dev nD) (k : ℕ) : at_ m c (k + 1) = STEP (at_ m c k) := Function.iterate_succ_apply' _ _ _

/-- No trip changes the queries, keys, values and tables. -/
theorem at_kept (c : Dev nD) (k : ℕ) :
    at_ m c k (Proc.devRef .tc main_v61_0) = start m c main_v61_0 ∧ at_ m c k (Proc.devRef .tc main_v61_1) = start m c main_v61_1
    ∧ at_ m c k (Proc.devRef .tc main_v61_2) = start m c main_v61_2 ∧ at_ m c k (Proc.devRef .tc main_v61_3) = start m c main_v61_3
    ∧ at_ m c k (Proc.devRef .tc main_v61_4) = start m c main_v61_4 ∧ at_ m c k (Proc.devRef .tc main_v61_5) = start m c main_v61_5
    ∧ at_ m c k (Proc.devRef .tc main_v61_6) = start m c main_v61_6 := by
  induction k with
  | zero => exact ⟨rfl, rfl, rfl, rfl, rfl, rfl, rfl⟩
  | succ k ih =>
    rw [at_succ]
    exact ⟨(STEP_main_v61_0 _).trans ih.1, (STEP_main_v61_1 _).trans ih.2.1, (STEP_main_v61_2 _).trans ih.2.2.1,
      (STEP_main_v61_3 _).trans ih.2.2.2.1, (STEP_main_v61_4 _).trans ih.2.2.2.2.1, (STEP_main_v61_5 _).trans ih.2.2.2.2.2.1,
      (STEP_main_v61_6 _).trans ih.2.2.2.2.2.2⟩

/-- The counter counts the trips. -/
theorem at_counter (c : Dev nD) (k : ℕ) : at_ m c k (Proc.devRef .tc main_v61_7) = (fun _ => BitVec.ofNat 32 k : S_.Idx → BitVec 32) := by
  induction k with
  | zero => exact ctr_entry m c
  | succ k ih =>
    rw [at_succ, STEP_main_v61_7]
    unfold step_main_v61_7
    rw [ih]
    funext y
    show BitVec.ofNat 32 k + 1#32 = BitVec.ofNat 32 (k + 1)
    rw [← BitVec.ofNat_add]

/-- The start of the chunk a trip reads and writes. -/
theorem counter_start (c : Dev nD) (k : Fin 32) (a : Fin 5) :
    (((![at_ m c k.val (Proc.devRef .tc main_v61_7), constantI S_ 32 0#32, constantI S_ 32 0#32, constantI S_ 32 0#32, constantI S_ 32 0#32]
      : Fin 5 → (⟨S_, .i32⟩ : BufTy).Contents (Elt Ideal))) a (Shape.Idx.first h_S_)).toInt
      = ((![k.val, 0, 0, 0, 0] : Fin 5 → ℕ) a : Int) := by
  match a with
  | ⟨0, _⟩ =>
    show BitVec.toInt (at_ m c k.val (Proc.devRef .tc main_v61_7) (Shape.Idx.first h_S_) : BitVec 32) = (k.val : Int)
    rw [at_counter]
    exact WordCmp.toInt_ofNat_of_lt (by have := k.isLt; omega)
  | ⟨1, _⟩ => rfl
  | ⟨2, _⟩ => rfl
  | ⟨3, _⟩ => rfl
  | ⟨4, _⟩ => rfl

/-- The queries trip `k` takes up: row `n` is row `128 k + n`. -/
theorem chunk_q (c : Dev nD) (f : Finite (m ((c : Thread nD τ).loc main_arg0))) (k : Fin 32) (b : Fin 8) (h : Fin 4) (n : Fin 128) (d : Fin 256) :
    (res_main_while0b_v90 (at_ m c k.val) : S8x4x128x256.Idx → EReal) (ix4 b h n d)
      = ((qrow (m ((c : Thread nD τ).loc main_arg0)) b h (128 * k.val + n.val) d : ℝ) : EReal) := by
  unfold res_main_while0b_v90
  refine (slice_read _ _ _ _ k (counter_start m c k) b h n d).trans ?_
  rw [(at_kept m c k.val).1]
  exact (queries_at m c k b h n d).trans (Retention.qrow_coe f b h _ _ d)

/-- The keys trip `k` takes up. -/
theorem chunk_k (c : Dev nD) (f : Finite (m ((c : Thread nD τ).loc main_arg1))) (k : Fin 32) (b : Fin 8) (h : Fin 4) (n : Fin 128) (d : Fin 256) :
    (res_main_while0b_v91 (at_ m c k.val) : S8x4x128x256.Idx → EReal) (ix4 b h n d)
      = ((qrow (m ((c : Thread nD τ).loc main_arg1)) b h (128 * k.val + n.val) d : ℝ) : EReal) := by
  unfold res_main_while0b_v91
  refine (slice_read _ _ _ _ k (counter_start m c k) b h n d).trans ?_
  rw [(at_kept m c k.val).2.1]
  exact (keys_at m c k b h n d).trans (Retention.qrow_coe f b h _ _ d)

/-- The values trip `k` takes up. -/
theorem chunk_v (c : Dev nD) (f : Finite (m ((c : Thread nD τ).loc main_arg2))) (k : Fin 32) (b : Fin 8) (h : Fin 4) (n : Fin 128) (e : Fin 512) :
    (res_main_while0b_v92 (at_ m c k.val) : S8x4x128x512.Idx → EReal) (ix4 b h n e)
      = ((vrow (m ((c : Thread nD τ).loc main_arg2)) b h (128 * k.val + n.val) e : ℝ) : EReal) := by
  unfold res_main_while0b_v92
  refine (slice_read _ _ _ _ k (counter_start m c k) b h n e).trans ?_
  rw [(at_kept m c k.val).2.2.1]
  exact (values_at m c k b h n e).trans (Retention.vrow_coe f b h _ _ e)

/-- Before trip `k` the state is the state of the rows before chunk `k`. -/
theorem state_at (c : Dev nD) (fk : Finite (m ((c : Thread nD τ).loc main_arg1))) (fv : Finite (m ((c : Thread nD τ).loc main_arg2)))
    (b : Fin 8) (h : Fin 4) (d : Fin 256) (e : Fin 512) (k : ℕ) (hk : k ≤ 32) :
    (at_ m c k (Proc.devRef .tc main_v61_8) : S8x4x256x512.Idx → EReal) (ix4 b h d e)
      = ((headState (m ((c : Thread nD τ).loc main_arg1)) (m ((c : Thread nD τ).loc main_arg2)) b h d e (128 * k) : ℝ) : EReal) := by
  induction k with
  | zero =>
    show (start m c main_v61_8 : S8x4x256x512.Idx → EReal) (ix4 b h d e) = _
    rw [start_state]
    unfold headState
    rw [Nat.mul_zero, Retention.state_zero]
    rfl
  | succ k ih =>
    rw [at_succ, STEP_main_v61_8]
    show nextState (at_ m c k (Proc.devRef .tc main_v61_5)) (at_ m c k (Proc.devRef .tc main_v61_8)) (res_main_while0b_v91 (at_ m c k))
      (at_ m c k (Proc.devRef .tc main_v61_6)) (res_main_while0b_v92 (at_ m c k)) (ix4 b h d e) = _
    refine (nextState_at _ _ _ _ _ b h d e).trans ?_
    have hq := chunk_k m c fk ⟨k, by omega⟩
    have hv := chunk_v m c fv ⟨k, by omega⟩
    rw [(at_kept m c k).2.2.2.2.2.1, (at_kept m c k).2.2.2.2.2.2]
    refine Eq.trans (congrArg₂ (· + ·) (congrArg₂ (· * ·) (whole_at m c h) (ih (by omega)))
      (Finset.sum_congr rfl fun n _ => congrArg₂ (· * ·) (congrArg₂ (· * ·) (hq b h n d) (zeta_at m c h n)) (hv b h n e))) ?_
    exact Retention.state_step (lg h.val) (fun n => qrow (m ((c : Thread nD τ).loc main_arg1)) b h n d)
      (fun n => vrow (m ((c : Thread nD τ).loc main_arg2)) b h n e) (128 * k) 128

/-- The rows trip `k` makes are the rows of the retention in chunk `k`. -/
theorem rows_at (c : Dev nD) (fq : Finite (m ((c : Thread nD τ).loc main_arg0))) (fk : Finite (m ((c : Thread nD τ).loc main_arg1)))
    (fv : Finite (m ((c : Thread nD τ).loc main_arg2))) (k : Fin 32) (b : Fin 8) (h : Fin 4) (n : Fin 128) (e : Fin 512) :
    nextRows (res_main_while0b_v90 (at_ m c k.val)) (res_main_while0b_v91 (at_ m c k.val)) (res_main_while0b_v92 (at_ m c k.val))
        (at_ m c k.val (Proc.devRef .tc main_v61_3)) (at_ m c k.val (Proc.devRef .tc main_v61_4)) (at_ m c k.val (Proc.devRef .tc main_v61_8))
        (ix5 0 b h n e)
      = ((headRow (m ((c : Thread nD τ).loc main_arg0)) (m ((c : Thread nD τ).loc main_arg1)) (m ((c : Thread nD τ).loc main_arg2)) b h
          (128 * k.val + n.val) e : ℝ) : EReal) := by
  refine (nextRows_at _ _ _ _ _ _ b h n e).trans ?_
  rw [(at_kept m c k.val).2.2.2.1, (at_kept m c k.val).2.2.2.2.1]
  refine Eq.trans (congrArg₂ (· + ·)
    (Finset.sum_congr rfl fun j _ => congrArg₂ (· * ·) (congrArg₂ (· * ·)
      (Finset.sum_congr rfl fun d _ => congrArg₂ (· * ·) (chunk_q m c fq k b h n d) (chunk_k m c fk k b h j d)) (decays_at m c h n j))
      (chunk_v m c fv k b h j e))
    (Finset.sum_congr rfl fun d _ => congrArg₂ (· * ·) (congrArg₂ (· * ·) (chunk_q m c fq k b h n d) (xi_at m c h n))
      (state_at m c fk fv b h d e k.val (by omega)))) ?_
  exact Retention.row_step (lg h.val) (qrow (m ((c : Thread nD τ).loc main_arg0)) b h) (qrow (m ((c : Thread nD τ).loc main_arg1)) b h)
    (fun n => vrow (m ((c : Thread nD τ).loc main_arg2)) b h n e) (128 * k.val) 128 n

/-- A trip writes the rows it makes in the chunk its counter names. -/
theorem step_stack (V0 : Valuation τ sig (Elt Ideal)) : step_main_v61_9 V0
    = Host.dynamicUpdateSlice (s := S32x8x4x128x512) (V0 (Proc.devRef .tc main_v61_9))
      (nextRows (res_main_while0b_v90 V0) (res_main_while0b_v91 V0) (res_main_while0b_v92 V0)
        (V0 (Proc.devRef .tc main_v61_3)) (V0 (Proc.devRef .tc main_v61_4)) (V0 (Proc.devRef .tc main_v61_8)))
      (fun k => (((![V0 (Proc.devRef .tc main_v61_7), constantI S_ 32 0#32, constantI S_ 32 0#32, constantI S_ 32 0#32, constantI S_ 32 0#32]
        : Fin 5 → (⟨S_, .i32⟩ : BufTy).Contents (Elt Ideal))) k (Shape.Idx.first h_S_)).toInt)
      updateFits_S32x8x4x128x512_S1x8x4x128x512 := by
  unfold step_main_v61_9 nextRows
  rfl

/-- Before trip `k` the chunks of the stack before `k` hold the rows of the retention. -/
theorem stack_at (c : Dev nD) (fq : Finite (m ((c : Thread nD τ).loc main_arg0))) (fk : Finite (m ((c : Thread nD τ).loc main_arg1)))
    (fv : Finite (m ((c : Thread nD τ).loc main_arg2))) (j : Fin 32) (b : Fin 8) (h : Fin 4) (n : Fin 128) (e : Fin 512) (k : ℕ)
    (hk : k ≤ 32) (hj : j.val < k) :
    (at_ m c k (Proc.devRef .tc main_v61_9) : S32x8x4x128x512.Idx → EReal) (ix5 j b h n e)
      = ((headRow (m ((c : Thread nD τ).loc main_arg0)) (m ((c : Thread nD τ).loc main_arg1)) (m ((c : Thread nD τ).loc main_arg2)) b h
          (128 * j.val + n.val) e : ℝ) : EReal) := by
  induction k with
  | zero => omega
  | succ k ih =>
    rw [at_succ, STEP_main_v61_9, step_stack]
    refine (update_read _ _ _ updateFits_S32x8x4x128x512_S1x8x4x128x512 ⟨k, by omega⟩ (counter_start m c ⟨k, by omega⟩) j b h n e).trans ?_
    by_cases e' : j = ⟨k, by omega⟩
    · rw [if_pos e']
      obtain rfl : j.val = k := congrArg Fin.val e'
      exact rows_at m c fq fk fv j b h n e
    · rw [if_neg e']
      have : j.val ≠ k := fun hh => e' (Fin.ext hh)
      exact ih (by omega) (by omega)

/-- The means of the columns of each head's rows. -/
def means (y : FVec Ideal S8x4096x4x512 .f32) : FVec Ideal S8x4096x4x1 .f32 :=
  Host.divf (broadcastInDim S8x4096x4x1 ![0, 1, 2] bcast_S8x4096x4_S8x4096x4x1_0_1_2
    (Host.reduceAdd y (constant S_ .f32 0x00000000#32) reducesTo_S8x4096x4x512_S8x4096x4_d3 h_S_))
    (broadcastInDim S8x4096x4x1 ![] bcast_S_S8x4096x4x1 (constant S_ .f32 0x44000000#32))

/-- The rows, normalized over the columns of each head. -/
def normed (y : FVec Ideal S8x4096x4x512 .f32) : FVec Ideal S8x4096x4x512 .f32 :=
  mulf (subf y (broadcastInDim S8x4096x4x512 ![0, 1, 2, 3] bcast_S8x4096x4x1_S8x4096x4x512_0_1_2_3 (means y)))
    (broadcastInDim S8x4096x4x512 ![0, 1, 2, 3] bcast_S8x4096x4x1_S8x4096x4x512_0_1_2_3
      (Host.rsqrt (addf (means (mulf
          (subf y (broadcastInDim S8x4096x4x512 ![0, 1, 2, 3] bcast_S8x4096x4x1_S8x4096x4x512_0_1_2_3 (means y)))
          (subf y (broadcastInDim S8x4096x4x512 ![0, 1, 2, 3] bcast_S8x4096x4x1_S8x4096x4x512_0_1_2_3 (means y)))))
        (broadcastInDim S8x4096x4x1 ![] bcast_S_S8x4096x4x1 (constant S_ .f32 0x358637BD#32)))))

theorem means_at (y : FVec Ideal S8x4096x4x512 .f32) (b : Fin 8) (r : Fin 4096) (h : Fin 4) :
    means y (ix4 b r h 0) = Ideal.div (∑ x, y (ix4 b r h x)) (Ideal.ofBits FTy.f32 0x44000000#32) := by
  pointwise [means]

theorem normed_at (y : FVec Ideal S8x4096x4x512 .f32) (b : Fin 8) (r : Fin 4096) (h : Fin 4) (e : Fin 512) :
    normed y (ix4 b r h e) = (y (ix4 b r h e) - Ideal.div (∑ x, y (ix4 b r h x)) (Ideal.ofBits FTy.f32 0x44000000#32))
      * Ideal.rsqrt
          (Ideal.div
              (∑ x,
                (y (ix4 b r h x) - Ideal.div (∑ x, y (ix4 b r h x)) (Ideal.ofBits FTy.f32 0x44000000#32))
                  * (y (ix4 b r h x) - Ideal.div (∑ x, y (ix4 b r h x)) (Ideal.ofBits FTy.f32 0x44000000#32)))
              (Ideal.ofBits FTy.f32 0x44000000#32)
            + Ideal.ofBits FTy.f32 0x358637BD#32) := by
  pointwise [normed, means]

/-- The normalized rows, scaled and gated. -/
def finish (y : FVec Ideal S8x4096x4x512 .f32) (gate : FVec Ideal S8x4096x2048 .bf16) (gn : FVec Ideal S2048 .f32) :
    FVec Ideal S8x4096x2048 .bf16 :=
  truncf .bf16 (mulf (mulf (extf .f32 gate bitsLt_bf16_f32)
      (Host.divf (broadcastInDim S8x4096x2048 ![] bcast_S_S8x4096x2048 (constant S_ .f32 0x3F800000#32))
        (addf (broadcastInDim S8x4096x2048 ![] bcast_S_S8x4096x2048 (constant S_ .f32 0x3F800000#32))
          (Host.exp (Host.negf (extf .f32 gate bitsLt_bf16_f32))))))
    (mulf (shapeCast S8x4096x2048 (normed y) shapeCasts_S8x4096x4x512_S8x4096x2048)
      (broadcastInDim S8x4096x2048 ![0, 1, 2] bcast_S1x1x2048_S8x4096x2048_0_1_2
        (broadcastInDim S1x1x2048 ![2] bcast_S2048_S1x1x2048_2 gn)))) bitsLt_bf16_f32

theorem finish_at (y : FVec Ideal S8x4096x4x512 .f32) (gate : FVec Ideal S8x4096x2048 .bf16) (gn : FVec Ideal S2048 .f32)
    (b : Fin 8) (r : Fin 4096) (h : Fin 4) (e : Fin 512) :
    finish y gate gn (ix3 b r (vcol h e))
      = gated (fun x => y (ix4 b r h x)) (gn (ix1 (vcol h e))) (gate (ix3 b r (vcol h e))) e := by
  have hc : shapeCast S8x4096x2048 (normed y) shapeCasts_S8x4096x4x512_S8x4096x2048 (ix3 b r (vcol h e)) = normed y (ix4 b r h e) := by
    refine shapeCast_apply _ _ _ _ ?_
    rw [Shape.rowMajor_val_three, Shape.rowMajor_val_four]
    show ((b.val * 4096 + r.val) * 4 + h.val) * 512 + e.val = (b.val * 4096 + r.val) * 2048 + (512 * h.val + e.val)
    omega
  unfold gated
  rw [← normed_at, ← hc]
  unfold finish
  generalize shapeCast S8x4096x2048 (normed y) shapeCasts_S8x4096x4x512_S8x4096x2048 = z
  generalize vcol h e = w
  pointwise []
  unfold Ideal.logistic
  rfl

/-- The stack's chunks put in order: row `128 j + n` is row `n` of chunk `j`. -/
theorem ordered_at {α : Type} (y : S32x8x4x128x512.Idx → α) (b : Fin 8) (r : Fin 4096) (h : Fin 4) (e : Fin 512) (j : Fin 32) (n : Fin 128)
    (hr : r.val = 128 * j.val + n.val) :
    shapeCast S8x4096x4x512 (transpose S8x32x128x4x512 [1, 0, 3, 2, 4] y transposes_S32x8x4x128x512_S8x32x128x4x512_1_0_3_2_4)
      shapeCasts_S8x32x128x4x512_S8x4096x4x512 (ix4 b r h e) = y (ix5 j b h n e) := by
  have hrow : b.val * 4096 + r.val = (b.val * 32 + j.val) * 128 + n.val := by omega
  rw [shapeCast_apply _ _ _ (ix5 b j n h e) (by
      rw [Shape.rowMajor_val_four, Shape.rowMajor_val_five]
      show (((b.val * 32 + j.val) * 128 + n.val) * 4 + h.val) * 512 + e.val = ((b.val * 4096 + r.val) * 4 + h.val) * 512 + e.val
      rw [hrow])]
  refine transpose_apply _ _ _ _ (ix5 j b h n e) ?_
  intro a
  match a with
  | ⟨0, _⟩ => rfl
  | ⟨1, _⟩ => rfl
  | ⟨2, _⟩ => rfl
  | ⟨3, _⟩ => rfl
  | ⟨4, _⟩ => rfl

/-- The operations after the loop order the stack, normalize, scale and gate. -/
theorem out_eq (V0 : Valuation τ sig (Elt Ideal)) : out_main_v89 V0
    = finish (shapeCast S8x4096x4x512 (transpose S8x32x128x4x512 [1, 0, 3, 2, 4] (V0 (Proc.devRef .tc main_v61_9))
        transposes_S32x8x4x128x512_S8x32x128x4x512_1_0_3_2_4) shapeCasts_S8x32x128x4x512_S8x4096x4x512)
      (V0 (Proc.devRef .tc main_arg3)) (V0 (Proc.devRef .tc main_arg4)) := by
  unfold out_main_v89 finish
  refine congrArg (fun z => truncf (s := S8x4096x2048) .bf16 z bitsLt_bf16_f32) ?_
  refine congrArg₂ (mulf (F := Ideal) (s := S8x4096x2048) (φ := .f32)) ?_ ?_
  · rfl
  refine congrArg₂ (mulf (F := Ideal) (s := S8x4096x2048) (φ := .f32)) ?_ ?_
  · refine congrArg (fun z => shapeCast S8x4096x2048 z shapeCasts_S8x4096x4x512_S8x4096x2048) ?_
    unfold normed
    refine congrArg₂ (mulf (F := Ideal) (s := S8x4096x4x512) (φ := .f32)) ?_ ?_
    · unfold means
      rfl
    · unfold means
      rfl
  · rfl

/-- The reference's result is the layer's. -/
theorem result_at (c : Dev nD) (fq : Finite (m ((c : Thread nD τ).loc main_arg0))) (fk : Finite (m ((c : Thread nD τ).loc main_arg1)))
    (fv : Finite (m ((c : Thread nD τ).loc main_arg2))) (b : Fin 8) (n : Fin 4096) (h : Fin 4) (e : Fin 512) :
    (out_main_v89 (STEP^[32] (entryContents (preI (F := Ideal)) m c)) : S8x4096x2048.Idx → EReal) (ix3 b n (vcol h e))
      = retained (m ((c : Thread nD τ).loc main_arg0)) (m ((c : Thread nD τ).loc main_arg1)) (m ((c : Thread nD τ).loc main_arg2))
          (m ((c : Thread nD τ).loc main_arg3)) (m ((c : Thread nD τ).loc main_arg4)) b h n e := by
  rw [out_eq, iter_main_arg3, iter_main_arg4]
  refine (finish_at _ _ _ b n h e).trans ?_
  unfold retained
  refine congrArg (fun o => gated o ((m ((c : Thread nD τ).loc main_arg4) : S2048.Idx → EReal) (ix1 (vcol h e)))
    ((m ((c : Thread nD τ).loc main_arg3) : S8x4096x2048.Idx → EReal) (ix3 b n (vcol h e))) e) (funext fun x => ?_)
  have hn : n.val = 128 * (n.val / 128) + n.val % 128 := by omega
  refine (ordered_at _ b n h x ⟨n.val / 128, by omega⟩ ⟨n.val % 128, by omega⟩ hn).trans ?_
  refine (stack_at m c fq fk fv _ b h _ x 32 (le_refl _) (by show n.val / 128 < 32; omega)).trans ?_
  show ((headRow _ _ _ _ _ (128 * (n.val / 128) + n.val % 128) _ : ℝ) : EReal) = _
  rw [← hn]

end Cert.ReferenceIdeal.Loop

end
-- ==== Proof.Feed.lean ====
/-
  ONE ROW OF THE FEED-FORWARD PART. A row of the hidden state gains the mixer's output through a product, then the
  feed-forward part of its normalized self, and at the last layer it is normalized once more. The sum over the 4096 inner
  columns is the sum of the sums over four tiles of 1024.
-/
module

public import Idealize.ShloMosaic.PureOps.Ideal
public import Idealize.ShloMosaic.Lib.Pointwise
public import Idealize.ShloMosaic.Lib.Pipeline.Value

@[expose] public section

noncomputable section

namespace Feed

open Idealize.ShloMosaic

/-- A row divided by its root mean square and scaled by `g`: column `j`. -/
def scaled (h : Fin 1024 → EReal) (g : EReal) (j : Fin 1024) : EReal :=
  h j * Ideal.rsqrt (Ideal.div (∑ x, h x * h x) (Ideal.ofBits FTy.f32 0x44800000#32) + Ideal.ofBits FTy.f32 0x358637BD#32) * g

/-- An entry of the hidden state with the mixer's output added: `x + ∑ k, y k * w k`. -/
def mixed {K : ℕ} (x : EReal) (y w : Fin K → EReal) : EReal := x + ∑ k, y k * w k

/-- The square of the positive part. -/
def squared (x : EReal) : EReal := max x 0 * max x 0

/-- One inner column's share of an entry: the squared positive part of the row's product with `up`, times `down`. -/
def share (n up : Fin 1024 → EReal) (down : EReal) : EReal := squared (∑ k, n k * up k) * down

/-- A row after the feed-forward part: column `j`. -/
def fed (h : Fin 1024 → EReal) (g : Fin 1024 → EReal) (up : Fin 1024 → Fin 4096 → EReal) (down : Fin 4096 → Fin 1024 → EReal)
    (j : Fin 1024) : EReal :=
  h j + ∑ f, share (fun k => scaled h (g k) k) (fun k => up k f) (down f j)

/-- Column `f` of tile `t` of the inner columns. -/
abbrev tcol (t : Fin 4) (f : Fin 1024) : Fin 4096 := ⟨1024 * t.val + f.val, by omega⟩

theorem sum_tiles (F : Fin 4096 → EReal) :
    ∑ f, F f = ∑ f, F (tcol 0 f) + ∑ f, F (tcol 1 f) + ∑ f, F (tcol 2 f) + ∑ f, F (tcol 3 f) := by
  have e : ∑ f, F f = ∑ p : Fin 4 × Fin 1024, F (tcol p.1 p.2) := by
    refine (Fintype.sum_bijective (fun p : Fin 4 × Fin 1024 => tcol p.1 p.2) ⟨?_, ?_⟩ _ _ fun _ => rfl).symm
    · rintro ⟨a, b⟩ ⟨a', b'⟩ h
      have h' : 1024 * a.val + b.val = 1024 * a'.val + b'.val := congrArg Fin.val h
      exact Prod.ext (Fin.ext (by show a.val = a'.val; omega)) (Fin.ext (by show b.val = b'.val; omega))
    · intro f
      exact ⟨(⟨f.val / 1024, by omega⟩, ⟨f.val % 1024, by omega⟩), Fin.ext (by show 1024 * (f.val / 1024) + f.val % 1024 = f.val; omega)⟩
  rw [e, Fintype.sum_prod_type, Fin.sum_univ_four]

/-- A load of 1024 columns of the one weight from column `1024 * t`. -/
theorem ld_cols {e : EltTy} (x : (⟨2, ![1024, 4096]⟩ : Shape).Idx → Elt Ideal e) (t : Fin 4) (o : ℕ) (ho : o = 1024 * t.val) (inb) (k f : Fin 1024) :
    View.ld (Val := Elt Ideal) (e' := e) x (Rect.unit ![0, o] ![1024, 1024] inb) (ix2 k f) = x (ix2 k (tcol t f)) := by
  refine congrArg x (funext fun a => Fin.ext ?_)
  match a with
  | ⟨0, _⟩ => show 0 + 1 * k.val = k.val; omega
  | ⟨1, _⟩ => show o + 1 * f.val = 1024 * t.val + f.val; omega

/-- A load of 1024 rows of the other weight from row `1024 * t`. -/
theorem ld_rows {e : EltTy} (x : (⟨2, ![4096, 1024]⟩ : Shape).Idx → Elt Ideal e) (t : Fin 4) (o : ℕ) (ho : o = 1024 * t.val) (inb) (f c : Fin 1024) :
    View.ld (Val := Elt Ideal) (e' := e) x (Rect.unit ![o, 0] ![1024, 1024] inb) (ix2 f c) = x (ix2 (tcol t f) c) := by
  refine congrArg x (funext fun a => Fin.ext ?_)
  match a with
  | ⟨0, _⟩ => show o + 1 * f.val = 1024 * t.val + f.val; omega
  | ⟨1, _⟩ => show 0 + 1 * c.val = c.val; omega

theorem zero_offsets : (![0, 0] : Fin 2 → Nat) = fun _ => 0 := by funext a; fin_cases a <;> rfl

end Feed

end
-- ==== Proof.FirstBlock.lean ====
/-
  WHAT ONE GRID POINT OF THE FIRST OUTPUT PROJECTION LEAVES in its block of 512 rows, read at an index over the extended
  reals: the rows of `Feed.fed`, the inner columns summed tile by tile.
-/
module

public import proofs.«01_k».proof.Proof.Gen.FirstIdeal.Value
public import proofs.«01_k».proof.Proof.Feed
public import Idealize.ShloMosaic.Lib.Pipeline.ReadBack

@[expose] public section

noncomputable section

namespace Cert.FirstIdeal.Block

open Cert.FirstIdeal Cert.FirstIdeal.Gen Idealize.ShloMosaic Idealize.ShloMosaic.TcCoe Idealize.SL.Sem
open Feed (scaled mixed squared share fed tcol ld_cols ld_rows zero_offsets)

theorem mixed_at (v0 : Vec Ideal S512x1024 .f32) (v1 : Vec Ideal S512x1024 .bf16) (v2 : Vec Ideal S1024x1024 .bf16)
    (r : Fin 512) (j : Fin 1024) :
    k0_pay2 v0 v1 v2 (ix2 r j) = mixed (v0 (ix2 r j)) (fun k => v1 (ix2 r k)) (fun k => v2 (ix2 k j)) := by
  pointwise [k0_pay2, mixed]

theorem scaled_at (v0 : Vec Ideal S512x1024 .f32) (v1 : Vec Ideal S512x1024 .bf16) (v2 : Vec Ideal S1024x1024 .bf16)
    (v6 : Vec Ideal S1x1024 .f32) (r : Fin 512) (j : Fin 1024) :
    k0_pay3 v0 v1 v2 v6 (ix2 r j) = scaled (fun x => k0_pay2 v0 v1 v2 (ix2 r x)) (v6 (ix2 0 j)) j := by
  pointwise [k0_pay3, scaled]

theorem first_at (v0 : Vec Ideal S512x1024 .f32) (v1 : Vec Ideal S512x1024 .bf16) (v2 : Vec Ideal S1024x1024 .bf16)
    (v6 : Vec Ideal S1x1024 .f32) (u d : Vec Ideal S1024x1024 .bf16) (r : Fin 512) (j : Fin 1024) :
    k0_pay4 v0 v1 v2 v6 u d (ix2 r j)
      = ∑ f, share (fun k => k0_pay3 v0 v1 v2 v6 (ix2 r k)) (fun k => u (ix2 k f)) (d (ix2 f j)) := by
  pointwise [k0_pay4, share, squared]

theorem second_at (v0 : Vec Ideal S512x1024 .f32) (v1 : Vec Ideal S512x1024 .bf16) (v2 : Vec Ideal S1024x1024 .bf16)
    (v6 : Vec Ideal S1x1024 .f32) (u : Vec Ideal S1024x1024 .bf16) (r : Fin 512) (f : Fin 1024) :
    k0_pay5 v0 v1 v2 v6 u (ix2 r f) = ∑ k, k0_pay3 v0 v1 v2 v6 (ix2 r k) * u (ix2 k f) := by
  pointwise [k0_pay5]

theorem sum_at (h : FVec Ideal S512x1024 .f32) (n : FVec Ideal S512x1024 .bf16) (s0 p1 : FVec Ideal S512x1024 .f32)
    (d1 u2 d2 u3 d3 : Vec Ideal S1024x1024 .bf16) (r : Fin 512) (j : Fin 1024) :
    k0_pay1 h n s0 p1 d1 u2 d2 u3 d3 (ix2 r j)
      = h (ix2 r j) + (s0 (ix2 r j) + ∑ f, squared (p1 (ix2 r f)) * d1 (ix2 f j)
          + ∑ f, share (fun k => n (ix2 r k)) (fun k => u2 (ix2 k f)) (d2 (ix2 f j))
          + ∑ f, share (fun k => n (ix2 r k)) (fun k => u3 (ix2 k f)) (d3 (ix2 f j))) := by
  pointwise [k0_pay1, share, squared]

/-- The row of the hidden state that row `r` of the block becomes once the mixer's output is added. -/
def row (x0 : S512x1024.Idx → EReal) (x1 : S512x1024.Idx → EReal) (x2 : S1024x1024.Idx → EReal) (r : Fin 512) (j : Fin 1024) : EReal :=
  mixed (x0 (ix2 r j)) (fun k => x1 (ix2 r k)) (fun k => x2 (ix2 k j))

/-- Entry `(r, j)` of what a point leaves, from its input blocks. -/
def blockOut (x0 : S512x1024.Idx → EReal) (x1 : S512x1024.Idx → EReal) (x2 : S1024x1024.Idx → EReal) (x3 : S1x1024.Idx → EReal)
    (x4 : S1024x4096.Idx → EReal) (x5 : S4096x1024.Idx → EReal) (r : Fin 512) (j : Fin 1024) : EReal :=
  fed (row x0 x1 x2 r) (fun c => x3 (ix2 0 c)) (fun k f => x4 (ix2 k f)) (fun f c => x5 (ix2 f c)) j

/-- The tiles' slices `u` of the one weight and `d` of the other, and the body's value over them. -/
theorem body_at (x4 : S1024x4096.Idx → EReal) (x5 : S4096x1024.Idx → EReal)
    (v0 : Vec Ideal S512x1024 .f32) (v1 : Vec Ideal S512x1024 .bf16) (v2 : Vec Ideal S1024x1024 .bf16) (v6 : Vec Ideal S1x1024 .f32)
    (u d : Fin 4 → Vec Ideal S1024x1024 .bf16) (hu : ∀ t k f, u t (ix2 k f) = x4 (ix2 k (tcol t f)))
    (hd : ∀ t f c, d t (ix2 f c) = x5 (ix2 (tcol t f) c)) (r : Fin 512) (j : Fin 1024) :
    k0_pay1 (k0_pay2 v0 v1 v2) (k0_pay3 v0 v1 v2 v6) (k0_pay4 v0 v1 v2 v6 (u 0) (d 0)) (k0_pay5 v0 v1 v2 v6 (u 1)) (d 1) (u 2) (d 2)
        (u 3) (d 3) (ix2 r j)
      = blockOut v0 v1 v2 v6 x4 x5 r j := by
  have hn : ∀ k, k0_pay3 v0 v1 v2 v6 (ix2 r k) = scaled (row v0 v1 v2 r) (v6 (ix2 0 k)) k := fun k => by
    rw [scaled_at]
    exact congrArg (fun o => scaled o _ k) (funext fun x => mixed_at v0 v1 v2 r x)
  rw [sum_at, mixed_at, first_at]
  simp only [second_at, hn, hu, hd]
  show _ = row v0 v1 v2 r j + ∑ f, _
  rw [Feed.sum_tiles, ← add_assoc, ← add_assoc, ← add_assoc]
  simp only [add_assoc]
  rfl

/-- What a point leaves in its block. -/
theorem block_at (x0 : Vec Ideal S512x1024 .f32) (x1 : Vec Ideal S512x1024 .bf16) (x2 : Vec Ideal S1024x1024 .bf16) (x3 : Vec Ideal S1x1024 .f32)
    (x4 : Vec Ideal S1024x4096 .bf16) (x5 : Vec Ideal S4096x1024 .bf16) (x6 : Vec Ideal S1x1024 .f32) (r : Fin 512) (j : Fin 1024) :
    out0_7 x0 x1 x2 x3 x4 x5 x6 (ix2 r j) = blockOut x0 x1 x2 x3 x4 x5 r j := by
  have e0 : View.ld (Val := Elt Ideal) (e' := .f32) x0 r0_0 = x0 := View.ld_unit_zero (S := S512x1024) zero_offsets _ x0
  have e1 : View.ld (Val := Elt Ideal) (e' := .bf16) x1 r0_0 = x1 := View.ld_unit_zero (S := S512x1024) zero_offsets _ x1
  have e2 : View.ld (Val := Elt Ideal) (e' := .bf16) x2 r0_1 = x2 := View.ld_unit_zero (S := S1024x1024) zero_offsets _ x2
  have e3 : View.ld (Val := Elt Ideal) (e' := .f32) x3 r0_2 = x3 := View.ld_unit_zero (S := S1x1024) zero_offsets _ x3
  unfold out0_7
  refine (congrFun (View.canon_unit_zero (Val := Elt Ideal) (S := S512x1024) (e := .f32) zero_offsets _ _) (ix2 r j)).trans ?_
  rw [e0, e1, e2, e3]
  refine body_at x4 x5 x0 x1 x2 x3
    ![View.ld (Val := Elt Ideal) (e' := .bf16) x4 r0_3, View.ld (Val := Elt Ideal) (e' := .bf16) x4 r0_5,
      View.ld (Val := Elt Ideal) (e' := .bf16) x4 r0_7, View.ld (Val := Elt Ideal) (e' := .bf16) x4 r0_9]
    ![View.ld (Val := Elt Ideal) (e' := .bf16) x5 r0_4, View.ld (Val := Elt Ideal) (e' := .bf16) x5 r0_6,
      View.ld (Val := Elt Ideal) (e' := .bf16) x5 r0_8, View.ld (Val := Elt Ideal) (e' := .bf16) x5 r0_10] ?_ ?_ r j
  · intro t k f
    match t with
    | ⟨0, _⟩ => exact ld_cols x4 0 0 rfl _ k f
    | ⟨1, _⟩ => exact ld_cols x4 1 1024 rfl _ k f
    | ⟨2, _⟩ => exact ld_cols x4 2 2048 rfl _ k f
    | ⟨3, _⟩ => exact ld_cols x4 3 3072 rfl _ k f
  · intro t f c
    match t with
    | ⟨0, _⟩ => exact ld_rows x5 0 0 rfl _ f c
    | ⟨1, _⟩ => exact ld_rows x5 1 1024 rfl _ f c
    | ⟨2, _⟩ => exact ld_rows x5 2 2048 rfl _ f c
    | ⟨3, _⟩ => exact ld_rows x5 3 3072 rfl _ f c

end Cert.FirstIdeal.Block

end
-- ==== Proof.FirstValue.lean ====
/-
  THE ARRAY THE FIRST OUTPUT PROJECTION LEAVES. Grid point `t` is rows `512 t … 512 t + 511`, each point writes its own block
  back, and the blocks cover the array. The reference's term, read at an index, is the same row of `Feed.fed`.
-/
module

public import proofs.«01_k».proof.Proof.FirstBlock
public import proofs.«01_k».proof.Proof.Gen.FirstReferenceIdeal.Run

@[expose] public section

noncomputable section

namespace Cert.FirstIdeal.Block

open Cert.FirstIdeal Cert.FirstIdeal.Gen Idealize.ShloMosaic Idealize.ShloMosaic.TcCoe Idealize.SL.Sem
open Feed (mixed fed)

/-- Entry `(n, j)` of the layer's output, from the seven arguments. -/
def entry (x : S32768x1024.Idx → EReal) (y : S32768x1024.Idx → EReal) (wo : S1024x1024.Idx → EReal) (g : S1024.Idx → EReal)
    (up : S1024x4096.Idx → EReal) (down : S4096x1024.Idx → EReal) (n : Fin 32768) (j : Fin 1024) : EReal :=
  fed (fun c => mixed (x (ix2 n c)) (fun k => y (ix2 n k)) (fun k => wo (ix2 k c))) (fun c => g (ix1 c))
    (fun k f => up (ix2 k f)) (fun f c => down (ix2 f c)) j

variable (m : (ℓ : Loc nD τ sig) → Buf (Elt Ideal) ℓ)

/-- The windows' index maps: the weights have one block, the rows of a point are block `t`. -/
theorem index_weights : ∀ t : Fin cfg0.N, (∀ a, win0_2.index t a = 0) ∧ (∀ a, win0_3.index t a = 0) ∧ (∀ a, win0_4.index t a = 0)
    ∧ (∀ a, win0_5.index t a = 0) :=
  (by decide +kernel : ∀ t : Fin grid0.N, _)

theorem index_rows : ∀ t : Fin cfg0.N, (win0_0.index t 0 = t.val ∧ win0_0.index t 1 = 0)
    ∧ (win0_1.index t 0 = t.val ∧ win0_1.index t 1 = 0) ∧ (win0_7.index t 0 = t.val ∧ win0_7.index t 1 = 0) :=
  (by decide +kernel : ∀ t : Fin grid0.N, _)

abbrev rowOf (t : Fin cfg0.N) (r : Fin 512) : Fin 32768 :=
  ⟨512 * t.val + r.val, by have := lt_of_lt_of_eq t.isLt (show cfg0.N = 64 from N_0); omega⟩

theorem V_wo (c : Dev nD) : V m c main_v0 = (m ((c : Thread nD τ).loc main_arg2) : S1024x1024.Idx → EReal) := by
  show StableHlo.after hostOps0 _ _ = _
  after_results
  rfl

theorem V_scale (c : Dev nD) (j : Fin 1024) :
    (V m c main_v1 : S1x1024.Idx → EReal) (ix2 0 j) = (m ((c : Thread nD τ).loc main_arg3) : S1024.Idx → EReal) (ix1 j) := by
  have e : V m c main_v1 = broadcastInDim S1x1024 ![1] bcast_S1024_S1x1024_1 (m ((c : Thread nD τ).loc main_arg3)) := by
    show StableHlo.after hostOps0 _ _ = _
    after_results
  rw [e]
  pointwise []

theorem V_up (c : Dev nD) : V m c main_v2 = (m ((c : Thread nD τ).loc main_arg4) : S1024x4096.Idx → EReal) := by
  show StableHlo.after hostOps0 _ _ = _
  after_results
  rfl

theorem V_down (c : Dev nD) : V m c main_v3 = (m ((c : Thread nD τ).loc main_arg5) : S4096x1024.Idx → EReal) := by
  show StableHlo.after hostOps0 _ _ = _
  after_results
  rfl

theorem blk0_at (c : Dev nD) (t : Fin cfg0.N) (r : Fin 512) (j : Fin 1024) :
    (iblk m c 0 t : S512x1024.Idx → EReal) (ix2 r j) = (m ((c : Thread nD τ).loc main_arg0) : S32768x1024.Idx → EReal) (ix2 (rowOf t r) j) := by
  rw [← V_main_arg0 m c]
  unfold iblk
  rw [View.read_apply]
  show V m c main_arg0 _ = _
  congr 1
  funext a; apply Fin.ext
  obtain ⟨i0, i1⟩ := (index_rows t).1
  match a with
  | ⟨0, _⟩ => show win0_0.index t 0 * 512 + 1 * r.val = 512 * t.val + r.val; rw [i0]; omega
  | ⟨1, _⟩ => show win0_0.index t 1 * 1024 + 1 * j.val = j.val; rw [i1]; omega

theorem blk1_at (c : Dev nD) (t : Fin cfg0.N) (r : Fin 512) (j : Fin 1024) :
    (iblk m c 1 t : S512x1024.Idx → EReal) (ix2 r j) = (m ((c : Thread nD τ).loc main_arg1) : S32768x1024.Idx → EReal) (ix2 (rowOf t r) j) := by
  rw [← V_main_arg1 m c]
  unfold iblk
  rw [View.read_apply]
  show V m c main_arg1 _ = _
  congr 1
  funext a; apply Fin.ext
  obtain ⟨i0, i1⟩ := (index_rows t).2.1
  match a with
  | ⟨0, _⟩ => show win0_1.index t 0 * 512 + 1 * r.val = 512 * t.val + r.val; rw [i0]; omega
  | ⟨1, _⟩ => show win0_1.index t 1 * 1024 + 1 * j.val = j.val; rw [i1]; omega

theorem blk2_at (c : Dev nD) (t : Fin cfg0.N) (k : Fin 1024) (j : Fin 1024) :
    (iblk m c 2 t : S1024x1024.Idx → EReal) (ix2 k j) = (m ((c : Thread nD τ).loc main_arg2) : S1024x1024.Idx → EReal) (ix2 k j) := by
  rw [← V_wo m c]
  unfold iblk
  rw [View.read_apply]
  show V m c main_v0 _ = _
  congr 1
  funext a; apply Fin.ext
  have i := (index_weights t).1
  match a with
  | ⟨0, _⟩ => show win0_2.index t 0 * 1024 + 1 * k.val = k.val; rw [i]; omega
  | ⟨1, _⟩ => show win0_2.index t 1 * 1024 + 1 * j.val = j.val; rw [i]; omega

theorem blk3_at (c : Dev nD) (t : Fin cfg0.N) (j : Fin 1024) :
    (iblk m c 3 t : S1x1024.Idx → EReal) (ix2 0 j) = (m ((c : Thread nD τ).loc main_arg3) : S1024.Idx → EReal) (ix1 j) := by
  rw [← V_scale m c]
  unfold iblk
  rw [View.read_apply]
  show V m c main_v1 _ = _
  congr 1
  funext a; apply Fin.ext
  have i := (index_weights t).2.1
  match a with
  | ⟨0, _⟩ => show win0_3.index t 0 * 1 + 1 * 0 = 0; rw [i]
  | ⟨1, _⟩ => show win0_3.index t 1 * 1024 + 1 * j.val = j.val; rw [i]; omega

theorem blk4_at (c : Dev nD) (t : Fin cfg0.N) (k : Fin 1024) (f : Fin 4096) :
    (iblk m c 4 t : S1024x4096.Idx → EReal) (ix2 k f) = (m ((c : Thread nD τ).loc main_arg4) : S1024x4096.Idx → EReal) (ix2 k f) := by
  rw [← V_up m c]
  unfold iblk
  rw [View.read_apply]
  show V m c main_v2 _ = _
  congr 1
  funext a; apply Fin.ext
  have i := (index_weights t).2.2.1
  match a with
  | ⟨0, _⟩ => show win0_4.index t 0 * 1024 + 1 * k.val = k.val; rw [i]; omega
  | ⟨1, _⟩ => show win0_4.index t 1 * 4096 + 1 * f.val = f.val; rw [i]; omega

theorem blk5_at (c : Dev nD) (t : Fin cfg0.N) (f : Fin 4096) (j : Fin 1024) :
    (iblk m c 5 t : S4096x1024.Idx → EReal) (ix2 f j) = (m ((c : Thread nD τ).loc main_arg5) : S4096x1024.Idx → EReal) (ix2 f j) := by
  rw [← V_down m c]
  unfold iblk
  rw [View.read_apply]
  show V m c main_v3 _ = _
  congr 1
  funext a; apply Fin.ext
  have i := (index_weights t).2.2.2
  match a with
  | ⟨0, _⟩ => show win0_5.index t 0 * 4096 + 1 * f.val = f.val; rw [i]; omega
  | ⟨1, _⟩ => show win0_5.index t 1 * 1024 + 1 * j.val = j.val; rw [i]; omega

/-- A point's block, from the arguments. -/
theorem point_at (c : Dev nD) (t : Fin cfg0.N) (r : Fin 512) (j : Fin 1024) :
    blockOut (iblk m c 0 t) (iblk m c 1 t) (iblk m c 2 t) (iblk m c 3 t) (iblk m c 4 t) (iblk m c 5 t) r j
      = entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (rowOf t r) j := by
  unfold blockOut entry row
  simp only [blk0_at, blk1_at, blk2_at, blk3_at, blk4_at, blk5_at]

/-- The array the kernel leaves. -/
theorem result_at (c : Dev nD) (n : Fin 32768) (j : Fin 1024) :
    ((dats m 0 c).arrAt 7 cfg0.N : S32768x1024.Idx → EReal) (ix2 n j)
      = entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n j := by
  obtain ⟨t, r, hn⟩ : ∃ (t : Fin cfg0.N) (r : Fin 512), n = rowOf t r :=
    ⟨⟨n.val / 512, by rw [show cfg0.N = 64 from N_0]; omega⟩, ⟨n.val % 512, by omega⟩, Fin.ext (by show n.val = 512 * (n.val / 512) + n.val % 512; omega)⟩
  have h := congrFun (Cert.FirstIdeal.Value.blocks7 m c t (flush0_7 t)) (ix2 r j)
  rw [Cert.FirstIdeal.Value.flushed7, View.read_apply] at h
  refine Eq.trans ?_ (h.trans ?_)
  · refine congrArg ((dats m 0 c).arrAt 7 cfg0.N) (funext fun a => Fin.ext ?_)
    obtain ⟨i0, i1⟩ := (index_rows t).2.2
    match a with
    | ⟨0, _⟩ => show n.val = win0_7.index t 0 * 512 + 1 * r.val; rw [i0, hn]; show 512 * t.val + r.val = _; omega
    | ⟨1, _⟩ => show j.val = win0_7.index t 1 * 1024 + 1 * j.val; rw [i1]; omega
  · rw [hn, ← point_at m c t r j]
    exact block_at _ _ _ _ _ _ _ r j

end Cert.FirstIdeal.Block

namespace Cert.FirstReferenceIdeal.Block

open Cert.FirstReferenceIdeal Cert.FirstReferenceIdeal.Gen Idealize.ShloMosaic Idealize.ShloMosaic.TcCoe Idealize.SL.Sem
open Feed (scaled mixed squared share fed)

/-- The reference's hidden state with the mixer's output added. -/
def hidden (x : FVec Ideal S32768x1024 .f32) (y : FVec Ideal S32768x1024 .bf16) (wo : FVec Ideal S1024x1024 .f32) : FVec Ideal S32768x1024 .f32 :=
  addf x (Host.dotGeneral dot_S32768x1024_S1024x1024_S32768x1024_1_0_0_1_n_n none (extf .f32 y bitsLt_bf16_f32) wo)

theorem hidden_at (x : FVec Ideal S32768x1024 .f32) (y : FVec Ideal S32768x1024 .bf16) (wo : FVec Ideal S1024x1024 .f32) (n : Fin 32768) (j : Fin 1024) :
    hidden x y wo (ix2 n j) = mixed (x (ix2 n j)) (fun k => y (ix2 n k)) (fun k => wo (ix2 k j)) := by
  pointwise [hidden, mixed]

/-- The reference's normalization of the rows of `h`. -/
def normed (h : FVec Ideal S32768x1024 .f32) (g : FVec Ideal S1024 .f32) : FVec Ideal S32768x1024 .f32 :=
  mulf (mulf h (broadcastInDim S32768x1024 ![0, 1] bcast_S32768x1_S32768x1024_0_1 (Host.rsqrt (addf (Host.divf
    (broadcastInDim S32768x1 ![0] bcast_S32768_S32768x1_0 (Host.reduceAdd (mulf h h) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem normed_at (h : FVec Ideal S32768x1024 .f32) (g : FVec Ideal S1024 .f32) (n : Fin 32768) (j : Fin 1024) :
    normed h g (ix2 n j) = scaled (fun c => h (ix2 n c)) (g (ix1 j)) j := by
  pointwise [normed, scaled]

/-- The reference's rows after the feed-forward part. -/
def fedRows (h : FVec Ideal S32768x1024 .f32) (g : FVec Ideal S1024 .f32) (up : FVec Ideal S1024x4096 .f32) (down : FVec Ideal S4096x1024 .f32) :
    FVec Ideal S32768x1024 .f32 :=
  addf h (Host.dotGeneral dot_S32768x4096_S4096x1024_S32768x1024_1_0_0_1_n_n none
    (mulf (maximumf (Host.dotGeneral dot_S32768x1024_S1024x4096_S32768x4096_1_0_0_1_n_n none (normed h g) up)
        (broadcastInDim S32768x4096 ![] bcast_S_S32768x4096 (constant S_ .f32 0x00000000#32)))
      (maximumf (Host.dotGeneral dot_S32768x1024_S1024x4096_S32768x4096_1_0_0_1_n_n none (normed h g) up)
        (broadcastInDim S32768x4096 ![] bcast_S_S32768x4096 (constant S_ .f32 0x00000000#32)))) down)

theorem fedRows_at (h : FVec Ideal S32768x1024 .f32) (g : FVec Ideal S1024 .f32) (up : FVec Ideal S1024x4096 .f32) (down : FVec Ideal S4096x1024 .f32)
    (n : Fin 32768) (j : Fin 1024) :
    fedRows h g up down (ix2 n j)
      = fed (fun c => h (ix2 n c)) (fun c => g (ix1 c)) (fun k f => up (ix2 k f)) (fun f c => down (ix2 f c)) j := by
  unfold fed
  simp only [← normed_at]
  generalize hz : normed h g = z
  unfold fedRows
  rw [hz]
  pointwise [share, squared]

/-- The term the reference leaves, at an index. -/
theorem result_at (x : FVec Ideal S32768x1024 .f32) (y : FVec Ideal S32768x1024 .bf16) (wo : FVec Ideal S1024x1024 .f32) (g : FVec Ideal S1024 .f32)
    (up : FVec Ideal S1024x4096 .f32) (down : FVec Ideal S4096x1024 .f32) (n : Fin 32768) (j : Fin 1024) :
    fedRows (hidden x y wo) g up down (ix2 n j) = Cert.FirstIdeal.Block.entry x y wo g up down n j := by
  rw [fedRows_at]
  unfold Cert.FirstIdeal.Block.entry
  simp only [hidden_at]

end Cert.FirstReferenceIdeal.Block

end
-- ==== Proof.FinalBlock.lean ====
/-
  WHAT ONE GRID POINT OF THE LAST OUTPUT PROJECTION LEAVES in its block of 512 rows, read at an index over the extended
  reals: the rows of `Feed.fed`, the inner columns summed tile by tile, and each row normalized.
-/
module

public import proofs.«01_k».proof.Proof.Gen.FinalIdeal.Value
public import proofs.«01_k».proof.Proof.FirstBlock

@[expose] public section

noncomputable section

namespace Cert.FinalIdeal.Block

open Cert.FinalIdeal Cert.FinalIdeal.Gen Idealize.ShloMosaic Idealize.ShloMosaic.TcCoe Idealize.SL.Sem
open Feed (scaled mixed squared share fed tcol ld_cols ld_rows zero_offsets)

variable (v0 : Vec Ideal S512x1024 .f32) (v1 : Vec Ideal S512x2048 .bf16) (v2 : Vec Ideal S2048x1024 .bf16) (v6 : Vec Ideal S1x1024 .f32)

/-- The row of the hidden state that row `r` of the block becomes once the mixer's output is added. -/
def row (x0 : S512x1024.Idx → EReal) (x1 : S512x2048.Idx → EReal) (x2 : S2048x1024.Idx → EReal) (r : Fin 512) (j : Fin 1024) : EReal :=
  mixed (x0 (ix2 r j)) (fun k => x1 (ix2 r k)) (fun k => x2 (ix2 k j))

theorem mixed_at (r : Fin 512) (j : Fin 1024) : k0_pay2 v0 v1 v2 (ix2 r j) = row v0 v1 v2 r j := by
  pointwise [k0_pay2, row, mixed]

theorem scaled_at (r : Fin 512) (j : Fin 1024) : k0_pay3 v0 v1 v2 v6 (ix2 r j) = scaled (row v0 v1 v2 r) (v6 (ix2 0 j)) j := by
  unfold scaled
  simp only [← mixed_at]
  pointwise [k0_pay3]

theorem first_at (u d : Vec Ideal S1024x1024 .bf16) (r : Fin 512) (j : Fin 1024) :
    k0_pay4 v0 v1 v2 v6 u d (ix2 r j)
      = ∑ f, share (fun k => scaled (row v0 v1 v2 r) (v6 (ix2 0 k)) k) (fun k => u (ix2 k f)) (d (ix2 f j)) := by
  simp only [← scaled_at]
  pointwise [k0_pay4, share, squared]

theorem second_at (u : Vec Ideal S1024x1024 .bf16) (r : Fin 512) (f : Fin 1024) :
    k0_pay5 v0 v1 v2 v6 u (ix2 r f) = ∑ k, scaled (row v0 v1 v2 r) (v6 (ix2 0 k)) k * u (ix2 k f) := by
  simp only [← scaled_at]
  pointwise [k0_pay5]

theorem sum_at (h : FVec Ideal S512x1024 .f32) (n : FVec Ideal S512x1024 .bf16) (s0 p1 : FVec Ideal S512x1024 .f32)
    (d1 u2 d2 u3 d3 : Vec Ideal S1024x1024 .bf16) (r : Fin 512) (j : Fin 1024) :
    k0_pay6 h n s0 p1 d1 u2 d2 u3 d3 (ix2 r j)
      = h (ix2 r j) + (s0 (ix2 r j) + ∑ f, squared (p1 (ix2 r f)) * d1 (ix2 f j)
          + ∑ f, share (fun k => n (ix2 r k)) (fun k => u2 (ix2 k f)) (d2 (ix2 f j))
          + ∑ f, share (fun k => n (ix2 r k)) (fun k => u3 (ix2 k f)) (d3 (ix2 f j))) :=
  Cert.FirstIdeal.Block.sum_at h n s0 p1 d1 u2 d2 u3 d3 r j

/-- The last normalization: of the sums' rows, scaled by the last argument. -/
theorem last_at (h : FVec Ideal S512x1024 .f32) (n : FVec Ideal S512x1024 .bf16) (s0 p1 : FVec Ideal S512x1024 .f32)
    (d1 u2 d2 u3 d3 : Vec Ideal S1024x1024 .bf16) (g : Vec Ideal S1x1024 .f32) (r : Fin 512) (j : Fin 1024) :
    k0_pay1 (k0_pay6 h n s0 p1 d1 u2 d2 u3 d3) (k0_pay7 g) (k0_pay8 h n s0 p1 d1 u2 d2 u3 d3) (ix2 r j)
      = scaled (fun c => k0_pay6 h n s0 p1 d1 u2 d2 u3 d3 (ix2 r c)) (g (ix2 0 j)) j := by
  unfold k0_pay8
  generalize k0_pay6 h n s0 p1 d1 u2 d2 u3 d3 = s
  pointwise [k0_pay1, k0_pay7, scaled]

/-- Entry `(r, j)` of the rows before the last normalization, from the input blocks. -/
def blockRow (x0 : S512x1024.Idx → EReal) (x1 : S512x2048.Idx → EReal) (x2 : S2048x1024.Idx → EReal) (x3 : S1x1024.Idx → EReal)
    (x4 : S1024x4096.Idx → EReal) (x5 : S4096x1024.Idx → EReal) (r : Fin 512) (j : Fin 1024) : EReal :=
  fed (row x0 x1 x2 r) (fun c => x3 (ix2 0 c)) (fun k f => x4 (ix2 k f)) (fun f c => x5 (ix2 f c)) j

/-- The tiles' slices `u` of the one weight and `d` of the other, and the sum over them. -/
theorem body_at (x4 : S1024x4096.Idx → EReal) (x5 : S4096x1024.Idx → EReal)
    (u d : Fin 4 → Vec Ideal S1024x1024 .bf16) (hu : ∀ t k f, u t (ix2 k f) = x4 (ix2 k (tcol t f)))
    (hd : ∀ t f c, d t (ix2 f c) = x5 (ix2 (tcol t f) c)) (r : Fin 512) (j : Fin 1024) :
    k0_pay6 (k0_pay2 v0 v1 v2) (k0_pay3 v0 v1 v2 v6) (k0_pay4 v0 v1 v2 v6 (u 0) (d 0)) (k0_pay5 v0 v1 v2 v6 (u 1)) (d 1) (u 2) (d 2)
        (u 3) (d 3) (ix2 r j)
      = blockRow v0 v1 v2 v6 x4 x5 r j := by
  rw [sum_at]
  simp only [first_at, second_at, mixed_at, scaled_at, hu, hd]
  show _ = row v0 v1 v2 r j + ∑ f, _
  rw [Feed.sum_tiles]
  rfl

/-- What a point leaves in its block. -/
theorem block_at (x0 : Vec Ideal S512x1024 .f32) (x1 : Vec Ideal S512x2048 .bf16) (x2 : Vec Ideal S2048x1024 .bf16) (x3 : Vec Ideal S1x1024 .f32)
    (x4 : Vec Ideal S1024x4096 .bf16) (x5 : Vec Ideal S4096x1024 .bf16) (x6 : Vec Ideal S1x1024 .f32) (r : Fin 512) (j : Fin 1024) :
    out0_7 x0 x1 x2 x3 x4 x5 x6 (ix2 r j) = scaled (blockRow x0 x1 x2 x3 x4 x5 r) (x6 (ix2 0 j)) j := by
  have e0 : View.ld (Val := Elt Ideal) (e' := .f32) x0 r0_0 = x0 := View.ld_unit_zero (S := S512x1024) zero_offsets _ x0
  have e1 : View.ld (Val := Elt Ideal) (e' := .bf16) x1 r0_1 = x1 := View.ld_unit_zero (S := S512x2048) zero_offsets _ x1
  have e2 : View.ld (Val := Elt Ideal) (e' := .bf16) x2 r0_2 = x2 := View.ld_unit_zero (S := S2048x1024) zero_offsets _ x2
  have e3 : View.ld (Val := Elt Ideal) (e' := .f32) x3 r0_3 = x3 := View.ld_unit_zero (S := S1x1024) zero_offsets _ x3
  have e6 : View.ld (Val := Elt Ideal) (e' := .f32) x6 r0_3 = x6 := View.ld_unit_zero (S := S1x1024) zero_offsets _ x6
  unfold out0_7 k0_pay9 k0_pay10 k0_pay11 k0_pay12
  refine (congrFun (View.canon_unit_zero (Val := Elt Ideal) (S := S512x1024) (e := .f32) zero_offsets _ _) (ix2 r j)).trans ?_
  rw [e0, e1, e2, e3, e6, last_at]
  refine congrArg (fun o => scaled o _ j) (funext fun c => ?_)
  refine body_at x0 x1 x2 x3 x4 x5
    ![View.ld (Val := Elt Ideal) (e' := .bf16) x4 r0_4, View.ld (Val := Elt Ideal) (e' := .bf16) x4 r0_6,
      View.ld (Val := Elt Ideal) (e' := .bf16) x4 r0_8, View.ld (Val := Elt Ideal) (e' := .bf16) x4 r0_10]
    ![View.ld (Val := Elt Ideal) (e' := .bf16) x5 r0_5, View.ld (Val := Elt Ideal) (e' := .bf16) x5 r0_7,
      View.ld (Val := Elt Ideal) (e' := .bf16) x5 r0_9, View.ld (Val := Elt Ideal) (e' := .bf16) x5 r0_11] ?_ ?_ r c
  · intro t k f
    match t with
    | ⟨0, _⟩ => exact ld_cols x4 0 0 rfl _ k f
    | ⟨1, _⟩ => exact ld_cols x4 1 1024 rfl _ k f
    | ⟨2, _⟩ => exact ld_cols x4 2 2048 rfl _ k f
    | ⟨3, _⟩ => exact ld_cols x4 3 3072 rfl _ k f
  · intro t f c
    match t with
    | ⟨0, _⟩ => exact ld_rows x5 0 0 rfl _ f c
    | ⟨1, _⟩ => exact ld_rows x5 1 1024 rfl _ f c
    | ⟨2, _⟩ => exact ld_rows x5 2 2048 rfl _ f c
    | ⟨3, _⟩ => exact ld_rows x5 3 3072 rfl _ f c

end Cert.FinalIdeal.Block

end
-- ==== Proof.FinalValue.lean ====
/-
  THE ARRAY THE LAST OUTPUT PROJECTION LEAVES. Grid point `t` is rows `512 t … 512 t + 511`, each point writes its own block
  back, and the blocks cover the array. The reference's term, read at an index, is the same normalized row of `Feed.fed`.
-/
module

public import proofs.«01_k».proof.Proof.FinalBlock
public import proofs.«01_k».proof.Proof.FirstValue
public import proofs.«01_k».proof.Proof.Gen.FinalReferenceIdeal.Run

@[expose] public section

noncomputable section

namespace Cert.FinalIdeal.Block

open Cert.FinalIdeal Cert.FinalIdeal.Gen Idealize.ShloMosaic Idealize.ShloMosaic.TcCoe Idealize.SL.Sem
open Feed (mixed fed scaled)

/-- Entry `(n, j)` of the layer's output, from the arguments. -/
def entry (x : S32768x1024.Idx → EReal) (y : S32768x2048.Idx → EReal) (wo : S2048x1024.Idx → EReal) (g : S1024.Idx → EReal)
    (up : S1024x4096.Idx → EReal) (down : S4096x1024.Idx → EReal) (gf : S1024.Idx → EReal) (n : Fin 32768) (j : Fin 1024) : EReal :=
  scaled (fed (fun c => mixed (x (ix2 n c)) (fun k => y (ix2 n k)) (fun k => wo (ix2 k c))) (fun c => g (ix1 c))
    (fun k f => up (ix2 k f)) (fun f c => down (ix2 f c))) (gf (ix1 j)) j

variable (m : (ℓ : Loc nD τ sig) → Buf (Elt Ideal) ℓ)

/-- The windows' index maps: the weights have one block, the rows of a point are block `t`. -/
theorem index_weights : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) :=
  (by decide +kernel : ∀ t : Fin grid0.N, _)

theorem index_rows : ∀ t : Fin cfg0.N, (win0_0.index t 0 = t.val ∧ win0_0.index t 1 = 0)
    ∧ (win0_1.index t 0 = t.val ∧ win0_1.index t 1 = 0) ∧ (win0_7.index t 0 = t.val ∧ win0_7.index t 1 = 0) :=
  (by decide +kernel : ∀ t : Fin grid0.N, _)

abbrev rowOf (t : Fin cfg0.N) (r : Fin 512) : Fin 32768 :=
  ⟨512 * t.val + r.val, by have := lt_of_lt_of_eq t.isLt (show cfg0.N = 64 from N_0); omega⟩

theorem V_wo (c : Dev nD) : V m c main_v0 = (m ((c : Thread nD τ).loc main_arg2) : S2048x1024.Idx → EReal) := by
  show StableHlo.after hostOps0 _ _ = _
  after_results
  rfl

theorem V_scale (c : Dev nD) (j : Fin 1024) :
    (V m c main_v1 : S1x1024.Idx → EReal) (ix2 0 j) = (m ((c : Thread nD τ).loc main_arg3) : S1024.Idx → EReal) (ix1 j) := by
  have e : V m c main_v1 = broadcastInDim S1x1024 ![1] bcast_S1024_S1x1024_1 (m ((c : Thread nD τ).loc main_arg3)) := by
    show StableHlo.after hostOps0 _ _ = _
    after_results
  rw [e]
  pointwise []

theorem V_up (c : Dev nD) : V m c main_v2 = (m ((c : Thread nD τ).loc main_arg4) : S1024x4096.Idx → EReal) := by
  show StableHlo.after hostOps0 _ _ = _
  after_results
  rfl

theorem V_down (c : Dev nD) : V m c main_v3 = (m ((c : Thread nD τ).loc main_arg5) : S4096x1024.Idx → EReal) := by
  show StableHlo.after hostOps0 _ _ = _
  after_results
  rfl

theorem V_last (c : Dev nD) (j : Fin 1024) :
    (V m c main_v4 : S1x1024.Idx → EReal) (ix2 0 j) = (m ((c : Thread nD τ).loc main_arg6) : S1024.Idx → EReal) (ix1 j) := by
  have e : V m c main_v4 = broadcastInDim S1x1024 ![1] bcast_S1024_S1x1024_1 (m ((c : Thread nD τ).loc main_arg6)) := by
    show StableHlo.after hostOps0 _ _ = _
    after_results
  rw [e]
  pointwise []

theorem blk0_at (c : Dev nD) (t : Fin cfg0.N) (r : Fin 512) (j : Fin 1024) :
    (iblk m c 0 t : S512x1024.Idx → EReal) (ix2 r j) = (m ((c : Thread nD τ).loc main_arg0) : S32768x1024.Idx → EReal) (ix2 (rowOf t r) j) := by
  rw [← V_main_arg0 m c]
  unfold iblk
  rw [View.read_apply]
  show V m c main_arg0 _ = _
  congr 1
  funext a; apply Fin.ext
  obtain ⟨i0, i1⟩ := (index_rows t).1
  match a with
  | ⟨0, _⟩ => show win0_0.index t 0 * 512 + 1 * r.val = 512 * t.val + r.val; rw [i0]; omega
  | ⟨1, _⟩ => show win0_0.index t 1 * 1024 + 1 * j.val = j.val; rw [i1]; omega

theorem blk1_at (c : Dev nD) (t : Fin cfg0.N) (r : Fin 512) (k : Fin 2048) :
    (iblk m c 1 t : S512x2048.Idx → EReal) (ix2 r k) = (m ((c : Thread nD τ).loc main_arg1) : S32768x2048.Idx → EReal) (ix2 (rowOf t r) k) := by
  rw [← V_main_arg1 m c]
  unfold iblk
  rw [View.read_apply]
  show V m c main_arg1 _ = _
  congr 1
  funext a; apply Fin.ext
  obtain ⟨i0, i1⟩ := (index_rows t).2.1
  match a with
  | ⟨0, _⟩ => show win0_1.index t 0 * 512 + 1 * r.val = 512 * t.val + r.val; rw [i0]; omega
  | ⟨1, _⟩ => show win0_1.index t 1 * 2048 + 1 * k.val = k.val; rw [i1]; omega

theorem blk2_at (c : Dev nD) (t : Fin cfg0.N) (k : Fin 2048) (j : Fin 1024) :
    (iblk m c 2 t : S2048x1024.Idx → EReal) (ix2 k j) = (m ((c : Thread nD τ).loc main_arg2) : S2048x1024.Idx → EReal) (ix2 k j) := by
  rw [← V_wo m c]
  unfold iblk
  rw [View.read_apply]
  show V m c main_v0 _ = _
  congr 1
  funext a; apply Fin.ext
  have i := (index_weights t).1
  match a with
  | ⟨0, _⟩ => show win0_2.index t 0 * 2048 + 1 * k.val = k.val; rw [i]; omega
  | ⟨1, _⟩ => show win0_2.index t 1 * 1024 + 1 * j.val = j.val; rw [i]; omega

theorem blk3_at (c : Dev nD) (t : Fin cfg0.N) (j : Fin 1024) :
    (iblk m c 3 t : S1x1024.Idx → EReal) (ix2 0 j) = (m ((c : Thread nD τ).loc main_arg3) : S1024.Idx → EReal) (ix1 j) := by
  rw [← V_scale m c]
  unfold iblk
  rw [View.read_apply]
  show V m c main_v1 _ = _
  congr 1
  funext a; apply Fin.ext
  have i := (index_weights t).2.1
  match a with
  | ⟨0, _⟩ => show win0_3.index t 0 * 1 + 1 * 0 = 0; rw [i]
  | ⟨1, _⟩ => show win0_3.index t 1 * 1024 + 1 * j.val = j.val; rw [i]; omega

theorem blk4_at (c : Dev nD) (t : Fin cfg0.N) (k : Fin 1024) (f : Fin 4096) :
    (iblk m c 4 t : S1024x4096.Idx → EReal) (ix2 k f) = (m ((c : Thread nD τ).loc main_arg4) : S1024x4096.Idx → EReal) (ix2 k f) := by
  rw [← V_up m c]
  unfold iblk
  rw [View.read_apply]
  show V m c main_v2 _ = _
  congr 1
  funext a; apply Fin.ext
  have i := (index_weights t).2.2.1
  match a with
  | ⟨0, _⟩ => show win0_4.index t 0 * 1024 + 1 * k.val = k.val; rw [i]; omega
  | ⟨1, _⟩ => show win0_4.index t 1 * 4096 + 1 * f.val = f.val; rw [i]; omega

theorem blk5_at (c : Dev nD) (t : Fin cfg0.N) (f : Fin 4096) (j : Fin 1024) :
    (iblk m c 5 t : S4096x1024.Idx → EReal) (ix2 f j) = (m ((c : Thread nD τ).loc main_arg5) : S4096x1024.Idx → EReal) (ix2 f j) := by
  rw [← V_down m c]
  unfold iblk
  rw [View.read_apply]
  show V m c main_v3 _ = _
  congr 1
  funext a; apply Fin.ext
  have i := (index_weights t).2.2.2.1
  match a with
  | ⟨0, _⟩ => show win0_5.index t 0 * 4096 + 1 * f.val = f.val; rw [i]; omega
  | ⟨1, _⟩ => show win0_5.index t 1 * 1024 + 1 * j.val = j.val; rw [i]; omega

theorem blk6_at (c : Dev nD) (t : Fin cfg0.N) (j : Fin 1024) :
    (iblk m c 6 t : S1x1024.Idx → EReal) (ix2 0 j) = (m ((c : Thread nD τ).loc main_arg6) : S1024.Idx → EReal) (ix1 j) := by
  rw [← V_last m c]
  unfold iblk
  rw [View.read_apply]
  show V m c main_v4 _ = _
  congr 1
  funext a; apply Fin.ext
  have i := (index_weights t).2.2.2.2
  match a with
  | ⟨0, _⟩ => show win0_6.index t 0 * 1 + 1 * 0 = 0; rw [i]
  | ⟨1, _⟩ => show win0_6.index t 1 * 1024 + 1 * j.val = j.val; rw [i]; omega

/-- A point's block, from the arguments. -/
theorem point_at (c : Dev nD) (t : Fin cfg0.N) (r : Fin 512) (j : Fin 1024) :
    scaled (blockRow (iblk m c 0 t) (iblk m c 1 t) (iblk m c 2 t) (iblk m c 3 t) (iblk m c 4 t) (iblk m c 5 t) r)
        ((iblk m c 6 t : S1x1024.Idx → EReal) (ix2 0 j)) j
      = entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (rowOf t r) j := by
  have e : blockRow (iblk m c 0 t) (iblk m c 1 t) (iblk m c 2 t) (iblk m c 3 t) (iblk m c 4 t) (iblk m c 5 t) r
      = fun j => blockRow (iblk m c 0 t) (iblk m c 1 t) (iblk m c 2 t) (iblk m c 3 t) (iblk m c 4 t) (iblk m c 5 t) r j := rfl
  rw [e]
  unfold blockRow entry row
  simp only [blk0_at, blk1_at, blk2_at, blk3_at, blk4_at, blk5_at, blk6_at]

/-- The array the kernel leaves. -/
theorem result_at (c : Dev nD) (n : Fin 32768) (j : Fin 1024) :
    ((dats m 0 c).arrAt 7 cfg0.N : S32768x1024.Idx → EReal) (ix2 n j)
      = entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n j := by
  obtain ⟨t, r, hn⟩ : ∃ (t : Fin cfg0.N) (r : Fin 512), n = rowOf t r :=
    ⟨⟨n.val / 512, by rw [show cfg0.N = 64 from N_0]; omega⟩, ⟨n.val % 512, by omega⟩, Fin.ext (by show n.val = 512 * (n.val / 512) + n.val % 512; omega)⟩
  have h := congrFun (Cert.FinalIdeal.Value.blocks7 m c t (flush0_7 t)) (ix2 r j)
  rw [Cert.FinalIdeal.Value.flushed7, View.read_apply] at h
  refine Eq.trans ?_ (h.trans ?_)
  · refine congrArg ((dats m 0 c).arrAt 7 cfg0.N) (funext fun a => Fin.ext ?_)
    obtain ⟨i0, i1⟩ := (index_rows t).2.2
    match a with
    | ⟨0, _⟩ => show n.val = win0_7.index t 0 * 512 + 1 * r.val; rw [i0, hn]; show 512 * t.val + r.val = _; omega
    | ⟨1, _⟩ => show j.val = win0_7.index t 1 * 1024 + 1 * j.val; rw [i1]; omega
  · rw [hn, ← point_at m c t r j]
    exact block_at _ _ _ _ _ _ _ r j

end Cert.FinalIdeal.Block

namespace Cert.FinalReferenceIdeal.Block

open Cert.FinalReferenceIdeal Cert.FinalReferenceIdeal.Gen Idealize.ShloMosaic Idealize.ShloMosaic.TcCoe Idealize.SL.Sem
open Feed (scaled mixed)
open Cert.FirstReferenceIdeal.Block (normed normed_at fedRows fedRows_at)

/-- The reference's hidden state with the mixer's output added. -/
def hidden (x : FVec Ideal S32768x1024 .f32) (y : FVec Ideal S32768x2048 .bf16) (wo : FVec Ideal S2048x1024 .f32) : FVec Ideal S32768x1024 .f32 :=
  addf x (Host.dotGeneral dot_S32768x2048_S2048x1024_S32768x1024_1_0_0_1_n_n none (extf .f32 y bitsLt_bf16_f32) wo)

theorem hidden_at (x : FVec Ideal S32768x1024 .f32) (y : FVec Ideal S32768x2048 .bf16) (wo : FVec Ideal S2048x1024 .f32) (n : Fin 32768) (j : Fin 1024) :
    hidden x y wo (ix2 n j) = mixed (x (ix2 n j)) (fun k => y (ix2 n k)) (fun k => wo (ix2 k j)) := by
  pointwise [hidden, mixed]

/-- The term the reference leaves, from its arguments. -/
theorem res_eq (m : (ℓ : Loc nD τ sig) → Buf (Elt Ideal) ℓ) (c : Dev nD) :
    Cert.FinalReferenceIdeal.Value.res_main_v33 m c
      = normed (fedRows (hidden (m ((c : Thread nD τ).loc main_arg0)) (m ((c : Thread nD τ).loc main_arg1)) (m ((c : Thread nD τ).loc main_arg2)))
          (m ((c : Thread nD τ).loc main_arg3)) (m ((c : Thread nD τ).loc main_arg4)) (m ((c : Thread nD τ).loc main_arg5)))
          (m ((c : Thread nD τ).loc main_arg6)) := by
  unfold Cert.FinalReferenceIdeal.Value.res_main_v33 normed fedRows normed hidden
  rfl

/-- That term at an index. -/
theorem result_at (m : (ℓ : Loc nD τ sig) → Buf (Elt Ideal) ℓ) (c : Dev nD) (n : Fin 32768) (j : Fin 1024) :
    (Cert.FinalReferenceIdeal.Value.res_main_v33 m c : S32768x1024.Idx → EReal) (ix2 n j)
      = Cert.FinalIdeal.Block.entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n j := by
  rw [res_eq]
  refine (normed_at _ _ n j).trans ?_
  unfold Cert.FinalIdeal.Block.entry
  refine congrArg (fun o => scaled o _ j) (funext fun c' => ?_)
  refine (fedRows_at _ _ _ _ n c').trans ?_
  simp only [hidden_at]

end Cert.FinalReferenceIdeal.Block

end
-- ==== Proof.Turn.lean ====
/-
  ONE ROW OF THE RETENTION'S INPUT PROJECTION. The normalized row's products with the weights; in each head of the queries
  and keys, column `e` of the first half and column `e` of the second half are turned by the row's angle at `e`.
-/
module

public import proofs.«01_k».proof.Proof.Feed

@[expose] public section

noncomputable section

namespace Turn

open Idealize.ShloMosaic
open Feed (scaled)

/-- Column `e` of half `p` of head `h`. -/
abbrev col (h : Fin 4) (p : Fin 2) (e : Fin 128) : Fin 1024 := ⟨256 * h.val + 128 * p.val + e.val, by omega⟩

/-- Half `p` of the pair `(a, b)` turned by an angle of cosine `c` and sine `s`. -/
def half (p : Fin 2) (a b c s : EReal) : EReal := if p = 0 then a * c - b * s else b * c + a * s

/-- A row `y` of four heads with every head turned: column `e` of half `p` of head `h`. -/
def turned (y : Fin 1024 → EReal) (c s : Fin 128 → EReal) (h : Fin 4) (p : Fin 2) (e : Fin 128) : EReal :=
  half p (y (col h 0 e)) (y (col h 1 e)) (c e) (s e)

/-- One entry of a normalized row's product with a weight's column. -/
def product (x : Fin 1024 → EReal) (g w : Fin 1024 → EReal) : EReal := ∑ k, scaled x (g k) k * w k

theorem exists_col (j : Fin 1024) : ∃ (h : Fin 4) (p : Fin 2) (e : Fin 128), j = col h p e :=
  ⟨⟨j.val / 256, by omega⟩, ⟨j.val / 128 % 2, by omega⟩, ⟨j.val % 128, by omega⟩,
    Fin.ext (by show j.val = 256 * (j.val / 256) + 128 * (j.val / 128 % 2) + j.val % 128; omega)⟩

end Turn

end
-- ==== Proof.ProjectBlock.lean ====
/-
  WHAT ONE GRID POINT OF THE RETENTION'S INPUT PROJECTION LEAVES in its four blocks of 512 rows, read at an index over the
  extended reals: the queries and keys head by head and half by half, the values and gates in four slices of 512 columns.
-/
module

public import proofs.«01_k».proof.Proof.Gen.ProjectIdeal.Value
public import proofs.«01_k».proof.Proof.Turn
public import Idealize.ShloMosaic.Lib.Pipeline.ReadBack

@[expose] public section

noncomputable section

namespace Cert.ProjectIdeal.Block

open Cert.ProjectIdeal Cert.ProjectIdeal.Gen Idealize.ShloMosaic Idealize.ShloMosaic.TcCoe Idealize.SL.Sem
open Feed (scaled zero_offsets)
open Turn

/-- Entry `(r, j)` of the block's normalized rows times a weight. -/
def rowProduct {W : ℕ} (x0 : S512x1024.Idx → EReal) (x2 : S1x1024.Idx → EReal) (w : (⟨2, ![1024, W]⟩ : Shape).Idx → EReal) (r : Fin 512) (j : Fin W) : EReal :=
  product (fun c => x0 (ix2 r c)) (fun k => x2 (ix2 0 k)) (fun k => w (ix2 k j))

/-- The angle of row `r` of the block at column `e` of a half. -/
def rowAngle (x1 : S512x1.Idx → BitVec 32) (x7 : S1x128.Idx → EReal) (r : Fin 512) (e : Fin 128) : EReal :=
  FloatOps.sitofp (F := Ideal) FTy.f32 (x1 (ix2 r 0)) * x7 (ix2 0 e)

/-- The block's rows times a weight, every head turned by the row's angles. -/
def rowTurned (x0 : S512x1024.Idx → EReal) (x1 : S512x1.Idx → BitVec 32) (x2 : S1x1024.Idx → EReal) (w : S1024x1024.Idx → EReal) (x7 : S1x128.Idx → EReal)
    (r : Fin 512) (h : Fin 4) (p : Fin 2) (e : Fin 128) : EReal :=
  turned (rowProduct x0 x2 w r) (fun e => Ideal.cos (rowAngle x1 x7 r e)) (fun e => Ideal.sin (rowAngle x1 x7 r e)) h p e

/-- The keys: turned, and scaled by the root of a head's width. -/
def rowKeys (x0 : S512x1024.Idx → EReal) (x1 : S512x1.Idx → BitVec 32) (x2 : S1x1024.Idx → EReal) (w : S1024x1024.Idx → EReal) (x7 : S1x128.Idx → EReal)
    (r : Fin 512) (h : Fin 4) (p : Fin 2) (e : Fin 128) : EReal :=
  rowTurned x0 x1 x2 w x7 r h p e * Ideal.ofBits FTy.f32 0x3D800000#32

section body
variable (x0 : Vec Ideal S512x1024 .f32) (x1 : Vec Ideal S512x1 .i32) (x2 : Vec Ideal S1x1024 .f32) (x7 : Vec Ideal S1x128 .f32)

theorem normed_at (r : Fin 512) (k : Fin 1024) :
    k0_pay2 x0 x2 (ix2 r k) = scaled (fun c => x0 (ix2 r c)) (x2 (ix2 0 k)) k := by
  pointwise [k0_pay2, scaled]

theorem cos_at (r : Fin 512) (e : Fin 128) : k0_pay4 x1 x7 (ix2 r e) = Ideal.cos (rowAngle x1 x7 r e) := by
  pointwise [k0_pay4, k0_pay3, rowAngle]

theorem sin_at (r : Fin 512) (e : Fin 128) : k0_pay5 x1 x7 (ix2 r e) = Ideal.sin (rowAngle x1 x7 r e) := by
  pointwise [k0_pay5, k0_pay3, rowAngle]

/-- The two columns of a head that are turned together, from the head's slice `w` of the weight. -/
abbrev left (n : FVec Ideal S512x1024 .bf16) (w : Vec Ideal S1024x256 .bf16) (r : Fin 512) (e : Fin 128) : EReal :=
  ∑ k, n (ix2 r k) * w (ix2 k ⟨e.val, by omega⟩)
abbrev right (n : FVec Ideal S512x1024 .bf16) (w : Vec Ideal S1024x256 .bf16) (r : Fin 512) (e : Fin 128) : EReal :=
  ∑ k, n (ix2 r k) * w (ix2 k ⟨128 + e.val, by omega⟩)

theorem query_first (n : FVec Ideal S512x1024 .bf16) (c s : FVec Ideal S512x128 .f32) (w : Vec Ideal S1024x256 .bf16) (r : Fin 512) (e : Fin 128) :
    k0_pay15 n c s w (ix2 r e) = half 0 (left n w r e) (right n w r e) (c (ix2 r e)) (s (ix2 r e)) := by
  show _ = _ - _
  pointwise [k0_pay15, k0_pay13, k0_pay14, k0_pay12]

theorem query_second (n : FVec Ideal S512x1024 .bf16) (c s : FVec Ideal S512x128 .f32) (w : Vec Ideal S1024x256 .bf16) (r : Fin 512) (e : Fin 128) :
    k0_pay16 n c s w (ix2 r e) = half 1 (left n w r e) (right n w r e) (c (ix2 r e)) (s (ix2 r e)) := by
  show _ = _ + _
  pointwise [k0_pay16, k0_pay13, k0_pay14, k0_pay12]

theorem key_first (n : FVec Ideal S512x1024 .bf16) (c s : FVec Ideal S512x128 .f32) (w : Vec Ideal S1024x256 .bf16) (r : Fin 512) (e : Fin 128) :
    k0_pay31 n c s w (ix2 r e)
      = half 0 (left n w r e) (right n w r e) (c (ix2 r e)) (s (ix2 r e)) * Ideal.ofBits FTy.f32 0x3D800000#32 := by
  show _ = (_ - _) * _
  pointwise [k0_pay31, k0_pay29, k0_pay30, k0_pay28]

theorem key_second (n : FVec Ideal S512x1024 .bf16) (c s : FVec Ideal S512x128 .f32) (w : Vec Ideal S1024x256 .bf16) (r : Fin 512) (e : Fin 128) :
    k0_pay38 n c s w (ix2 r e)
      = half 1 (left n w r e) (right n w r e) (c (ix2 r e)) (s (ix2 r e)) * Ideal.ofBits FTy.f32 0x3D800000#32 := by
  show _ = (_ + _) * _
  pointwise [k0_pay38, k0_pay35, k0_pay36, k0_pay34]

theorem slice_at (n : FVec Ideal S512x1024 .bf16) (w : Vec Ideal S1024x512 .bf16) (r : Fin 512) (d : Fin 512) :
    k0_pay50 n w (ix2 r d) = ∑ k, n (ix2 r k) * w (ix2 k d) := by
  pointwise [k0_pay50]

/-- A head's columns, from its slice `w` of the weight, turned: what either half's store holds. -/
theorem head_at (W : S1024x1024.Idx → EReal) (w : Vec Ideal S1024x256 .bf16) (h : Fin 4)
    (hw : ∀ (k : Fin 1024) (d : Fin 256), w (ix2 k d) = W (ix2 k ⟨256 * h.val + d.val, by omega⟩)) (p : Fin 2) (r : Fin 512) (e : Fin 128) :
    half p (left (k0_pay2 x0 x2) w r e) (right (k0_pay2 x0 x2) w r e) (k0_pay4 x1 x7 (ix2 r e)) (k0_pay5 x1 x7 (ix2 r e))
      = rowTurned x0 x1 x2 W x7 r h p e := by
  have e1 : ∀ o : ℕ, 256 * h.val + (128 + o) = 256 * h.val + 128 * 1 + o := fun o => by omega
  simp only [left, right, normed_at, cos_at, sin_at, hw, e1]
  rfl

end body

/-- A load of 256 columns of a weight from column `256 h`. -/
theorem ld_head (x : Vec Ideal S1024x1024 .bf16) (h : Fin 4) (o : ℕ) (ho : o = 256 * h.val) (inb) (k : Fin 1024) (d : Fin 256) :
    View.ld (Val := Elt Ideal) (e' := .bf16) x (Rect.unit (s := S1024x1024) ![0, o] S1024x256.size inb) (ix2 k d) = x (ix2 k ⟨256 * h.val + d.val, by omega⟩) := by
  refine congrArg x (funext fun a => Fin.ext ?_)
  match a with
  | ⟨0, _⟩ => show 0 + 1 * k.val = k.val; omega
  | ⟨1, _⟩ => show o + 1 * d.val = 256 * h.val + d.val; omega

/-- A load of 512 columns of a weight from column `512 h`. -/
theorem ld_slice (x : Vec Ideal S1024x2048 .bf16) (h : Fin 4) (o : ℕ) (ho : o = 512 * h.val) (inb) (k : Fin 1024) (d : Fin 512) :
    View.ld (Val := Elt Ideal) (e' := .bf16) x (Rect.unit (s := S1024x2048) ![0, o] S1024x512.size inb) (ix2 k d) = x (ix2 k ⟨512 * h.val + d.val, by omega⟩) := by
  refine congrArg x (funext fun a => Fin.ext ?_)
  match a with
  | ⟨0, _⟩ => show 0 + 1 * k.val = k.val; omega
  | ⟨1, _⟩ => show o + 1 * d.val = 512 * h.val + d.val; omega

/-- A function of row, head, half and column as a function of the block's index. -/
def spread (f : Fin 512 → Fin 4 → Fin 2 → Fin 128 → EReal) (y : S512x1024.Idx) : EReal :=
  f (y 0) ⟨(y 1).val / 256, by have : (y 1).val < 1024 := (y 1).isLt; omega⟩ ⟨(y 1).val / 128 % 2, by omega⟩ ⟨(y 1).val % 128, by omega⟩

theorem spread_at (f : Fin 512 → Fin 4 → Fin 2 → Fin 128 → EReal) (r : Fin 512) (h : Fin 4) (p : Fin 2) (e : Fin 128) :
    spread f (ix2 r (col h p e)) = f r h p e := by
  have a : (⟨(256 * h.val + 128 * p.val + e.val) / 256, by omega⟩ : Fin 4) = h := Fin.ext (by show (256 * h.val + 128 * p.val + e.val) / 256 = h.val; omega)
  have b : (⟨(256 * h.val + 128 * p.val + e.val) / 128 % 2, by omega⟩ : Fin 2) = p := Fin.ext (by show (256 * h.val + 128 * p.val + e.val) / 128 % 2 = p.val; omega)
  have d : (⟨(256 * h.val + 128 * p.val + e.val) % 128, by omega⟩ : Fin 128) = e := Fin.ext (by show (256 * h.val + 128 * p.val + e.val) % 128 = e.val; omega)
  show f r ⟨_, _⟩ ⟨_, _⟩ ⟨_, _⟩ = _
  exact (congrArg (fun o => f r o _ _) a).trans ((congrArg (fun o => f r h o _) b).trans (congrArg (f r h p) d))

/-- A store of one half of one head holds its part of `f`. -/
theorem half_piece (f : Fin 512 → Fin 4 → Fin 2 → Fin 128 → EReal) (h : Fin 4) (p : Fin 2) (o : ℕ) (ho : o = 256 * h.val + 128 * p.val) (inb)
    (v : S512x128.Idx → EReal) (hv : ∀ r e, v (ix2 r e) = f r h p e) (x : S512x128.Idx) :
    v x = spread f ((Rect.unit (s := S512x1024) ![0, o] S512x128.size inb).emb x) := by
  obtain ⟨r, e, rfl⟩ : ∃ (r : Fin 512) (e : Fin 128), x = ix2 r e := ⟨x 0, x 1, eq_ix2 (n0 := 512) (n1 := 128) x⟩
  rw [hv, ← spread_at f r h p e]
  refine congrArg (spread f) (funext fun a => Fin.ext ?_)
  match a with
  | ⟨0, _⟩ => show r.val = 0 + 1 * r.val; omega
  | ⟨1, _⟩ => show 256 * h.val + 128 * p.val + e.val = o + 1 * e.val; omega

/-- A function of row and column as a function of the block's index. -/
def flat (f : Fin 512 → Fin 2048 → EReal) (y : S512x2048.Idx) : EReal := f (y 0) (y 1)

/-- A store of one slice of 512 columns holds its part of `f`. -/
theorem slice_piece (f : Fin 512 → Fin 2048 → EReal) (h : Fin 4) (o : ℕ) (ho : o = 512 * h.val) (inb)
    (v : S512x512.Idx → EReal) (hv : ∀ (r d : Fin 512), v (ix2 r d) = f r ⟨512 * h.val + d.val, by omega⟩) (x : S512x512.Idx) :
    v x = flat f ((Rect.unit (s := S512x2048) ![0, o] S512x512.size inb).emb x) := by
  obtain ⟨r, d, rfl⟩ : ∃ (r d : Fin 512), x = ix2 r d := ⟨x 0, x 1, eq_ix2 (n0 := 512) (n1 := 512) x⟩
  rw [hv]
  have a : r = (⟨0 + 1 * r.val, by omega⟩ : Fin 512) := Fin.ext (by show r.val = 0 + 1 * r.val; omega)
  have b : (⟨512 * h.val + d.val, by omega⟩ : Fin 2048) = (⟨o + 1 * d.val, by omega⟩ : Fin 2048) := Fin.ext (by show 512 * h.val + d.val = o + 1 * d.val; omega)
  exact (congrArg (fun c => f c _) a).trans (congrArg (f _) b)

section block
variable (x0 : Vec Ideal S512x1024 .f32) (x1 : Vec Ideal S512x1 .i32) (x2 : Vec Ideal S1x1024 .f32) (x3 x4 : Vec Ideal S1024x1024 .bf16)
  (x5 x6 : Vec Ideal S1024x2048 .bf16) (x7 : Vec Ideal S1x128 .f32)

theorem ld0 : View.ld (Val := Elt Ideal) (e' := .f32) x0 r0_0 = x0 := View.ld_unit_zero (S := S512x1024) zero_offsets _ x0
theorem ld1 : View.ld (Val := Elt Ideal) (e' := .i32) x1 r0_2 = x1 := View.ld_unit_zero (S := S512x1) zero_offsets _ x1
theorem ld2 : View.ld (Val := Elt Ideal) (e' := .f32) x2 r0_1 = x2 := View.ld_unit_zero (S := S1x1024) zero_offsets _ x2
theorem ld7 : View.ld (Val := Elt Ideal) (e' := .f32) x7 r0_3 = x7 := View.ld_unit_zero (S := S1x128) zero_offsets _ x7

theorem query_at (r : Fin 512) (h : Fin 4) (p : Fin 2) (e : Fin 128) :
    out0_8 x0 x1 x2 x3 x4 x5 x6 x7 (ix2 r (col h p e)) = rowTurned x0 x1 x2 x3 x7 r h p e := by
  have lo : ∀ (w : Vec Ideal S1024x256 .bf16) (h : Fin 4) (_ : ∀ (k : Fin 1024) (d : Fin 256), w (ix2 k d) = x3 (ix2 k ⟨256 * h.val + d.val, by omega⟩))
      (r : Fin 512) (e : Fin 128), k0_pay15 (k0_pay2 x0 x2) (k0_pay4 x1 x7) (k0_pay5 x1 x7) w (ix2 r e) = rowTurned x0 x1 x2 x3 x7 r h 0 e :=
    fun w h hw r e => (query_first _ _ _ w r e).trans (head_at x0 x1 x2 x7 x3 w h hw 0 r e)
  have hi : ∀ (w : Vec Ideal S1024x256 .bf16) (h : Fin 4) (_ : ∀ (k : Fin 1024) (d : Fin 256), w (ix2 k d) = x3 (ix2 k ⟨256 * h.val + d.val, by omega⟩))
      (r : Fin 512) (e : Fin 128), k0_pay16 (k0_pay2 x0 x2) (k0_pay4 x1 x7) (k0_pay5 x1 x7) w (ix2 r e) = rowTurned x0 x1 x2 x3 x7 r h 1 e :=
    fun w h hw r e => (query_second _ _ _ w r e).trans (head_at x0 x1 x2 x7 x3 w h hw 1 r e)
  rw [← spread_at (rowTurned x0 x1 x2 x3 x7) r h p e]
  unfold out0_8 k0_pay58 k0_pay59 k0_pay60
  rw [ld0, ld1, ld2, ld7]
  refine View.canon_apply_of_pieces (Val := Elt Ideal) (e := .bf16) (spread (rowTurned x0 x1 x2 x3 x7)) _
    (View.PiecesOf.mem (Val := Elt Ideal) (e := .bf16) (by exact
      ⟨half_piece _ 3 1 896 rfl inb_S512x1024_S512x128_0_896 _ (hi _ 3 (ld_head x3 3 768 rfl inb_S1024x1024_S1024x256_0_768)), half_piece _ 3 0 768 rfl inb_S512x1024_S512x128_0_768 _ (lo _ 3 (ld_head x3 3 768 rfl inb_S1024x1024_S1024x256_0_768)),
        half_piece _ 2 1 640 rfl inb_S512x1024_S512x128_0_640 _ (hi _ 2 (ld_head x3 2 512 rfl inb_S1024x1024_S1024x256_0_512)), half_piece _ 2 0 512 rfl inb_S512x1024_S512x128_0_512 _ (lo _ 2 (ld_head x3 2 512 rfl inb_S1024x1024_S1024x256_0_512)),
        half_piece _ 1 1 384 rfl inb_S512x1024_S512x128_0_384 _ (hi _ 1 (ld_head x3 1 256 rfl inb_S1024x1024_S1024x256_0_256)), half_piece _ 1 0 256 rfl inb_S512x1024_S512x128_0_256 _ (lo _ 1 (ld_head x3 1 256 rfl inb_S1024x1024_S1024x256_0_256)),
        half_piece _ 0 1 128 rfl inb_S512x1024_S512x128_0_128 _ (hi _ 0 (ld_head x3 0 0 rfl inb_S1024x1024_S1024x256_0_0)), half_piece _ 0 0 0 rfl inb_S512x1024_S512x128_0_0 _ (lo _ 0 (ld_head x3 0 0 rfl inb_S1024x1024_S1024x256_0_0)), trivial⟩)) _ ?_
  exact cover0_8 _ _ _ _ _ _ _ _ _

theorem key_at (r : Fin 512) (h : Fin 4) (p : Fin 2) (e : Fin 128) :
    out0_9 x0 x1 x2 x3 x4 x5 x6 x7 (ix2 r (col h p e)) = rowKeys x0 x1 x2 x4 x7 r h p e := by
  have lo : ∀ (w : Vec Ideal S1024x256 .bf16) (h : Fin 4) (_ : ∀ (k : Fin 1024) (d : Fin 256), w (ix2 k d) = x4 (ix2 k ⟨256 * h.val + d.val, by omega⟩))
      (r : Fin 512) (e : Fin 128), k0_pay31 (k0_pay2 x0 x2) (k0_pay4 x1 x7) (k0_pay5 x1 x7) w (ix2 r e)
        = rowKeys x0 x1 x2 x4 x7 r h 0 e :=
    fun w h hw r e => (key_first _ _ _ w r e).trans (congrArg (· * _) (head_at x0 x1 x2 x7 x4 w h hw 0 r e))
  have hi : ∀ (w : Vec Ideal S1024x256 .bf16) (h : Fin 4) (_ : ∀ (k : Fin 1024) (d : Fin 256), w (ix2 k d) = x4 (ix2 k ⟨256 * h.val + d.val, by omega⟩))
      (r : Fin 512) (e : Fin 128), k0_pay38 (k0_pay2 x0 x2) (k0_pay4 x1 x7) (k0_pay5 x1 x7) w (ix2 r e)
        = rowKeys x0 x1 x2 x4 x7 r h 1 e :=
    fun w h hw r e => (key_second _ _ _ w r e).trans (congrArg (· * _) (head_at x0 x1 x2 x7 x4 w h hw 1 r e))
  rw [← spread_at (rowKeys x0 x1 x2 x4 x7) r h p e]
  unfold out0_9 k0_pay58 k0_pay59 k0_pay60
  rw [ld0, ld1, ld2, ld7]
  refine View.canon_apply_of_pieces (Val := Elt Ideal) (e := .bf16)
    (spread (rowKeys x0 x1 x2 x4 x7)) _
    (View.PiecesOf.mem (Val := Elt Ideal) (e := .bf16) (by exact
      ⟨half_piece _ 3 1 896 rfl inb_S512x1024_S512x128_0_896 _ (hi _ 3 (ld_head x4 3 768 rfl inb_S1024x1024_S1024x256_0_768)), half_piece _ 3 0 768 rfl inb_S512x1024_S512x128_0_768 _ (lo _ 3 (ld_head x4 3 768 rfl inb_S1024x1024_S1024x256_0_768)),
        half_piece _ 2 1 640 rfl inb_S512x1024_S512x128_0_640 _ (hi _ 2 (ld_head x4 2 512 rfl inb_S1024x1024_S1024x256_0_512)), half_piece _ 2 0 512 rfl inb_S512x1024_S512x128_0_512 _ (lo _ 2 (ld_head x4 2 512 rfl inb_S1024x1024_S1024x256_0_512)),
        half_piece _ 1 1 384 rfl inb_S512x1024_S512x128_0_384 _ (hi _ 1 (ld_head x4 1 256 rfl inb_S1024x1024_S1024x256_0_256)), half_piece _ 1 0 256 rfl inb_S512x1024_S512x128_0_256 _ (lo _ 1 (ld_head x4 1 256 rfl inb_S1024x1024_S1024x256_0_256)),
        half_piece _ 0 1 128 rfl inb_S512x1024_S512x128_0_128 _ (hi _ 0 (ld_head x4 0 0 rfl inb_S1024x1024_S1024x256_0_0)), half_piece _ 0 0 0 rfl inb_S512x1024_S512x128_0_0 _ (lo _ 0 (ld_head x4 0 0 rfl inb_S1024x1024_S1024x256_0_0)), trivial⟩)) _ ?_
  exact cover0_9 _ _ _ _ _ _ _ _ _

/-- One slice's store, from the slice `w` of a weight `W`. -/
theorem slice_row (W : S1024x2048.Idx → EReal) (w : Vec Ideal S1024x512 .bf16) (h : Fin 4)
    (hw : ∀ (k : Fin 1024) (d : Fin 512), w (ix2 k d) = W (ix2 k ⟨512 * h.val + d.val, by omega⟩)) (r d : Fin 512) :
    k0_pay50 (k0_pay2 x0 x2) w (ix2 r d) = rowProduct x0 x2 W r ⟨512 * h.val + d.val, by omega⟩ := by
  rw [slice_at]
  simp only [normed_at, hw]
  rfl

theorem value_at (r : Fin 512) (j : Fin 2048) : out0_10 x0 x1 x2 x3 x4 x5 x6 x7 (ix2 r j) = rowProduct x0 x2 x5 r j := by
  show _ = flat (rowProduct x0 x2 x5) (ix2 r j)
  unfold out0_10 k0_pay58
  rw [ld0, ld2]
  refine View.canon_apply_of_pieces (Val := Elt Ideal) (e := .bf16) (flat (rowProduct x0 x2 x5)) _
    (View.PiecesOf.mem (Val := Elt Ideal) (e := .bf16) (by exact
      ⟨slice_piece (rowProduct x0 x2 x5) 3 1536 rfl inb_S512x2048_S512x512_0_1536 _ (slice_row x0 x2 x5 _ 3 (ld_slice x5 3 1536 rfl inb_S1024x2048_S1024x512_0_1536)),
        slice_piece (rowProduct x0 x2 x5) 2 1024 rfl inb_S512x2048_S512x512_0_1024 _ (slice_row x0 x2 x5 _ 2 (ld_slice x5 2 1024 rfl inb_S1024x2048_S1024x512_0_1024)),
        slice_piece (rowProduct x0 x2 x5) 1 512 rfl inb_S512x2048_S512x512_0_512 _ (slice_row x0 x2 x5 _ 1 (ld_slice x5 1 512 rfl inb_S1024x2048_S1024x512_0_512)),
        slice_piece (rowProduct x0 x2 x5) 0 0 rfl inb_S512x2048_S512x512_0_0 _ (slice_row x0 x2 x5 _ 0 (ld_slice x5 0 0 rfl inb_S1024x2048_S1024x512_0_0)), trivial⟩)) _ ?_
  exact cover0_10 _ _ _ _ _

theorem gate_at (r : Fin 512) (j : Fin 2048) : out0_11 x0 x1 x2 x3 x4 x5 x6 x7 (ix2 r j) = rowProduct x0 x2 x6 r j := by
  show _ = flat (rowProduct x0 x2 x6) (ix2 r j)
  unfold out0_11 k0_pay58
  rw [ld0, ld2]
  refine View.canon_apply_of_pieces (Val := Elt Ideal) (e := .bf16) (flat (rowProduct x0 x2 x6)) _
    (View.PiecesOf.mem (Val := Elt Ideal) (e := .bf16) (by exact
      ⟨slice_piece (rowProduct x0 x2 x6) 3 1536 rfl inb_S512x2048_S512x512_0_1536 _ (slice_row x0 x2 x6 _ 3 (ld_slice x6 3 1536 rfl inb_S1024x2048_S1024x512_0_1536)),
        slice_piece (rowProduct x0 x2 x6) 2 1024 rfl inb_S512x2048_S512x512_0_1024 _ (slice_row x0 x2 x6 _ 2 (ld_slice x6 2 1024 rfl inb_S1024x2048_S1024x512_0_1024)),
        slice_piece (rowProduct x0 x2 x6) 1 512 rfl inb_S512x2048_S512x512_0_512 _ (slice_row x0 x2 x6 _ 1 (ld_slice x6 1 512 rfl inb_S1024x2048_S1024x512_0_512)),
        slice_piece (rowProduct x0 x2 x6) 0 0 rfl inb_S512x2048_S512x512_0_0 _ (slice_row x0 x2 x6 _ 0 (ld_slice x6 0 0 rfl inb_S1024x2048_S1024x512_0_0)), trivial⟩)) _ ?_
  exact cover0_11 _ _ _ _ _

end block

end Cert.ProjectIdeal.Block

end
-- ==== Proof.ProjectValue.lean ====
/-
  THE FOUR ARRAYS THE RETENTION'S INPUT PROJECTION LEAVES. Grid point `t` is rows `512 t … 512 t + 511` of each; the reference's
  terms, read at an index, are the same entries: `Turn.turned` for the queries and keys, `Turn.product` for the values and gates.
-/
module

public import proofs.«01_k».proof.Proof.ProjectBlock
public import proofs.«01_k».proof.Proof.FirstValue
public import proofs.«01_k».proof.Proof.Gen.ProjectReferenceIdeal.Run

@[expose] public section

noncomputable section

namespace Cert.ProjectIdeal.Block

open Cert.ProjectIdeal Cert.ProjectIdeal.Gen Idealize.ShloMosaic Idealize.ShloMosaic.TcCoe Idealize.SL.Sem
open Turn

/-- Entry `(n, o + j)` of the normalized rows times the weight, from the arguments. -/
def entry (x : S32768x1024.Idx → EReal) (g : S1024.Idx → EReal) (w : S1024x6144.Idx → EReal) (n : Fin 32768) (j : Fin 6144) : EReal :=
  product (fun c => x (ix2 n c)) (fun k => g (ix1 k)) (fun k => w (ix2 k j))

/-- The rotary frequencies. -/
def freq : FVec Ideal S128 .f32 :=
  Host.powf (broadcastInDim S128 ![] bcast_S_S128 (constant S_ .f32 0x461C4000#32))
    (Host.divf (Host.negf (sitofp .f32 (iotaInDim S128 32 0))) (broadcastInDim S128 ![] bcast_S_S128 (constant S_ .f32 0x43000000#32)))

/-- The angle of row `n` at column `e` of a half. -/
def angle (pos : S32768x1.Idx → BitVec 32) (n : Fin 32768) (e : Fin 128) : EReal :=
  FloatOps.sitofp (F := Ideal) FTy.f32 (pos (ix2 n 0)) * freq (ix1 e)

/-- A head's entry turned, the four heads being the weight's columns from `o` on. -/
def turnedEntry (x : S32768x1024.Idx → EReal) (pos : S32768x1.Idx → BitVec 32) (g : S1024.Idx → EReal) (w : S1024x6144.Idx → EReal) (o : Fin 5121)
    (n : Fin 32768) (h : Fin 4) (p : Fin 2) (e : Fin 128) : EReal :=
  turned (fun j => entry x g w n ⟨o.val + j.val, by omega⟩) (fun e => Ideal.cos (angle pos n e)) (fun e => Ideal.sin (angle pos n e)) h p e

variable (m : (ℓ : Loc nD τ sig) → Buf (Elt Ideal) ℓ)

/-- The windows' index maps: the small operands have one block, the rows of a point are block `t`. -/
theorem index_weights : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) :=
  (by decide +kernel : ∀ t : Fin grid0.N, _)

theorem index_rows : ∀ t : Fin cfg0.N, (win0_0.index t 0 = t.val ∧ win0_0.index t 1 = 0) ∧ (win0_1.index t 0 = t.val ∧ win0_1.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) :=
  (by decide +kernel : ∀ t : Fin grid0.N, _)

abbrev rowOf (t : Fin cfg0.N) (r : Fin 512) : Fin 32768 :=
  ⟨512 * t.val + r.val, by have := lt_of_lt_of_eq t.isLt (show cfg0.N = 64 from N_0); omega⟩

theorem exists_row (n : Fin 32768) : ∃ (t : Fin cfg0.N) (r : Fin 512), n = rowOf t r :=
  ⟨⟨n.val / 512, by rw [show cfg0.N = 64 from N_0]; omega⟩, ⟨n.val % 512, by omega⟩, Fin.ext (by show n.val = 512 * (n.val / 512) + n.val % 512; omega)⟩

theorem V_scale (c : Dev nD) (j : Fin 1024) :
    (V m c main_v15 : S1x1024.Idx → EReal) (ix2 0 j) = (m ((c : Thread nD τ).loc main_arg2) : S1024.Idx → EReal) (ix1 j) := by
  have e : V m c main_v15 = broadcastInDim S1x1024 ![1] bcast_S1024_S1x1024_1 (m ((c : Thread nD τ).loc main_arg2)) := by
    show StableHlo.after hostOps0 _ _ = _
    after_results
  rw [e]
  pointwise []

theorem V_freq (c : Dev nD) (j : Fin 128) : (V m c main_v14 : S1x128.Idx → EReal) (ix2 0 j) = freq (ix1 j) := by
  have e : V m c main_v14 = broadcastInDim S1x128 ![1] bcast_S128_S1x128_1 freq := by
    show StableHlo.after hostOps0 _ _ = _
    after_results
    rfl
  rw [e]
  generalize freq = f
  pointwise []

theorem V_query (c : Dev nD) (k j : Fin 1024) :
    (V m c main_v1 : S1024x1024.Idx → EReal) (ix2 k j) = (m ((c : Thread nD τ).loc main_arg3) : S1024x6144.Idx → EReal) (ix2 k ⟨0 + j.val, by omega⟩) := by
  have e : V m c main_v1 = truncf (F := Ideal) .bf16 (extractStridedSlice S1024x1024 ![0, 0] (m ((c : Thread nD τ).loc main_arg3) : FVec Ideal S1024x6144 .f32) slices_S1024x6144_S1024x1024_0_0) bitsLt_bf16_f32 := by
    show StableHlo.after hostOps0 _ _ = _
    after_results
  rw [e]
  pointwise []

theorem V_key (c : Dev nD) (k j : Fin 1024) :
    (V m c main_v3 : S1024x1024.Idx → EReal) (ix2 k j) = (m ((c : Thread nD τ).loc main_arg3) : S1024x6144.Idx → EReal) (ix2 k ⟨1024 + j.val, by omega⟩) := by
  have e : V m c main_v3 = truncf (F := Ideal) .bf16 (extractStridedSlice S1024x1024 ![0, 1024] (m ((c : Thread nD τ).loc main_arg3) : FVec Ideal S1024x6144 .f32) slices_S1024x6144_S1024x1024_0_1024) bitsLt_bf16_f32 := by
    show StableHlo.after hostOps0 _ _ = _
    after_results
  rw [e]
  pointwise []

theorem V_value (c : Dev nD) (k : Fin 1024) (j : Fin 2048) :
    (V m c main_v5 : S1024x2048.Idx → EReal) (ix2 k j) = (m ((c : Thread nD τ).loc main_arg3) : S1024x6144.Idx → EReal) (ix2 k ⟨2048 + j.val, by omega⟩) := by
  have e : V m c main_v5 = truncf (F := Ideal) .bf16 (extractStridedSlice S1024x2048 ![0, 2048] (m ((c : Thread nD τ).loc main_arg3) : FVec Ideal S1024x6144 .f32) slices_S1024x6144_S1024x2048_0_2048) bitsLt_bf16_f32 := by
    show StableHlo.after hostOps0 _ _ = _
    after_results
  rw [e]
  pointwise []

theorem V_gate (c : Dev nD) (k : Fin 1024) (j : Fin 2048) :
    (V m c main_v7 : S1024x2048.Idx → EReal) (ix2 k j) = (m ((c : Thread nD τ).loc main_arg3) : S1024x6144.Idx → EReal) (ix2 k ⟨4096 + j.val, by omega⟩) := by
  have e : V m c main_v7 = truncf (F := Ideal) .bf16 (extractStridedSlice S1024x2048 ![0, 4096] (m ((c : Thread nD τ).loc main_arg3) : FVec Ideal S1024x6144 .f32) slices_S1024x6144_S1024x2048_0_4096) bitsLt_bf16_f32 := by
    show StableHlo.after hostOps0 _ _ = _
    after_results
  rw [e]
  pointwise []

theorem blk0_at (c : Dev nD) (t : Fin cfg0.N) (r : Fin 512) (j : Fin 1024) :
    (iblk m c 0 t : S512x1024.Idx → EReal) (ix2 r j) = (m ((c : Thread nD τ).loc main_arg0) : S32768x1024.Idx → EReal) (ix2 (rowOf t r) j) := by
  rw [← V_main_arg0 m c]
  unfold iblk
  rw [View.read_apply]
  refine congrArg (V m c main_arg0 : S32768x1024.Idx → EReal) (funext fun a => Fin.ext ?_)
  obtain ⟨i0, i1⟩ := (index_rows t).1
  match a with
  | ⟨0, _⟩ => show win0_0.index t 0 * 512 + 1 * r.val = 512 * t.val + r.val; rw [i0]; omega
  | ⟨1, _⟩ => show win0_0.index t 1 * 1024 + 1 * j.val = j.val; rw [i1]; omega

theorem blk1_at (c : Dev nD) (t : Fin cfg0.N) (r : Fin 512) :
    (iblk m c 1 t : S512x1.Idx → BitVec 32) (ix2 r 0) = (m ((c : Thread nD τ).loc main_arg1) : S32768x1.Idx → BitVec 32) (ix2 (rowOf t r) 0) := by
  rw [← V_main_arg1 m c]
  unfold iblk
  rw [View.read_apply]
  refine congrArg (V m c main_arg1 : S32768x1.Idx → BitVec 32) (funext fun a => Fin.ext ?_)
  obtain ⟨i0, i1⟩ := (index_rows t).2.1
  match a with
  | ⟨0, _⟩ => show win0_1.index t 0 * 512 + 1 * r.val = 512 * t.val + r.val; rw [i0]; omega
  | ⟨1, _⟩ => show win0_1.index t 1 * 1 + 1 * 0 = 0; rw [i1]

theorem blk2_at (c : Dev nD) (t : Fin cfg0.N) (j : Fin 1024) :
    (iblk m c 2 t : S1x1024.Idx → EReal) (ix2 0 j) = (m ((c : Thread nD τ).loc main_arg2) : S1024.Idx → EReal) (ix1 j) := by
  rw [← V_scale m c]
  unfold iblk
  rw [View.read_apply]
  refine congrArg (V m c main_v15 : S1x1024.Idx → EReal) (funext fun a => Fin.ext ?_)
  have i := (index_weights t).1
  match a with
  | ⟨0, _⟩ => show win0_2.index t 0 * 1 + 1 * 0 = 0; rw [i]
  | ⟨1, _⟩ => show win0_2.index t 1 * 1024 + 1 * j.val = j.val; rw [i]; omega

theorem blk3_at (c : Dev nD) (t : Fin cfg0.N) (k j : Fin 1024) :
    (iblk m c 3 t : S1024x1024.Idx → EReal) (ix2 k j) = (m ((c : Thread nD τ).loc main_arg3) : S1024x6144.Idx → EReal) (ix2 k ⟨0 + j.val, by omega⟩) := by
  rw [← V_query m c]
  unfold iblk
  rw [View.read_apply]
  refine congrArg (V m c main_v1 : S1024x1024.Idx → EReal) (funext fun a => Fin.ext ?_)
  have i := (index_weights t).2.1
  match a with
  | ⟨0, _⟩ => show win0_3.index t 0 * 1024 + 1 * k.val = k.val; rw [i]; omega
  | ⟨1, _⟩ => show win0_3.index t 1 * 1024 + 1 * j.val = j.val; rw [i]; omega

theorem blk4_at (c : Dev nD) (t : Fin cfg0.N) (k j : Fin 1024) :
    (iblk m c 4 t : S1024x1024.Idx → EReal) (ix2 k j) = (m ((c : Thread nD τ).loc main_arg3) : S1024x6144.Idx → EReal) (ix2 k ⟨1024 + j.val, by omega⟩) := by
  rw [← V_key m c]
  unfold iblk
  rw [View.read_apply]
  refine congrArg (V m c main_v3 : S1024x1024.Idx → EReal) (funext fun a => Fin.ext ?_)
  have i := (index_weights t).2.2.1
  match a with
  | ⟨0, _⟩ => show win0_4.index t 0 * 1024 + 1 * k.val = k.val; rw [i]; omega
  | ⟨1, _⟩ => show win0_4.index t 1 * 1024 + 1 * j.val = j.val; rw [i]; omega

theorem blk5_at (c : Dev nD) (t : Fin cfg0.N) (k : Fin 1024) (j : Fin 2048) :
    (iblk m c 5 t : S1024x2048.Idx → EReal) (ix2 k j) = (m ((c : Thread nD τ).loc main_arg3) : S1024x6144.Idx → EReal) (ix2 k ⟨2048 + j.val, by omega⟩) := by
  rw [← V_value m c]
  unfold iblk
  rw [View.read_apply]
  refine congrArg (V m c main_v5 : S1024x2048.Idx → EReal) (funext fun a => Fin.ext ?_)
  have i := (index_weights t).2.2.2.1
  match a with
  | ⟨0, _⟩ => show win0_5.index t 0 * 1024 + 1 * k.val = k.val; rw [i]; omega
  | ⟨1, _⟩ => show win0_5.index t 1 * 2048 + 1 * j.val = j.val; rw [i]; omega

theorem blk6_at (c : Dev nD) (t : Fin cfg0.N) (k : Fin 1024) (j : Fin 2048) :
    (iblk m c 6 t : S1024x2048.Idx → EReal) (ix2 k j) = (m ((c : Thread nD τ).loc main_arg3) : S1024x6144.Idx → EReal) (ix2 k ⟨4096 + j.val, by omega⟩) := by
  rw [← V_gate m c]
  unfold iblk
  rw [View.read_apply]
  refine congrArg (V m c main_v7 : S1024x2048.Idx → EReal) (funext fun a => Fin.ext ?_)
  have i := (index_weights t).2.2.2.2.1
  match a with
  | ⟨0, _⟩ => show win0_6.index t 0 * 1024 + 1 * k.val = k.val; rw [i]; omega
  | ⟨1, _⟩ => show win0_6.index t 1 * 2048 + 1 * j.val = j.val; rw [i]; omega

theorem blk7_at (c : Dev nD) (t : Fin cfg0.N) (e : Fin 128) : (iblk m c 7 t : S1x128.Idx → EReal) (ix2 0 e) = freq (ix1 e) := by
  rw [← V_freq m c]
  unfold iblk
  rw [View.read_apply]
  refine congrArg (V m c main_v14 : S1x128.Idx → EReal) (funext fun a => Fin.ext ?_)
  have i := (index_weights t).2.2.2.2.2
  match a with
  | ⟨0, _⟩ => show win0_7.index t 0 * 1 + 1 * 0 = 0; rw [i]
  | ⟨1, _⟩ => show win0_7.index t 1 * 128 + 1 * e.val = e.val; rw [i]; omega

/-- Where row `r` of point `t`'s block lies in an array of `W` columns, from the block's index. -/
theorem row_index {W : ℕ} (t : Fin cfg0.N) (r : Fin 512) (j : Fin W) (i0 i1 : ℕ) (h0 : i0 = t.val) (h1 : i1 = 0) :
    (rowOf t r).val = i0 * 512 + 1 * r.val ∧ j.val = i1 * W + 1 * j.val := by
  subst h0 h1
  exact ⟨by show 512 * t.val + r.val = _; omega, by omega⟩

/-- The queries the kernel leaves. -/
theorem query_result (c : Dev nD) (n : Fin 32768) (h : Fin 4) (p : Fin 2) (e : Fin 128) :
    ((dats m 0 c).arrAt 8 cfg0.N : S32768x1024.Idx → EReal) (ix2 n (col h p e))
      = turnedEntry (m ((c : Thread nD τ).loc main_arg0)) (m ((c : Thread nD τ).loc main_arg1)) (m ((c : Thread nD τ).loc main_arg2))
          (m ((c : Thread nD τ).loc main_arg3)) 0 n h p e := by
  obtain ⟨t, r, rfl⟩ := exists_row n
  have f := congrFun (Cert.ProjectIdeal.Value.blocks8 m c t (flush0_8 t)) (ix2 r (col h p e))
  rw [Cert.ProjectIdeal.Value.flushed8, View.read_apply] at f
  obtain ⟨i0, i1⟩ := (index_rows t).2.2.1
  refine Eq.trans ?_ (f.trans ((query_at _ _ _ _ _ _ _ _ r h p e).trans ?_))
  · refine congrArg ((dats m 0 c).arrAt 8 cfg0.N) (funext fun a => Fin.ext ?_)
    match a with
    | ⟨0, _⟩ => exact (row_index t r (col h p e) _ _ i0 i1).1
    | ⟨1, _⟩ => exact (row_index t r (col h p e) _ _ i0 i1).2
  · unfold rowTurned turnedEntry rowProduct rowAngle entry angle
    simp only [blk0_at, blk1_at, blk2_at, blk3_at, blk7_at]
    rfl

/-- The keys the kernel leaves. -/
theorem key_result (c : Dev nD) (n : Fin 32768) (h : Fin 4) (p : Fin 2) (e : Fin 128) :
    ((dats m 0 c).arrAt 9 cfg0.N : S32768x1024.Idx → EReal) (ix2 n (col h p e))
      = turnedEntry (m ((c : Thread nD τ).loc main_arg0)) (m ((c : Thread nD τ).loc main_arg1)) (m ((c : Thread nD τ).loc main_arg2))
          (m ((c : Thread nD τ).loc main_arg3)) 1024 n h p e * Ideal.ofBits FTy.f32 0x3D800000#32 := by
  obtain ⟨t, r, rfl⟩ := exists_row n
  have f := congrFun (Cert.ProjectIdeal.Value.blocks9 m c t (flush0_9 t)) (ix2 r (col h p e))
  rw [Cert.ProjectIdeal.Value.flushed9, View.read_apply] at f
  obtain ⟨i0, i1⟩ := (index_rows t).2.2.2.1
  refine Eq.trans ?_ (f.trans ((key_at _ _ _ _ _ _ _ _ r h p e).trans ?_))
  · refine congrArg ((dats m 0 c).arrAt 9 cfg0.N) (funext fun a => Fin.ext ?_)
    match a with
    | ⟨0, _⟩ => exact (row_index t r (col h p e) _ _ i0 i1).1
    | ⟨1, _⟩ => exact (row_index t r (col h p e) _ _ i0 i1).2
  · unfold rowKeys rowTurned turnedEntry rowProduct rowAngle entry angle
    simp only [blk0_at, blk1_at, blk2_at, blk4_at, blk7_at]
    rfl

/-- The values the kernel leaves. -/
theorem value_result (c : Dev nD) (n : Fin 32768) (j : Fin 2048) :
    ((dats m 0 c).arrAt 10 cfg0.N : S32768x2048.Idx → EReal) (ix2 n j)
      = entry (m ((c : Thread nD τ).loc main_arg0)) (m ((c : Thread nD τ).loc main_arg2)) (m ((c : Thread nD τ).loc main_arg3)) n
          ⟨2048 + j.val, by omega⟩ := by
  obtain ⟨t, r, rfl⟩ := exists_row n
  have f := congrFun (Cert.ProjectIdeal.Value.blocks10 m c t (flush0_10 t)) (ix2 r j)
  rw [Cert.ProjectIdeal.Value.flushed10, View.read_apply] at f
  obtain ⟨i0, i1⟩ := (index_rows t).2.2.2.2.1
  refine Eq.trans ?_ (f.trans ((value_at _ _ _ _ _ _ _ _ r j).trans ?_))
  · refine congrArg ((dats m 0 c).arrAt 10 cfg0.N) (funext fun a => Fin.ext ?_)
    match a with
    | ⟨0, _⟩ => exact (row_index t r j _ _ i0 i1).1
    | ⟨1, _⟩ => exact (row_index t r j _ _ i0 i1).2
  · unfold rowProduct entry
    simp only [blk0_at, blk2_at, blk5_at]

/-- The gates the kernel leaves. -/
theorem gate_result (c : Dev nD) (n : Fin 32768) (j : Fin 2048) :
    ((dats m 0 c).arrAt 11 cfg0.N : S32768x2048.Idx → EReal) (ix2 n j)
      = entry (m ((c : Thread nD τ).loc main_arg0)) (m ((c : Thread nD τ).loc main_arg2)) (m ((c : Thread nD τ).loc main_arg3)) n
          ⟨4096 + j.val, by omega⟩ := by
  obtain ⟨t, r, rfl⟩ := exists_row n
  have f := congrFun (Cert.ProjectIdeal.Value.blocks11 m c t (flush0_11 t)) (ix2 r j)
  rw [Cert.ProjectIdeal.Value.flushed11, View.read_apply] at f
  obtain ⟨i0, i1⟩ := (index_rows t).2.2.2.2.2
  refine Eq.trans ?_ (f.trans ((gate_at _ _ _ _ _ _ _ _ r j).trans ?_))
  · refine congrArg ((dats m 0 c).arrAt 11 cfg0.N) (funext fun a => Fin.ext ?_)
    match a with
    | ⟨0, _⟩ => exact (row_index t r j _ _ i0 i1).1
    | ⟨1, _⟩ => exact (row_index t r j _ _ i0 i1).2
  · unfold rowProduct entry
    simp only [blk0_at, blk2_at, blk6_at]

end Cert.ProjectIdeal.Block

namespace Cert.ProjectReferenceIdeal.Block

open Cert.ProjectReferenceIdeal Cert.ProjectReferenceIdeal.Gen Idealize.ShloMosaic Idealize.ShloMosaic.TcCoe Idealize.SL.Sem
open Turn
open Cert.ProjectIdeal.Block (entry turnedEntry angle freq)

/-- The reference's normalized rows times the weight. -/
def projected (x : FVec Ideal S32768x1024 .f32) (g : FVec Ideal S1024 .f32) (w : FVec Ideal S1024x6144 .f32) : FVec Ideal S32768x6144 .f32 :=
  Host.dotGeneral dot_S32768x1024_S1024x6144_S32768x6144_1_0_0_1_n_n none (Cert.FirstReferenceIdeal.Block.normed x g) w

theorem projected_at (x : FVec Ideal S32768x1024 .f32) (g : FVec Ideal S1024 .f32) (w : FVec Ideal S1024x6144 .f32) (n : Fin 32768) (j : Fin 6144) :
    projected x g w (ix2 n j) = entry x g w n j := by
  have z : ∀ k, Feed.scaled (fun c => x (ix2 n c)) (g (ix1 k)) k = Cert.FirstReferenceIdeal.Block.normed x g (ix2 n k) :=
    fun k => (Cert.FirstReferenceIdeal.Block.normed_at x g n k).symm
  unfold entry product
  simp only [z]
  unfold projected
  generalize Cert.FirstReferenceIdeal.Block.normed x g = y
  pointwise []

/-- The reference's angles. -/
def angles (pos : IVec S32768x1 32) : FVec Ideal S32768x128 .f32 :=
  mulf (broadcastInDim S32768x128 ![0, 1] bcast_S32768x1_S32768x128_0_1 (broadcastInDim S32768x1 ![0] bcast_S32768_S32768x1_0
      (sitofp .f32 (shapeCast S32768 pos shapeCasts_S32768x1_S32768))))
    (broadcastInDim S32768x128 ![0, 1] bcast_S1x128_S32768x128_0_1 (broadcastInDim S1x128 ![1] bcast_S128_S1x128_1 freq))

theorem angles_at (pos : IVec S32768x1 32) (n : Fin 32768) (e : Fin 128) : angles pos (ix2 n e) = angle pos n e := by
  have h : shapeCast S32768 pos shapeCasts_S32768x1_S32768 (ix1 n) = pos (ix2 n 0) :=
    shapeCast_apply _ _ _ _ (by rw [Shape.rowMajor_val_one, Shape.rowMajor_val_two]; show n.val * 1 + 0 = n.val; omega)
  unfold angle
  rw [← h]
  generalize hf : freq = f
  generalize hq : shapeCast S32768 pos shapeCasts_S32768x1_S32768 = q
  unfold angles
  rw [hf, hq]
  pointwise []

/-- Four heads of a row, turned as the reference writes it. -/
def rotated (y : FVec Ideal S32768x4x256 .f32) (c s : FVec Ideal S32768x128 .f32) : FVec Ideal S32768x4x256 .f32 :=
  concatenate S32768x4x256 2 [⟨S32768x4x256, concatenate S32768x4x256 2 [
    ⟨S32768x4x128, subf
      (mulf (extractStridedSlice S32768x4x128 ![0, 0, 0] y slices_S32768x4x256_S32768x4x128_0_0_0)
        (broadcastInDim S32768x4x128 ![0, 1, 2] bcast_S32768x1x128_S32768x4x128_0_1_2 (broadcastInDim S32768x1x128 ![0, 2] bcast_S32768x128_S32768x1x128_0_2 c)))
      (mulf (extractStridedSlice S32768x4x128 ![0, 0, 128] y slices_S32768x4x256_S32768x4x128_0_0_128)
        (broadcastInDim S32768x4x128 ![0, 1, 2] bcast_S32768x1x128_S32768x4x128_0_1_2 (broadcastInDim S32768x1x128 ![0, 2] bcast_S32768x128_S32768x1x128_0_2 s)))⟩,
    ⟨S32768x4x128, addf
      (mulf (extractStridedSlice S32768x4x128 ![0, 0, 128] y slices_S32768x4x256_S32768x4x128_0_0_128)
        (broadcastInDim S32768x4x128 ![0, 1, 2] bcast_S32768x1x128_S32768x4x128_0_1_2 (broadcastInDim S32768x1x128 ![0, 2] bcast_S32768x128_S32768x1x128_0_2 c)))
      (mulf (extractStridedSlice S32768x4x128 ![0, 0, 0] y slices_S32768x4x256_S32768x4x128_0_0_0)
        (broadcastInDim S32768x4x128 ![0, 1, 2] bcast_S32768x1x128_S32768x4x128_0_1_2 (broadcastInDim S32768x1x128 ![0, 2] bcast_S32768x128_S32768x1x128_0_2 s)))⟩]
      concatenates_S32768x4x128_S32768x4x128_S32768x4x256_d2⟩,
    ⟨S32768x4x0, extractStridedSlice S32768x4x0 ![0, 0, 256] y slices_S32768x4x256_S32768x4x0_0_0_256⟩] concatenates_S32768x4x256_S32768x4x0_S32768x4x256_d2

theorem rotated_at (y : FVec Ideal S32768x4x256 .f32) (c s : FVec Ideal S32768x128 .f32) (n : Fin 32768) (h : Fin 4) (p : Fin 2) (e : Fin 128) :
    rotated y c s (ix3 n h ⟨128 * p.val + e.val, by omega⟩)
      = half p (y (ix3 n h ⟨e.val, by omega⟩)) (y (ix3 n h ⟨128 + e.val, by omega⟩)) (c (ix2 n e)) (s (ix2 n e)) := by
  match p with
  | ⟨0, _⟩ =>
    show _ = _ - _
    pointwise [rotated]
    exact dif_pos (by omega)
  | ⟨1, _⟩ =>
    show _ = _ + _
    pointwise [rotated]
    exact dif_pos (by omega)

/-- The four heads of a row, from their columns. -/
theorem heads_at (y : FVec Ideal S32768x1024 .f32) (n : Fin 32768) (h : Fin 4) (d : Fin 256) :
    shapeCast S32768x4x256 y shapeCasts_S32768x1024_S32768x4x256 (ix3 n h d) = y (ix2 n ⟨256 * h.val + d.val, by omega⟩) :=
  shapeCast_apply _ _ _ _ (by
    rw [Shape.rowMajor_val_two, Shape.rowMajor_val_three]
    show n.val * 1024 + (256 * h.val + d.val) = (n.val * 4 + h.val) * 256 + d.val
    omega)

/-- And back. -/
theorem columns_at (z : FVec Ideal S32768x4x256 .f32) (n : Fin 32768) (h : Fin 4) (p : Fin 2) (e : Fin 128) :
    shapeCast S32768x1024 z shapeCasts_S32768x4x256_S32768x1024 (ix2 n (col h p e)) = z (ix3 n h ⟨128 * p.val + e.val, by omega⟩) :=
  shapeCast_apply _ _ _ _ (by
    rw [Shape.rowMajor_val_two, Shape.rowMajor_val_three]
    show (n.val * 4 + h.val) * 256 + (128 * p.val + e.val) = n.val * 1024 + (256 * h.val + 128 * p.val + e.val)
    omega)

/-- The reference's turned heads, from the product's columns `y` and the rows' angles. -/
def heads (y : FVec Ideal S32768x1024 .f32) (a : FVec Ideal S32768x128 .f32) : FVec Ideal S32768x4x256 .f32 :=
  rotated (shapeCast S32768x4x256 y shapeCasts_S32768x1024_S32768x4x256) (Host.cos a) (Host.sin a)

theorem turned_at (y : FVec Ideal S32768x1024 .f32) (a : FVec Ideal S32768x128 .f32) (n : Fin 32768) (h : Fin 4) (p : Fin 2) (e : Fin 128) :
    heads y a (ix3 n h ⟨128 * p.val + e.val, by omega⟩)
      = turned (fun j => y (ix2 n j)) (fun e => Ideal.cos (a (ix2 n e))) (fun e => Ideal.sin (a (ix2 n e))) h p e := by
  have e1 : (⟨256 * h.val + (128 + e.val), by omega⟩ : Fin 1024) = col h 1 e := Fin.ext (by show 256 * h.val + (128 + e.val) = 256 * h.val + 128 * 1 + e.val; omega)
  unfold heads turned
  rw [rotated_at, heads_at, heads_at, ← e1]
  rfl

section result
variable (x : FVec Ideal S32768x1024 .f32) (pos : IVec S32768x1 32) (g : FVec Ideal S1024 .f32) (w : FVec Ideal S1024x6144 .f32)

/-- The product's columns of the queries, and of the keys. -/
abbrev queryColumns : FVec Ideal S32768x1024 .f32 := extractStridedSlice S32768x1024 ![0, 0] (projected x g w) slices_S32768x6144_S32768x1024_0_0
abbrev keyColumns : FVec Ideal S32768x1024 .f32 := extractStridedSlice S32768x1024 ![0, 1024] (projected x g w) slices_S32768x6144_S32768x1024_0_1024

theorem queryColumns_at (n : Fin 32768) (j : Fin 1024) : queryColumns x g w (ix2 n j) = entry x g w n ⟨0 + j.val, by omega⟩ := by
  rw [← projected_at]
  unfold queryColumns
  generalize projected x g w = y
  pointwise []

theorem keyColumns_at (n : Fin 32768) (j : Fin 1024) : keyColumns x g w (ix2 n j) = entry x g w n ⟨1024 + j.val, by omega⟩ := by
  rw [← projected_at]
  unfold keyColumns
  generalize projected x g w = y
  pointwise []

/-- The reference's queries. -/
def queries : FVec Ideal S32768x1024 .bf16 :=
  truncf .bf16 (shapeCast S32768x1024 (heads (queryColumns x g w) (angles pos)) shapeCasts_S32768x4x256_S32768x1024) bitsLt_bf16_f32

theorem queries_at (n : Fin 32768) (h : Fin 4) (p : Fin 2) (e : Fin 128) :
    queries x pos g w (ix2 n (col h p e)) = turnedEntry x pos g w 0 n h p e := by
  refine (columns_at (heads (queryColumns x g w) (angles pos)) n h p e).trans ((turned_at _ _ n h p e).trans ?_)
  simp only [queryColumns_at, angles_at]
  rfl

/-- The reference's keys. -/
def keys : FVec Ideal S32768x1024 .bf16 :=
  truncf .bf16 (shapeCast S32768x1024 (mulf (heads (keyColumns x g w) (angles pos))
    (broadcastInDim S32768x4x256 ![] bcast_S_S32768x4x256 (constant S_ .f32 0x3D800000#32))) shapeCasts_S32768x4x256_S32768x1024) bitsLt_bf16_f32

theorem keys_at (n : Fin 32768) (h : Fin 4) (p : Fin 2) (e : Fin 128) :
    keys x pos g w (ix2 n (col h p e)) = turnedEntry x pos g w 1024 n h p e * Ideal.ofBits FTy.f32 0x3D800000#32 := by
  refine (columns_at (mulf (heads (keyColumns x g w) (angles pos)) (broadcastInDim S32768x4x256 ![] bcast_S_S32768x4x256 (constant S_ .f32 0x3D800000#32)))
    n h p e).trans ?_
  refine Eq.trans (b := heads (keyColumns x g w) (angles pos) (ix3 n h ⟨128 * p.val + e.val, by omega⟩) * Ideal.ofBits FTy.f32 0x3D800000#32) rfl ?_
  refine congrArg (· * _) ((turned_at _ _ n h p e).trans ?_)
  simp only [keyColumns_at, angles_at]
  rfl

/-- The reference's values, and gates. -/
def values : FVec Ideal S32768x2048 .bf16 :=
  truncf .bf16 (extractStridedSlice S32768x2048 ![0, 2048] (projected x g w) slices_S32768x6144_S32768x2048_0_2048) bitsLt_bf16_f32
def gates : FVec Ideal S32768x2048 .bf16 :=
  truncf .bf16 (extractStridedSlice S32768x2048 ![0, 4096] (projected x g w) slices_S32768x6144_S32768x2048_0_4096) bitsLt_bf16_f32

theorem values_at (n : Fin 32768) (j : Fin 2048) : values x g w (ix2 n j) = entry x g w n ⟨2048 + j.val, by omega⟩ := by
  rw [← projected_at]
  unfold values
  generalize projected x g w = y
  pointwise []

theorem gates_at (n : Fin 32768) (j : Fin 2048) : gates x g w (ix2 n j) = entry x g w n ⟨4096 + j.val, by omega⟩ := by
  rw [← projected_at]
  unfold gates
  generalize projected x g w = y
  pointwise []

end result

variable (m : (ℓ : Loc nD τ sig) → Buf (Elt Ideal) ℓ)

theorem queries_eq (c : Dev nD) : Value.res_main_v87 m c = queries (m ((c.tc : Thread nD τ).loc main_arg0)) (m ((c.tc : Thread nD τ).loc main_arg1))
    (m ((c.tc : Thread nD τ).loc main_arg2)) (m ((c.tc : Thread nD τ).loc main_arg3)) := rfl

theorem keys_eq (c : Dev nD) : Value.res_main_v89 m c = keys (m ((c.tc : Thread nD τ).loc main_arg0)) (m ((c.tc : Thread nD τ).loc main_arg1))
    (m ((c.tc : Thread nD τ).loc main_arg2)) (m ((c.tc : Thread nD τ).loc main_arg3)) := rfl

end Cert.ProjectReferenceIdeal.Block

end
-- ==== Proof.Lane.lean ====
/-
  THE LANES OF A ROTATED HEAD. The kernel keeps the two columns that rotary turns together 64 lanes apart, so that one
  rotation of a row of 128 lanes by 64 brings each to its partner. The order of the columns in the lanes, and the equality of
  what a lane then holds with the turned column that it stands for.
-/
module

public import proofs.«01_k».proof.Proof.Feed

@[expose] public section

noncomputable section

namespace Lane

open Idealize.ShloMosaic

/-- The column `j` of a row `z`, of which the first `n` columns are turned with the next `n` by the angles of cosines `c` and sines `s`. -/
def turned {W n : ℕ} (h : 2 * n ≤ W) (z : Fin W → EReal) (c s : Fin n → EReal) (j : Fin W) : EReal :=
  if h1 : j.val < n then z j * c ⟨j.val, h1⟩ - z ⟨j.val + n, by omega⟩ * s ⟨j.val, h1⟩
  else if h2 : j.val < 2 * n then z j * c ⟨j.val - n, by omega⟩ + z ⟨j.val - n, by omega⟩ * s ⟨j.val - n, by omega⟩
  else z j

/-- The column of a head of 128 that lane `l` stands for. -/
def column (l : Fin 128) : Fin 128 :=
  if l.val < 16 then l else if h : l.val < 64 then ⟨l.val + 16, by omega⟩ else if l.val < 80 then ⟨l.val - 48, by omega⟩ else l

/-- The head of a pair that lane `l` stands for, and its column. -/
def side (l : Fin 128) : Fin 2 :=
  if l.val < 8 then 0 else if l.val < 16 then 1 else if l.val < 64 then 0 else if l.val < 72 then 0 else 1
def place (l : Fin 128) : Fin 64 :=
  if h : l.val < 8 then ⟨l.val, by omega⟩ else if h : l.val < 16 then ⟨l.val - 8, by omega⟩ else if h : l.val < 64 then ⟨l.val, h⟩
  else if h : l.val < 72 then ⟨l.val - 56, by omega⟩ else ⟨l.val - 64, by omega⟩

/-- The lanes by the columns they stand for. -/
theorem column_cases : ∀ l : Fin 128, (l.val < 16 ∧ (column l).val = l.val) ∨ (16 ≤ l.val ∧ l.val < 64 ∧ (column l).val = l.val + 16)
    ∨ (64 ≤ l.val ∧ l.val < 80 ∧ (column l).val = l.val - 48) ∨ (80 ≤ l.val ∧ (column l).val = l.val) := by
  decide +kernel
theorem pair_cases : ∀ l : Fin 128, (l.val < 8 ∧ side l = 0 ∧ (place l).val = l.val) ∨ (8 ≤ l.val ∧ l.val < 16 ∧ side l = 1 ∧ (place l).val = l.val - 8)
    ∨ (16 ≤ l.val ∧ l.val < 64 ∧ side l = 0 ∧ (place l).val = l.val) ∨ (64 ≤ l.val ∧ l.val < 72 ∧ side l = 0 ∧ (place l).val = l.val - 56)
    ∨ (72 ≤ l.val ∧ l.val < 80 ∧ side l = 1 ∧ (place l).val = l.val - 64) ∨ (80 ≤ l.val ∧ side l = 1 ∧ (place l).val = l.val - 64) := by
  decide +kernel

/-- The first of two entries for the first head of a pair, the second for the second. -/
def either (s : Fin 2) (a b : EReal) : EReal := match s with
  | ⟨0, _⟩ => a
  | ⟨1, _⟩ => b

/-- The lane 64 lanes on. -/
abbrev across (l : Fin 128) : Fin 128 := ⟨(l.val + 64) % 128, by omega⟩

/-- What a lane holds: its own entry times its cosine and its partner's times its signed sine. -/
def swung (y C S : Fin 128 → EReal) (l : Fin 128) : EReal := y l * C l + y (across l) * S l

/-- The cosines and signed sines of the lanes, from those of the `n`-th angle `a l` of lane `l` of a half of 64. -/
def Spread (C S c s : Fin 128 → EReal) : Prop :=
  (∀ l : Fin 128, l.val % 64 < 16 → C l = c l) ∧ (∀ l : Fin 128, ¬ l.val % 64 < 16 → C l = 1 ∧ S l = 0)
    ∧ (∀ l : Fin 128, l.val < 16 → S l = -s l) ∧ (∀ l : Fin 128, 64 ≤ l.val → l.val < 80 → S l = s l)

theorem sub_as_add (a b c d : EReal) : a * b + c * -d = a * b - c * d := by rw [mul_neg, sub_eq_add_neg]

/-- Where the lanes' columns and partners lie. -/
theorem column_low : ∀ l : Fin 128, l.val < 16 → (column l).val = l.val ∧ (column (across l)).val = l.val + 16 := by decide +kernel
theorem column_high : ∀ l : Fin 128, 64 ≤ l.val → l.val < 80 → (column l).val = l.val - 48 ∧ (column (across l)).val = l.val - 64 := by decide +kernel
theorem column_rest : ∀ l : Fin 128, ¬ l.val % 64 < 16 → 32 ≤ (column l).val := by decide +kernel
theorem side_across : ∀ l : Fin 128, l.val % 64 < 16 → side (across l) = side l := by decide +kernel
theorem place_low : ∀ l : Fin 128, l.val < 16 → (place l).val = l.val % 8 ∧ (place (across l)).val = l.val % 8 + 8 := by decide +kernel
theorem place_high : ∀ l : Fin 128, 64 ≤ l.val → l.val < 80 → (place l).val = l.val % 8 + 8 ∧ (place (across l)).val = l.val % 8 := by decide +kernel
theorem place_rest : ∀ l : Fin 128, ¬ l.val % 64 < 16 → 16 ≤ (place l).val := by decide +kernel

/-- The turned entry of a first and of a second column, and of a column that is not turned. -/
theorem turned_first {W n : ℕ} (h : 2 * n ≤ W) (z : Fin W → EReal) (c s : Fin n → EReal) (i j : Fin W) (k : Fin n) (hi : i.val = k.val) (hj : j.val = k.val + n) :
    turned h z c s i = z i * c k - z j * s k := by
  obtain ⟨k, hk⟩ := k
  obtain ⟨i, _⟩ := i
  obtain ⟨j, _⟩ := j
  change i = k at hi
  change j = k + n at hj
  subst hi hj
  unfold turned
  rw [dif_pos hk]

theorem turned_second {W n : ℕ} (h : 2 * n ≤ W) (z : Fin W → EReal) (c s : Fin n → EReal) (i j : Fin W) (k : Fin n) (hi : i.val = k.val + n) (hj : j.val = k.val) :
    turned h z c s i = z i * c k + z j * s k := by
  obtain ⟨k, hk⟩ := k
  obtain ⟨i, _⟩ := i
  obtain ⟨j, _⟩ := j
  change i = k + n at hi
  change j = k at hj
  subst hi hj
  unfold turned
  rw [dif_neg (by show ¬ j + n < n; omega), dif_pos (by show j + n < 2 * n; omega)]
  simp only [Nat.add_sub_cancel]

theorem turned_rest {W n : ℕ} (h : 2 * n ≤ W) (z : Fin W → EReal) (c s : Fin n → EReal) (i : Fin W) (hi : 2 * n ≤ i.val) : turned h z c s i = z i := by
  unfold turned
  rw [dif_neg (by omega), dif_neg (by omega)]

/-- A lane of a head of 128 holds the turned column that it stands for. -/
theorem head {C S c s : Fin 128 → EReal} (h : Spread C S c s) (c' s' : Fin 16 → EReal)
    (hc : ∀ (l : Fin 128) (k : l.val % 64 < 16), c l = c' ⟨l.val % 64, k⟩ ∧ s l = s' ⟨l.val % 64, k⟩) (w : 2 * 16 ≤ 128) (z : Fin 128 → EReal) (l : Fin 128) :
    swung (fun l => z (column l)) C S l = turned w z c' s' (column l) := by
  obtain ⟨h1, h2, h3, h4⟩ := h
  unfold swung
  by_cases a : l.val % 64 < 16
  · rw [h1 l a, (hc l a).1]
    by_cases b : l.val < 64
    · obtain ⟨e1, e2⟩ := column_low l (by omega)
      rw [h3 l (by omega), (hc l a).2, sub_as_add]
      exact (turned_first w z c' s' _ _ ⟨l.val % 64, a⟩ (by rw [e1]; show l.val = l.val % 64; omega) (by rw [e2]; show l.val + 16 = l.val % 64 + 16; omega)).symm
    · obtain ⟨e1, e2⟩ := column_high l (by omega) (by omega)
      rw [h4 l (by omega) (by omega), (hc l a).2]
      exact (turned_second w z c' s' _ _ ⟨l.val % 64, a⟩ (by rw [e1]; show l.val - 48 = l.val % 64 + 16; omega) (by rw [e2]; show l.val - 64 = l.val % 64; omega)).symm
  · obtain ⟨p, q⟩ := h2 l a
    rw [p, q, mul_one, mul_zero, add_zero]
    exact (turned_rest w z c' s' _ (column_rest l a)).symm

/-- A lane of a pair of heads of 64 holds the turned column that it stands for. -/
theorem pair {C S c s : Fin 128 → EReal} (h : Spread C S c s) (c' s' : Fin 8 → EReal)
    (hc : ∀ (l : Fin 128) (_ : l.val % 64 < 16), c l = c' ⟨l.val % 8, by omega⟩ ∧ s l = s' ⟨l.val % 8, by omega⟩) (w : 2 * 8 ≤ 64)
    (z : Fin 2 → Fin 64 → EReal) (l : Fin 128) :
    swung (fun l => z (side l) (place l)) C S l = turned w (z (side l)) c' s' (place l) := by
  obtain ⟨h1, h2, h3, h4⟩ := h
  unfold swung
  by_cases a : l.val % 64 < 16
  · rw [h1 l a, (hc l a).1]
    simp only [side_across l a]
    by_cases b : l.val < 64
    · obtain ⟨e1, e2⟩ := place_low l (by omega)
      rw [h3 l (by omega), (hc l a).2, sub_as_add]
      exact (turned_first w (z (side l)) c' s' _ _ ⟨l.val % 8, by omega⟩ e1 e2).symm
    · obtain ⟨e1, e2⟩ := place_high l (by omega) (by omega)
      rw [h4 l (by omega) (by omega), (hc l a).2]
      exact (turned_second w (z (side l)) c' s' _ _ ⟨l.val % 8, by omega⟩ e1 e2).symm
  · obtain ⟨p, q⟩ := h2 l a
    rw [p, q, mul_one, mul_zero, add_zero]
    exact (turned_rest w (z (side l)) c' s' _ (place_rest l a)).symm

/-- Zeros turned are zeros. -/
theorem turned_zero {W n : ℕ} (h : 2 * n ≤ W) (c s : Fin n → EReal) (j : Fin W) : turned h (fun _ => 0) c s j = 0 := by
  unfold turned
  simp only [zero_mul, add_zero, sub_zero, dite_eq_ite, ite_self]

end Lane

end
-- ==== Proof.AttendBlock.lean ====
/-
  WHAT ONE GRID POINT OF THE SPARSE ATTENTION'S INPUT PROJECTION LEAVES in its eight blocks of 512 rows, read at an index over
  the extended reals: the queries head by head, the keys, the keys' squared lengths, the values, and the indexer's queries,
  keys and weights. `Lane.swung` is what a lane of a rotated row holds.
-/
module

public import proofs.«01_k».proof.Proof.Gen.AttendIdeal.Value
public import proofs.«01_k».proof.Proof.Lane
public import proofs.«01_k».proof.Proof.Turn
public import Idealize.ShloMosaic.Lib.Pipeline.ReadBack

@[expose] public section

noncomputable section

namespace Cert.AttendIdeal.Block

open Cert.AttendIdeal Cert.AttendIdeal.Gen Idealize.ShloMosaic Idealize.ShloMosaic.TcCoe Idealize.SL.Sem
open Feed (scaled zero_offsets)
open Turn (product)
open Lane

/-- Entry `(r, j)` of the block's normalized rows times a weight. -/
def rowProduct {W : ℕ} (x0 : S512x1024.Idx → EReal) (x2 : S1x1024.Idx → EReal) (w : (⟨2, ![1024, W]⟩ : Shape).Idx → EReal) (r : Fin 512) (j : Fin W) : EReal :=
  product (fun c => x0 (ix2 r c)) (fun k => x2 (ix2 0 k)) (fun k => w (ix2 k j))

/-- The angle of row `r` of the block at lane `l`. -/
def rowAngle (x1 : S512x1.Idx → BitVec 32) (x8 : S1x128.Idx → EReal) (r : Fin 512) (l : Fin 128) : EReal :=
  FloatOps.sitofp (F := Ideal) FTy.f32 (x1 (ix2 r 0)) * x8 (ix2 0 l)

/-- The lane 16 lanes on. -/
abbrev next (l : Fin 128) : Fin 128 := ⟨(l.val + 16) % 128, by omega⟩

/-- The cosines and signed sines of a row's lanes: for heads of 128, and for the indexer's heads of 64. -/
def headCos (x1 : S512x1.Idx → BitVec 32) (x8 : S1x128.Idx → EReal) (r : Fin 512) (l : Fin 128) : EReal :=
  if l.val % 64 < 16 then Ideal.cos (rowAngle x1 x8 r l) else 1
def headSin (x1 : S512x1.Idx → BitVec 32) (x8 x9 : S1x128.Idx → EReal) (r : Fin 512) (l : Fin 128) : EReal :=
  Ideal.sin (rowAngle x1 x8 r l) * x9 (ix2 0 l)
def pairCos (x1 : S512x1.Idx → BitVec 32) (x8 : S1x128.Idx → EReal) (r : Fin 512) (l : Fin 128) : EReal :=
  if l.val % 64 < 16 then Ideal.cos (rowAngle x1 x8 r (next l)) else 1
def pairSin (x1 : S512x1.Idx → BitVec 32) (x8 x9 : S1x128.Idx → EReal) (r : Fin 512) (l : Fin 128) : EReal :=
  Ideal.sin (rowAngle x1 x8 r (next l)) * x9 (ix2 0 l)

/-- The columns `128 h …` of the block's rows times a weight, swung by the row's angles. -/
def rowSwung {W : ℕ} (x0 : S512x1024.Idx → EReal) (x2 : S1x1024.Idx → EReal) (w : (⟨2, ![1024, W]⟩ : Shape).Idx → EReal) (C S : Fin 512 → Fin 128 → EReal)
    (o : ℕ) (ho : o + 128 ≤ W) (r : Fin 512) (l : Fin 128) : EReal :=
  swung (fun l => rowProduct x0 x2 w r ⟨o + l.val, by omega⟩) (C r) (S r) l

theorem lane_bit : ∀ l : Fin 128, k0_pay4 (ix2 0 l) = if l.val % 64 < 16 then 1#1 else 0#1 := by decide +kernel

theorem select_lane (l : Fin 128) (b : BitVec 1) (h : b = if l.val % 64 < 16 then 1#1 else 0#1) (x y : EReal) :
    Scalar.select b x y = if l.val % 64 < 16 then x else y := by
  subst h
  by_cases a : l.val % 64 < 16
  · rw [if_pos a, if_pos a]; rfl
  · rw [if_neg a, if_neg a]; rfl

section body
variable (x0 : Vec Ideal S512x1024 .f32) (x1 : Vec Ideal S512x1 .i32) (x2 : Vec Ideal S1x1024 .f32) (x8 x9 : Vec Ideal S1x128 .f32)

theorem normed_at (r : Fin 512) (k : Fin 1024) :
    k0_pay2 x0 x2 (ix2 r k) = scaled (fun c => x0 (ix2 r c)) (x2 (ix2 0 k)) k := by
  pointwise [k0_pay2, scaled]

theorem headCos_at (r : Fin 512) (l : Fin 128) : k0_pay8 x1 x8 (ix2 r l) = headCos x1 x8 r l := by
  have h := lane_bit l
  generalize hb : k0_pay4 = b at h
  unfold k0_pay8
  rw [hb]
  pointwise [k0_pay6, k0_pay5]
  exact select_lane l _ h _ _

theorem headSin_at (r : Fin 512) (l : Fin 128) : k0_pay9 x1 x9 x8 (ix2 r l) = headSin x1 x8 x9 r l := by
  pointwise [k0_pay9, k0_pay7, k0_pay5, k0_pay3, headSin, rowAngle]

theorem back (l : Fin 128) : (⟨(l.val + 128 - 112) % 128, by omega⟩ : Fin 128) = next l := Fin.ext (by show (l.val + 128 - 112) % 128 = (l.val + 16) % 128; omega)

theorem pairCos_at (r : Fin 512) (l : Fin 128) :
    k0_pay12 (k0_pay10 x1 x8) (Scalar.ofBits .f32 0x3F800000#32) k0_pay11 (ix2 r l) = pairCos x1 x8 r l := by
  have h := lane_bit l
  generalize hb : k0_pay4 = b at h
  unfold k0_pay12 k0_pay11
  rw [hb]
  pointwise [k0_pay10, k0_pay6, k0_pay5]
  refine (select_lane l _ h _ _).trans ?_
  rw [back]
  rfl

theorem pairSin_at (r : Fin 512) (l : Fin 128) : k0_pay13 (k0_pay3 x9) (k0_pay7 x1 x8) (ix2 r l) = pairSin x1 x8 x9 r l := by
  pointwise [k0_pay13, k0_pay7, k0_pay5, k0_pay3]
  rw [back]
  rfl

theorem halfway (l : Fin 128) : (l.val + 128 - 64) % 128 = (l.val + 64) % 128 := by omega

variable (n : FVec Ideal S512x1024 .bf16) (c s : FVec Ideal S512x128 .f32) (w : Vec Ideal S1024x256 .bf16)

/-- The first and the second 128 columns of rows times a slice of a weight. -/
abbrev left (r : Fin 512) (l : Fin 128) : EReal := ∑ k, n (ix2 r k) * w (ix2 k ⟨l.val, by omega⟩)
abbrev right (r : Fin 512) (l : Fin 128) : EReal := ∑ k, n (ix2 r k) * w (ix2 k ⟨128 + l.val, by omega⟩)

theorem first_at (r : Fin 512) (l : Fin 128) :
    k0_pay33 n c s w (ix2 r l) = swung (left n w r) (fun l => c (ix2 r l)) (fun l => s (ix2 r l)) l := by
  unfold swung
  pointwise [k0_pay33, k0_pay32]
  simp only [halfway]

theorem second_at (r : Fin 512) (l : Fin 128) :
    k0_pay34 n c s w (ix2 r l) = swung (right n w r) (fun l => c (ix2 r l)) (fun l => s (ix2 r l)) l := by
  unfold swung
  pointwise [k0_pay34, k0_pay32]
  simp only [halfway]

theorem query_first (r : Fin 512) (l : Fin 128) :
    k0_pay15 n c s w (ix4 0 0 r l) = swung (left n w r) (fun l => c (ix2 r l)) (fun l => s (ix2 r l)) l * Ideal.ofBits FTy.f32 0x3E0293EE#32 := by
  unfold swung
  pointwise [k0_pay15, k0_pay14]
  simp only [halfway]

theorem query_second (r : Fin 512) (l : Fin 128) :
    k0_pay16 n c s w (ix4 0 0 r l) = swung (right n w r) (fun l => c (ix2 r l)) (fun l => s (ix2 r l)) l * Ideal.ofBits FTy.f32 0x3E0293EE#32 := by
  unfold swung
  pointwise [k0_pay16, k0_pay14]
  simp only [halfway]

theorem length_at (z : FVec Ideal S512x256 .f32) (h : Fin 8) (r : Fin 512) :
    k0_pay30 c s z (ix3 0 h r) = ∑ l : Fin 128, k0_pay29 c s z (ix2 r l) * k0_pay29 c s z (ix2 r l) := by
  pointwise [k0_pay30]

theorem value_cast (r : Fin 512) (l : Fin 128) : k0_pay31 (k0_pay28 n w) (ix3 0 l r) = right n w r l := by
  pointwise [k0_pay31, k0_pay28]

theorem weight_at (w : Vec Ideal S1024x128 .bf16) (r : Fin 512) (l : Fin 128) :
    k0_pay1 n w (ix2 r l) = (∑ k, n (ix2 r k) * w (ix2 k l)) * Ideal.ofBits FTy.f32 0x3D3504F3#32 := by
  pointwise [k0_pay1]

/-- The lanes from a slice `w` of a weight `W`, the slice's columns being `W`'s from `o` on. -/
theorem left_row {N : ℕ} (W : (⟨2, ![1024, N]⟩ : Shape).Idx → EReal) (C S : Fin 512 → Fin 128 → EReal) (o : ℕ) (ho : o + 256 ≤ N)
    (hc : ∀ r l, c (ix2 r l) = C r l) (hs : ∀ r l, s (ix2 r l) = S r l)
    (hw : ∀ (k : Fin 1024) (d : Fin 256), w (ix2 k d) = W (ix2 k ⟨o + d.val, by omega⟩)) (r : Fin 512) (l : Fin 128) :
    swung (left (k0_pay2 x0 x2) w r) (fun l => c (ix2 r l)) (fun l => s (ix2 r l)) l = rowSwung x0 x2 W C S o (by omega) r l := by
  have e : left (k0_pay2 x0 x2) w r = fun l => rowProduct x0 x2 W r ⟨o + l.val, by omega⟩ := funext fun l => by
    simp only [left, normed_at, hw]; rfl
  simp only [e, hc, hs]
  rfl

theorem right_row {N : ℕ} (W : (⟨2, ![1024, N]⟩ : Shape).Idx → EReal) (C S : Fin 512 → Fin 128 → EReal) (o : ℕ) (ho : o + 256 ≤ N)
    (hc : ∀ r l, c (ix2 r l) = C r l) (hs : ∀ r l, s (ix2 r l) = S r l)
    (hw : ∀ (k : Fin 1024) (d : Fin 256), w (ix2 k d) = W (ix2 k ⟨o + d.val, by omega⟩)) (r : Fin 512) (l : Fin 128) :
    swung (right (k0_pay2 x0 x2) w r) (fun l => c (ix2 r l)) (fun l => s (ix2 r l)) l = rowSwung x0 x2 W C S (o + 128) (by omega) r l := by
  have a : ∀ d : ℕ, o + (128 + d) = o + 128 + d := fun d => by omega
  have e : right (k0_pay2 x0 x2) w r = fun l => rowProduct x0 x2 W r ⟨o + 128 + l.val, by omega⟩ := funext fun l => by
    simp only [right, normed_at, hw, a]; rfl
  simp only [e, hc, hs]
  rfl

end body

/-- A load of 256 columns of a weight from column `o`. -/
theorem ld_columns {N : ℕ} (x : (⟨2, ![1024, N]⟩ : Shape).Idx → EReal) (o : ℕ) (ho : o + 256 ≤ N) (inb) (k : Fin 1024) (d : Fin 256) :
    View.ld (Val := Elt Ideal) (e' := .bf16) x (Rect.unit (s := ⟨2, ![1024, N]⟩) ![0, o] ![1024, 256] inb) (ix2 k d) = x (ix2 k ⟨o + d.val, by omega⟩) := by
  refine congrArg x (funext fun a => Fin.ext ?_)
  match a with
  | ⟨0, _⟩ => show 0 + 1 * k.val = k.val; omega
  | ⟨1, _⟩ => show o + 1 * d.val = o + d.val; omega

/-- A function of row, head and lane as a function of the queries' block's index, and a store of one head as a part of it. -/
def byHead (f : Fin 512 → Fin 8 → Fin 128 → EReal) (y : S1x8x512x128.Idx) : EReal := f (y 2) (y 1) (y 3)

theorem head_piece (f : Fin 512 → Fin 8 → Fin 128 → EReal) (h : Fin 8) (o : ℕ) (ho : o = h.val) (inb)
    (v : S1x1x512x128.Idx → EReal) (hv : ∀ r l, v (ix4 0 0 r l) = f r h l) (x : S1x1x512x128.Idx) :
    v x = byHead f ((Rect.unit (s := S1x8x512x128) ![0, o, 0, 0] S1x1x512x128.size inb).emb x) := by
  obtain ⟨a, b, r, l, rfl⟩ : ∃ (a b : Fin 1) (r : Fin 512) (l : Fin 128), x = ix4 a b r l := ⟨x 0, x 1, x 2, x 3, eq_ix4 (n0 := 1) (n1 := 1) (n2 := 512) (n3 := 128) x⟩
  obtain rfl : a = 0 := Subsingleton.elim _ _
  obtain rfl : b = 0 := Subsingleton.elim _ _
  rw [hv]
  have e1 : r = (⟨0 + 1 * r.val, by omega⟩ : Fin 512) := Fin.ext (by show r.val = 0 + 1 * r.val; omega)
  have e2 : h = (⟨o + 1 * 0, by omega⟩ : Fin 8) := Fin.ext (by show h.val = o + 1 * 0; omega)
  have e3 : l = (⟨0 + 1 * l.val, by omega⟩ : Fin 128) := Fin.ext (by show l.val = 0 + 1 * l.val; omega)
  exact (congrArg (fun a => f a _ _) e1).trans ((congrArg (fun a => f _ a _) e2).trans (congrArg (f _ _) e3))

/-- A function of row, pair of heads and lane as a function of the indexer's queries' block's index, likewise. -/
def byPair (f : Fin 512 → Fin 4 → Fin 128 → EReal) (y : S512x512.Idx) : EReal :=
  f (y 0) ⟨(y 1).val / 128, by have : (y 1).val < 512 := (y 1).isLt; omega⟩ ⟨(y 1).val % 128, by omega⟩

/-- Lane `l` of pair `p`. -/
abbrev lane (p : Fin 4) (l : Fin 128) : Fin 512 := ⟨128 * p.val + l.val, by omega⟩

theorem byPair_at (f : Fin 512 → Fin 4 → Fin 128 → EReal) (r : Fin 512) (p : Fin 4) (l : Fin 128) : byPair f (ix2 r (lane p l)) = f r p l := by
  have a : (⟨(128 * p.val + l.val) / 128, by omega⟩ : Fin 4) = p := Fin.ext (by show (128 * p.val + l.val) / 128 = p.val; omega)
  have b : (⟨(128 * p.val + l.val) % 128, by omega⟩ : Fin 128) = l := Fin.ext (by show (128 * p.val + l.val) % 128 = l.val; omega)
  show f r ⟨_, _⟩ ⟨_, _⟩ = _
  exact (congrArg (fun o => f r o _) a).trans (congrArg (f r p) b)

theorem pair_piece (f : Fin 512 → Fin 4 → Fin 128 → EReal) (p : Fin 4) (o : ℕ) (ho : o = 128 * p.val) (inb)
    (v : S512x128.Idx → EReal) (hv : ∀ r l, v (ix2 r l) = f r p l) (x : S512x128.Idx) :
    v x = byPair f ((Rect.unit (s := S512x512) ![0, o] S512x128.size inb).emb x) := by
  obtain ⟨r, l, rfl⟩ : ∃ (r : Fin 512) (l : Fin 128), x = ix2 r l := ⟨x 0, x 1, eq_ix2 (n0 := 512) (n1 := 128) x⟩
  rw [hv, ← byPair_at f r p l]
  refine congrArg (byPair f) (funext fun a => Fin.ext ?_)
  match a with
  | ⟨0, _⟩ => show r.val = 0 + 1 * r.val; omega
  | ⟨1, _⟩ => show 128 * p.val + l.val = o + 1 * l.val; omega

theorem zero_offsets3 : (![0, 0, 0] : Fin 3 → Nat) = fun _ => 0 := by funext a; fin_cases a <;> rfl

section block
variable (x0 : Vec Ideal S512x1024 .f32) (x1 : Vec Ideal S512x1 .i32) (x2 : Vec Ideal S1x1024 .f32) (x3 : Vec Ideal S1024x1024 .bf16) (x4 : Vec Ideal S1024x256 .bf16)
  (x5 : Vec Ideal S1024x512 .bf16) (x6 : Vec Ideal S1024x256 .bf16) (x7 : Vec Ideal S1024x128 .bf16) (x8 x9 : Vec Ideal S1x128 .f32)

theorem ld0 : View.ld (Val := Elt Ideal) (e' := .f32) x0 r0_0 = x0 := View.ld_unit_zero (S := S512x1024) zero_offsets _ x0
theorem ld1 : View.ld (Val := Elt Ideal) (e' := .i32) x1 r0_2 = x1 := View.ld_unit_zero (S := S512x1) zero_offsets _ x1
theorem ld2 : View.ld (Val := Elt Ideal) (e' := .f32) x2 r0_1 = x2 := View.ld_unit_zero (S := S1x1024) zero_offsets _ x2
theorem ld8 : View.ld (Val := Elt Ideal) (e' := .f32) x8 r0_3 = x8 := View.ld_unit_zero (S := S1x128) zero_offsets _ x8
theorem ld6 : View.ld (Val := Elt Ideal) (e' := .bf16) x6 r0_16 = x6 := View.ld_unit_zero (S := S1024x256) zero_offsets _ x6
theorem ld7 : View.ld (Val := Elt Ideal) (e' := .bf16) x7 r0_26 = x7 := View.ld_unit_zero (S := S1024x128) zero_offsets _ x7

/-- A row's query head, in the softmax's scale. -/
def rowQuery (r : Fin 512) (h : Fin 8) (l : Fin 128) : EReal :=
  rowSwung x0 x2 x3 (headCos x1 x8) (headSin x1 x8 x9) (128 * h.val) (by omega) r l * Ideal.ofBits FTy.f32 0x3E0293EE#32

theorem query_at (r : Fin 512) (h : Fin 8) (l : Fin 128) :
    out0_10 x0 x1 x2 x3 x4 x5 x6 x7 x8 x9 (ix4 0 h r l) = rowQuery x0 x1 x2 x3 x8 x9 r h l := by
  have lo : ∀ (w : Vec Ideal S1024x256 .bf16) (h : Fin 8) (o : ℕ) (e : o = 128 * h.val) (ho : o + 256 ≤ 1024)
      (_ : ∀ (k : Fin 1024) (d : Fin 256), w (ix2 k d) = x3 (ix2 k ⟨o + d.val, by omega⟩))
      (r : Fin 512) (l : Fin 128), k0_pay15 (k0_pay2 x0 x2) (k0_pay8 x1 x8) (k0_pay9 x1 x9 x8) w (ix4 0 0 r l) = rowQuery x0 x1 x2 x3 x8 x9 r h l := by
    intro w h o e ho hw r l
    subst e
    exact (query_first _ _ _ w r l).trans (congrArg (· * _) (left_row x0 x2 _ _ w x3 _ _ _ ho (headCos_at x1 x8) (headSin_at x1 x8 x9) hw r l))
  have hi : ∀ (w : Vec Ideal S1024x256 .bf16) (h : Fin 8) (o : ℕ) (e : o + 128 = 128 * h.val) (ho : o + 256 ≤ 1024)
      (_ : ∀ (k : Fin 1024) (d : Fin 256), w (ix2 k d) = x3 (ix2 k ⟨o + d.val, by omega⟩))
      (r : Fin 512) (l : Fin 128), k0_pay16 (k0_pay2 x0 x2) (k0_pay8 x1 x8) (k0_pay9 x1 x9 x8) w (ix4 0 0 r l) = rowQuery x0 x1 x2 x3 x8 x9 r h l := by
    intro w h o e ho hw r l
    unfold rowQuery
    simp only [← e]
    exact (query_second _ _ _ w r l).trans (congrArg (· * _) (right_row x0 x2 _ _ w x3 _ _ _ ho (headCos_at x1 x8) (headSin_at x1 x8 x9) hw r l))
  show _ = byHead (rowQuery x0 x1 x2 x3 x8 x9) (ix4 0 h r l)
  unfold out0_10 k0_pay41 k0_pay42 k0_pay43
  rw [ld0, ld1, ld2, ld8, ld8]
  refine View.canon_apply_of_pieces (Val := Elt Ideal) (e := .bf16) (byHead (rowQuery x0 x1 x2 x3 x8 x9)) _
    (View.PiecesOf.mem (Val := Elt Ideal) (e := .bf16) (by exact
      ⟨head_piece _ 7 7 rfl inb_S1x8x512x128_S1x1x512x128_0_7_0_0 _ (hi _ 7 768 rfl (by omega) (ld_columns x3 768 (by omega) inb_S1024x1024_S1024x256_0_768)),
        head_piece _ 6 6 rfl inb_S1x8x512x128_S1x1x512x128_0_6_0_0 _ (lo _ 6 768 rfl (by omega) (ld_columns x3 768 (by omega) inb_S1024x1024_S1024x256_0_768)),
        head_piece _ 5 5 rfl inb_S1x8x512x128_S1x1x512x128_0_5_0_0 _ (hi _ 5 512 rfl (by omega) (ld_columns x3 512 (by omega) inb_S1024x1024_S1024x256_0_512)),
        head_piece _ 4 4 rfl inb_S1x8x512x128_S1x1x512x128_0_4_0_0 _ (lo _ 4 512 rfl (by omega) (ld_columns x3 512 (by omega) inb_S1024x1024_S1024x256_0_512)),
        head_piece _ 3 3 rfl inb_S1x8x512x128_S1x1x512x128_0_3_0_0 _ (hi _ 3 256 rfl (by omega) (ld_columns x3 256 (by omega) inb_S1024x1024_S1024x256_0_256)),
        head_piece _ 2 2 rfl inb_S1x8x512x128_S1x1x512x128_0_2_0_0 _ (lo _ 2 256 rfl (by omega) (ld_columns x3 256 (by omega) inb_S1024x1024_S1024x256_0_256)),
        head_piece _ 1 1 rfl inb_S1x8x512x128_S1x1x512x128_0_1_0_0 _ (hi _ 1 0 rfl (by omega) (ld_columns x3 0 (by omega) inb_S1024x1024_S1024x256_0_0)),
        head_piece _ 0 0 rfl inb_S1x8x512x128_S1x1x512x128_0_0_0_0 _ (lo _ 0 0 rfl (by omega) (ld_columns x3 0 (by omega) inb_S1024x1024_S1024x256_0_0)), trivial⟩)) _ ?_
  exact cover0_10 _ _ _ _ _ _ _ _ _

/-- A row's key. -/
def rowKey (r : Fin 512) (l : Fin 128) : EReal := rowSwung x0 x2 x4 (headCos x1 x8) (headSin x1 x8 x9) 0 (by omega) r l

theorem keys_payload (r : Fin 512) (l : Fin 128) :
    k0_pay29 (k0_pay8 x1 x8) (k0_pay9 x1 x9 x8) (k0_pay28 (k0_pay2 x0 x2) x4) (ix2 r l) = rowKey x0 x1 x2 x4 x8 x9 r l :=
  (first_at _ _ _ x4 r l).trans (left_row x0 x2 _ _ x4 x4 _ _ 0 (by omega) (headCos_at x1 x8) (headSin_at x1 x8 x9)
    (fun k d => congrArg x4 (congrArg (ix2 k) (Fin.ext (by show d.val = 0 + d.val; omega)))) r l)

theorem key_at (r : Fin 512) (l : Fin 128) : out0_11 x0 x1 x2 x3 x4 x5 x6 x7 x8 x9 (ix2 r l) = rowKey x0 x1 x2 x4 x8 x9 r l := by
  unfold out0_11 k0_pay46 k0_pay41 k0_pay42 k0_pay43
  rw [ld0, ld1, ld2, ld8, ld8, ld6]
  exact (congrFun (View.canon_unit_zero (Val := Elt Ideal) (S := S512x128) (e := .bf16) zero_offsets _ _) (ix2 r l)).trans (keys_payload x0 x1 x2 x4 x8 x9 r l)

theorem squared_at (h : Fin 8) (r : Fin 512) :
    out0_12 x0 x1 x2 x3 x4 x5 x6 x7 x8 x9 (ix3 0 h r) = ∑ l, rowKey x0 x1 x2 x4 x8 x9 r l * rowKey x0 x1 x2 x4 x8 x9 r l := by
  unfold out0_12 k0_pay46 k0_pay41 k0_pay42 k0_pay43
  rw [ld0, ld1, ld2, ld8, ld8, ld6]
  refine (congrFun (View.canon_unit_zero (Val := Elt Ideal) (S := S1x8x512) (e := .f32) zero_offsets3 _ _) (ix3 0 h r)).trans ((length_at _ _ _ h r).trans ?_)
  simp only [keys_payload]

theorem value_at (l : Fin 128) (r : Fin 512) :
    out0_13 x0 x1 x2 x3 x4 x5 x6 x7 x8 x9 (ix3 0 l r) = rowProduct x0 x2 x4 r ⟨128 + l.val, by omega⟩ := by
  unfold out0_13 k0_pay46 k0_pay41
  rw [ld0, ld2, ld6]
  refine (congrFun (View.canon_unit_zero (Val := Elt Ideal) (S := S1x128x512) (e := .bf16) zero_offsets3 _ _) (ix3 0 l r)).trans ((value_cast _ _ r l).trans ?_)
  simp only [right, normed_at]
  rfl

/-- A row's pair of indexer heads. -/
def rowPair {N : ℕ} (w : (⟨2, ![1024, N]⟩ : Shape).Idx → EReal) (o : ℕ) (ho : o + 128 ≤ N) (r : Fin 512) (l : Fin 128) : EReal :=
  rowSwung x0 x2 w (pairCos x1 x8) (pairSin x1 x8 x9) o ho r l

theorem pair_first {N : ℕ} (W : (⟨2, ![1024, N]⟩ : Shape).Idx → EReal) (w : Vec Ideal S1024x256 .bf16) (o : ℕ) (ho : o + 256 ≤ N)
    (hw : ∀ (k : Fin 1024) (d : Fin 256), w (ix2 k d) = W (ix2 k ⟨o + d.val, by omega⟩)) (r : Fin 512) (l : Fin 128) :
    k0_pay33 (k0_pay2 x0 x2) (k0_pay12 (k0_pay10 x1 x8) (Scalar.ofBits .f32 0x3F800000#32) k0_pay11) (k0_pay13 (k0_pay3 x9) (k0_pay7 x1 x8)) w (ix2 r l)
      = rowPair x0 x1 x2 x8 x9 W o (by omega) r l :=
  (first_at _ _ _ w r l).trans (left_row x0 x2 _ _ w W _ _ o ho (pairCos_at x1 x8) (pairSin_at x1 x8 x9) hw r l)

theorem pair_second {N : ℕ} (W : (⟨2, ![1024, N]⟩ : Shape).Idx → EReal) (w : Vec Ideal S1024x256 .bf16) (o : ℕ) (ho : o + 256 ≤ N)
    (hw : ∀ (k : Fin 1024) (d : Fin 256), w (ix2 k d) = W (ix2 k ⟨o + d.val, by omega⟩)) (r : Fin 512) (l : Fin 128) :
    k0_pay34 (k0_pay2 x0 x2) (k0_pay12 (k0_pay10 x1 x8) (Scalar.ofBits .f32 0x3F800000#32) k0_pay11) (k0_pay13 (k0_pay3 x9) (k0_pay7 x1 x8)) w (ix2 r l)
      = rowPair x0 x1 x2 x8 x9 W (o + 128) (by omega) r l :=
  (second_at _ _ _ w r l).trans (right_row x0 x2 _ _ w W _ _ o ho (pairCos_at x1 x8) (pairSin_at x1 x8 x9) hw r l)

/-- The four pairs of a row. -/
def rowPairs (r : Fin 512) (p : Fin 4) (l : Fin 128) : EReal := rowPair x0 x1 x2 x8 x9 x5 (128 * p.val) (by omega) r l

theorem pairs_at (r : Fin 512) (p : Fin 4) (l : Fin 128) :
    out0_14 x0 x1 x2 x3 x4 x5 x6 x7 x8 x9 (ix2 r (lane p l)) = rowPairs x0 x1 x2 x5 x8 x9 r p l := by
  rw [← byPair_at (rowPairs x0 x1 x2 x5 x8 x9) r p l]
  unfold out0_14 k0_pay41 k0_pay44 k0_pay45
  rw [ld0, ld1, ld2, ld8, ld8]
  refine View.canon_apply_of_pieces (Val := Elt Ideal) (e := .bf16) (byPair (rowPairs x0 x1 x2 x5 x8 x9)) _
    (View.PiecesOf.mem (Val := Elt Ideal) (e := .bf16) (by exact
      ⟨pair_piece _ 3 384 rfl inb_S512x512_S512x128_0_384 _ (pair_second x0 x1 x2 x8 x9 x5 _ 256 (by omega) (ld_columns x5 256 (by omega) inb_S1024x512_S1024x256_0_256)),
        pair_piece _ 2 256 rfl inb_S512x512_S512x128_0_256 _ (pair_first x0 x1 x2 x8 x9 x5 _ 256 (by omega) (ld_columns x5 256 (by omega) inb_S1024x512_S1024x256_0_256)),
        pair_piece _ 1 128 rfl inb_S512x512_S512x128_0_128 _ (pair_second x0 x1 x2 x8 x9 x5 _ 0 (by omega) (ld_columns x5 0 (by omega) inb_S1024x512_S1024x256_0_0)),
        pair_piece _ 0 0 rfl inb_S512x512_S512x128_0_0 _ (pair_first x0 x1 x2 x8 x9 x5 _ 0 (by omega) (ld_columns x5 0 (by omega) inb_S1024x512_S1024x256_0_0)), trivial⟩)) _ ?_
  exact cover0_14 _ _ _ _ _

theorem whole_columns (k : Fin 1024) (d : Fin 256) : x6 (ix2 k d) = x6 (ix2 k ⟨0 + d.val, by omega⟩) :=
  congrArg x6 (congrArg (ix2 k) (Fin.ext (by show d.val = 0 + d.val; omega)))

theorem low_at (r : Fin 512) (l : Fin 128) : out0_15 x0 x1 x2 x3 x4 x5 x6 x7 x8 x9 (ix2 r l) = rowPair x0 x1 x2 x8 x9 x6 0 (by omega) r l := by
  unfold out0_15 k0_pay41 k0_pay44 k0_pay45
  rw [ld0, ld1, ld2, ld8, ld8, ld6]
  exact (congrFun (View.canon_unit_zero (Val := Elt Ideal) (S := S512x128) (e := .bf16) zero_offsets _ _) (ix2 r l)).trans
    (pair_first x0 x1 x2 x8 x9 x6 x6 0 (by omega) (whole_columns x6) r l)

theorem high_at (r : Fin 512) (l : Fin 128) : out0_16 x0 x1 x2 x3 x4 x5 x6 x7 x8 x9 (ix2 r l) = rowPair x0 x1 x2 x8 x9 x6 (0 + 128) (by omega) r l := by
  unfold out0_16 k0_pay41 k0_pay44 k0_pay45
  rw [ld0, ld1, ld2, ld8, ld8, ld6]
  exact (congrFun (View.canon_unit_zero (Val := Elt Ideal) (S := S512x128) (e := .bf16) zero_offsets _ _) (ix2 r l)).trans
    (pair_second x0 x1 x2 x8 x9 x6 x6 0 (by omega) (whole_columns x6) r l)

theorem weights_at (r : Fin 512) (l : Fin 128) :
    out0_17 x0 x1 x2 x3 x4 x5 x6 x7 x8 x9 (ix2 r l) = rowProduct x0 x2 x7 r l * Ideal.ofBits FTy.f32 0x3D3504F3#32 := by
  unfold out0_17 k0_pay41
  rw [ld0, ld2, ld7]
  refine (congrFun (View.canon_unit_zero (Val := Elt Ideal) (S := S512x128) (e := .f32) zero_offsets _ _) (ix2 r l)).trans ((weight_at _ _ r l).trans ?_)
  simp only [normed_at]
  rfl

end block

end Cert.AttendIdeal.Block

end
-- ==== Proof.AttendHost.lean ====
/-
  THE SPARSE ATTENTION'S WEIGHTS AND TABLES AS ITS INPUT PROJECTION PREPARES THEM: which column of the weight argument each
  column of a prepared weight is, and the frequency and sign of each lane.
-/
module

public import proofs.«01_k».proof.Proof.AttendBlock
public import proofs.«01_k».proof.Proof.Powers

@[expose] public section

noncomputable section

namespace Cert.AttendIdeal.Block

open Cert.AttendIdeal Cert.AttendIdeal.Gen Idealize.ShloMosaic Idealize.ShloMosaic.TcCoe Idealize.SL.Sem
open Lane

/-- The rotary frequencies of a head of 128, and of an indexer head of 64. -/
def freq : FVec Ideal S16 .f32 :=
  Host.powf (broadcastInDim S16 ![] bcast_S_S16 (constant S_ .f32 0x48F42400#32))
    (Host.divf (Host.negf (sitofp .f32 (iotaInDim S16 32 0))) (broadcastInDim S16 ![] bcast_S_S16 (constant S_ .f32 0x41800000#32)))
def pairFreq : FVec Ideal S8 .f32 :=
  Host.powf (broadcastInDim S8 ![] bcast_S_S8 (constant S_ .f32 0x48F42400#32))
    (Host.divf (Host.negf (sitofp .f32 (iotaInDim S8 32 0))) (broadcastInDim S8 ![] bcast_S_S8 (constant S_ .f32 0x41000000#32)))

/-- The lanes' frequencies: sixteen of a head, eight of an indexer head twice, and zeros; and once more. -/
def halfFreqs (f : FVec Ideal S16 .f32) (g : FVec Ideal S8 .f32) : FVec Ideal S64 .f32 :=
  concatenate S64 0 [⟨S16, f⟩, ⟨S8, g⟩, ⟨S8, g⟩, ⟨S32, broadcastInDim S32 ![] bcast_S_S32 (constant S_ .f32 0x00000000#32)⟩]
    concatenates_S16_S8_S8_S32_S64_d0
def laneFreqs (f : FVec Ideal S16 .f32) (g : FVec Ideal S8 .f32) : FVec Ideal S1x128 .f32 :=
  broadcastInDim S1x128 ![1] bcast_S128_S1x128_1 (concatenate S128 0 [⟨S64, halfFreqs f g⟩, ⟨S64, halfFreqs f g⟩] concatenates_S64_S64_S128_d0)

theorem laneFreqs_at (f : FVec Ideal S16 .f32) (g : FVec Ideal S8 .f32) (l : Fin 128) (h : l.val % 64 < 16) :
    laneFreqs f g (ix2 0 l) = f (ix1 ⟨l.val % 64, h⟩) := by
  pointwise [laneFreqs, halfFreqs]
  split_ifs <;> first | (exfalso; omega) | exact congrArg (fun d => f (ix1 d)) (Fin.ext (by dsimp only; omega))

theorem laneFreqs_next (f : FVec Ideal S16 .f32) (g : FVec Ideal S8 .f32) (l : Fin 128) (h : l.val % 64 < 16) :
    laneFreqs f g (ix2 0 (next l)) = g (ix1 ⟨l.val % 8, by omega⟩) := by
  pointwise [laneFreqs, halfFreqs]
  split_ifs <;> first | (exfalso; omega) | exact congrArg (fun d => g (ix1 d)) (Fin.ext (by dsimp only; omega))

/-- The lanes' signs. -/
def laneSigns : FVec Ideal S1x128 .f32 :=
  broadcastInDim S1x128 ![1] bcast_S128_S1x128_1 (concatenate S128 0 [
    ⟨S16, Host.negf (broadcastInDim S16 ![] bcast_S_S16 (constant S_ .f32 0x3F800000#32))⟩,
    ⟨S48, broadcastInDim S48 ![] bcast_S_S48 (constant S_ .f32 0x00000000#32)⟩,
    ⟨S16, broadcastInDim S16 ![] bcast_S_S16 (constant S_ .f32 0x3F800000#32)⟩,
    ⟨S48, broadcastInDim S48 ![] bcast_S_S48 (constant S_ .f32 0x00000000#32)⟩] concatenates_S16_S48_S16_S48_S128_d0)

theorem laneSigns_at (l : Fin 128) : laneSigns (ix2 0 l) = if l.val < 16 then -1 else if l.val < 64 then 0 else if l.val < 80 then 1 else 0 := by
  pointwise [laneSigns]
  split_ifs <;> first | (exfalso; omega) | with_reducible rfl

variable (m : (ℓ : Loc nD τ sig) → Buf (Elt Ideal) ℓ)

theorem V_scale (c : Dev nD) (j : Fin 1024) :
    (V m c main_v83 : S1x1024.Idx → EReal) (ix2 0 j) = (m ((c : Thread nD τ).loc main_arg2) : S1024.Idx → EReal) (ix1 j) := by
  have e : V m c main_v83 = broadcastInDim S1x1024 ![1] bcast_S1024_S1x1024_1 (m ((c : Thread nD τ).loc main_arg2)) := by
    show StableHlo.after (List.flatten [hostOps0, hostOps0_1, hostOps0_2]) _ _ = _
    simp only [hostOps0, hostOps0_1, hostOps0_2, List.flatten_cons, List.flatten_nil, List.append_nil, List.cons_append, List.nil_append]
    after_results
  rw [e]
  pointwise []

theorem V_freqs (c : Dev nD) : V m c main_v75 = laneFreqs freq pairFreq := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem V_signs (c : Dev nD) : V m c main_v82 = laneSigns := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The queries' weight, its heads' columns in the lanes' order. -/
def queryHeads (w : FVec Ideal S1024x8x128 .f32) : FVec Ideal S1024x8x128 .f32 :=
  concatenate S1024x8x128 2 [⟨S1024x8x16, extractStridedSlice S1024x8x16 ![0, 0, 0] w slices_S1024x8x128_S1024x8x16_0_0_0⟩,
    ⟨S1024x8x48, extractStridedSlice S1024x8x48 ![0, 0, 32] w slices_S1024x8x128_S1024x8x48_0_0_32⟩,
    ⟨S1024x8x16, extractStridedSlice S1024x8x16 ![0, 0, 16] w slices_S1024x8x128_S1024x8x16_0_0_16⟩,
    ⟨S1024x8x48, extractStridedSlice S1024x8x48 ![0, 0, 80] w slices_S1024x8x128_S1024x8x48_0_0_80⟩]
    concatenates_S1024x8x16_S1024x8x48_S1024x8x16_S1024x8x48_S1024x8x128_d2

theorem queryHeads_at (w : FVec Ideal S1024x8x128 .f32) (k : Fin 1024) (h : Fin 8) (l : Fin 128) : queryHeads w (ix3 k h l) = w (ix3 k h (column l)) := by
  pointwise [queryHeads]
  rcases column_cases l with ⟨_, e⟩ | ⟨_, _, e⟩ | ⟨_, _, e⟩ | ⟨_, e⟩ <;> split_ifs <;>
    first | (exfalso; omega) | exact congrArg (fun d => w (ix3 k h d)) (Fin.ext (by first | omega | (dsimp only; omega)))

theorem V_query (c : Dev nD) (k : Fin 1024) (h : Fin 8) (l : Fin 128) :
    (V m c main_v8 : S1024x1024.Idx → EReal) (ix2 k ⟨128 * h.val + l.val, by omega⟩)
      = (m ((c : Thread nD τ).loc main_arg3) : S1024x1864.Idx → EReal) (ix2 k ⟨128 * h.val + (column l).val, by omega⟩) := by
  have e : V m c main_v8 = truncf (F := Ideal) .bf16 (shapeCast S1024x1024 (queryHeads (shapeCast S1024x8x128
      (extractStridedSlice S1024x1024 ![0, 0] (m ((c : Thread nD τ).loc main_arg3) : FVec Ideal S1024x1864 .f32) slices_S1024x1864_S1024x1024_0_0)
      shapeCasts_S1024x1024_S1024x8x128)) shapeCasts_S1024x8x128_S1024x1024) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e]
  refine (shapeCast_apply (k := ix3 k h l) _ _ _ (by
    rw [Shape.rowMajor_val_two, Shape.rowMajor_val_three]
    show (k.val * 8 + h.val) * 128 + l.val = k.val * 1024 + (128 * h.val + l.val)
    omega)).trans ((queryHeads_at _ k h l).trans ((shapeCast_apply (k := ix2 k ⟨128 * h.val + (column l).val, by omega⟩) _ _ _ (by
    rw [Shape.rowMajor_val_two, Shape.rowMajor_val_three]
    show k.val * 1024 + (128 * h.val + (column l).val) = (k.val * 8 + h.val) * 128 + (column l).val
    omega)).trans ?_))
  pointwise []

/-- The keys' weight in the lanes' order, and the values'. -/
def keyHead (w : FVec Ideal S1024x128 .f32) : FVec Ideal S1024x128 .f32 :=
  concatenate S1024x128 1 [⟨S1024x16, extractStridedSlice S1024x16 ![0, 0] w slices_S1024x128_S1024x16_0_0⟩,
    ⟨S1024x48, extractStridedSlice S1024x48 ![0, 32] w slices_S1024x128_S1024x48_0_32⟩,
    ⟨S1024x16, extractStridedSlice S1024x16 ![0, 16] w slices_S1024x128_S1024x16_0_16⟩,
    ⟨S1024x48, extractStridedSlice S1024x48 ![0, 80] w slices_S1024x128_S1024x48_0_80⟩]
    concatenates_S1024x16_S1024x48_S1024x16_S1024x48_S1024x128_d1

theorem keyHead_at (w : FVec Ideal S1024x128 .f32) (k : Fin 1024) (l : Fin 128) : keyHead w (ix2 k l) = w (ix2 k (column l)) := by
  pointwise [keyHead]
  rcases column_cases l with ⟨_, e⟩ | ⟨_, _, e⟩ | ⟨_, _, e⟩ | ⟨_, e⟩ <;> split_ifs <;>
    first | (exfalso; omega) | exact congrArg (fun d => w (ix2 k d)) (Fin.ext (by first | omega | (dsimp only; omega)))

/-- Two weights of 128 columns side by side. -/
def beside (a b : FVec Ideal S1024x128 .f32) : FVec Ideal S1024x256 .bf16 :=
  truncf .bf16 (concatenate S1024x256 1 [⟨S1024x128, a⟩, ⟨S1024x128, b⟩] concatenates_S1024x128_S1024x128_S1024x256_d1) bitsLt_bf16_f32

theorem beside_left (a b : FVec Ideal S1024x128 .f32) (k : Fin 1024) (l : Fin 128) : beside a b (ix2 k ⟨0 + l.val, by omega⟩) = a (ix2 k l) := by
  pointwise [beside]

theorem beside_right (a b : FVec Ideal S1024x128 .f32) (k : Fin 1024) (l : Fin 128) : beside a b (ix2 k ⟨128 + l.val, by omega⟩) = b (ix2 k l) := by
  pointwise [beside]

theorem V_keyvalue (c : Dev nD) : V m c main_v17 = beside (keyHead (extractStridedSlice S1024x128 ![0, 1024] (m ((c : Thread nD τ).loc main_arg3) : FVec Ideal S1024x1864 .f32) slices_S1024x1864_S1024x128_0_1024))
    (extractStridedSlice S1024x128 ![0, 1152] (m ((c : Thread nD τ).loc main_arg3) : FVec Ideal S1024x1864 .f32) slices_S1024x1864_S1024x128_0_1152) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem V_key (c : Dev nD) (k : Fin 1024) (l : Fin 128) :
    (V m c main_v17 : S1024x256.Idx → EReal) (ix2 k ⟨0 + l.val, by omega⟩)
      = (m ((c : Thread nD τ).loc main_arg3) : S1024x1864.Idx → EReal) (ix2 k ⟨1024 + (column l).val, by omega⟩) := by
  rw [V_keyvalue]
  refine (beside_left _ _ k l).trans ((keyHead_at _ k l).trans ?_)
  pointwise []

theorem V_value (c : Dev nD) (k : Fin 1024) (l : Fin 128) :
    (V m c main_v17 : S1024x256.Idx → EReal) (ix2 k ⟨128 + l.val, by omega⟩)
      = (m ((c : Thread nD τ).loc main_arg3) : S1024x1864.Idx → EReal) (ix2 k ⟨1152 + l.val, by omega⟩) := by
  rw [V_keyvalue]
  refine (beside_right _ _ k l).trans ?_
  pointwise []

/-- The indexer's query weight, two heads in the order of the lanes of a pair. -/
def pairHeads (a b : FVec Ideal S1024x4x64 .f32) : FVec Ideal S1024x4x128 .f32 :=
  concatenate S1024x4x128 2 [⟨S1024x4x8, extractStridedSlice S1024x4x8 ![0, 0, 0] a slices_S1024x4x64_S1024x4x8_0_0_0⟩,
    ⟨S1024x4x8, extractStridedSlice S1024x4x8 ![0, 0, 0] b slices_S1024x4x64_S1024x4x8_0_0_0⟩,
    ⟨S1024x4x48, extractStridedSlice S1024x4x48 ![0, 0, 16] a slices_S1024x4x64_S1024x4x48_0_0_16⟩,
    ⟨S1024x4x8, extractStridedSlice S1024x4x8 ![0, 0, 8] a slices_S1024x4x64_S1024x4x8_0_0_8⟩,
    ⟨S1024x4x8, extractStridedSlice S1024x4x8 ![0, 0, 8] b slices_S1024x4x64_S1024x4x8_0_0_8⟩,
    ⟨S1024x4x48, extractStridedSlice S1024x4x48 ![0, 0, 16] b slices_S1024x4x64_S1024x4x48_0_0_16⟩]
    concatenates_S1024x4x8_S1024x4x8_S1024x4x48_S1024x4x8_S1024x4x8_S1024x4x48_S1024x4x128_d2

theorem pairHeads_at (a b : FVec Ideal S1024x4x64 .f32) (k : Fin 1024) (p : Fin 4) (l : Fin 128) :
    pairHeads a b (ix3 k p l) = either (side l) (a (ix3 k p (place l))) (b (ix3 k p (place l))) := by
  pointwise [pairHeads]
  rcases pair_cases l with ⟨_, s, e⟩ | ⟨_, _, s, e⟩ | ⟨_, _, s, e⟩ | ⟨_, _, s, e⟩ | ⟨_, _, s, e⟩ | ⟨_, s, e⟩ <;> rw [s] <;> split_ifs <;>
    first
    | (exfalso; omega)
    | exact congrArg (fun d => a (ix3 k p d)) (Fin.ext (by first | omega | (dsimp only; omega)))
    | exact congrArg (fun d => b (ix3 k p d)) (Fin.ext (by first | omega | (dsimp only; omega)))

theorem V_pairs (c : Dev nD) (k : Fin 1024) (p : Fin 4) (l : Fin 128) :
    (V m c main_v32 : S1024x512.Idx → EReal) (ix2 k (lane p l))
      = (m ((c : Thread nD τ).loc main_arg3) : S1024x1864.Idx → EReal) (ix2 k ⟨1280 + 128 * p.val + 64 * (side l).val + (place l).val, by omega⟩) := by
  have e : V m c main_v32 = truncf (F := Ideal) .bf16 (shapeCast S1024x512 (pairHeads
      (shapeCast S1024x4x64 (extractStridedSlice S1024x4x1x64 ![0, 0, 0, 0] (shapeCast S1024x4x2x64
        (extractStridedSlice S1024x512 ![0, 1280] (m ((c : Thread nD τ).loc main_arg3) : FVec Ideal S1024x1864 .f32) slices_S1024x1864_S1024x512_0_1280)
        shapeCasts_S1024x512_S1024x4x2x64) slices_S1024x4x2x64_S1024x4x1x64_0_0_0_0) shapeCasts_S1024x4x1x64_S1024x4x64)
      (shapeCast S1024x4x64 (extractStridedSlice S1024x4x1x64 ![0, 0, 1, 0] (shapeCast S1024x4x2x64
        (extractStridedSlice S1024x512 ![0, 1280] (m ((c : Thread nD τ).loc main_arg3) : FVec Ideal S1024x1864 .f32) slices_S1024x1864_S1024x512_0_1280)
        shapeCasts_S1024x512_S1024x4x2x64) slices_S1024x4x2x64_S1024x4x1x64_0_0_1_0) shapeCasts_S1024x4x1x64_S1024x4x64))
      shapeCasts_S1024x4x128_S1024x512) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  have f : ∀ (y : FVec Ideal S1024x512 .f32) (s : Fin 2) (d : Fin 64), shapeCast S1024x4x2x64 y shapeCasts_S1024x512_S1024x4x2x64 (ix4 k p s d)
      = y (ix2 k ⟨128 * p.val + 64 * s.val + d.val, by omega⟩) := fun y s d => shapeCast_apply _ _ _ _ (by
    rw [Shape.rowMajor_val_two, Shape.rowMajor_val_four]
    show k.val * 512 + (128 * p.val + 64 * s.val + d.val) = ((k.val * 4 + p.val) * 2 + s.val) * 64 + d.val
    omega)
  have g : ∀ (y : FVec Ideal S1024x4x1x64 .f32) (d : Fin 64), shapeCast S1024x4x64 y shapeCasts_S1024x4x1x64_S1024x4x64 (ix3 k p d) = y (ix4 k p 0 d) :=
    fun y d => shapeCast_apply _ _ _ _ (by
      rw [Shape.rowMajor_val_four, Shape.rowMajor_val_three]
      show ((k.val * 4 + p.val) * 1 + 0) * 64 + d.val = (k.val * 4 + p.val) * 64 + d.val
      omega)
  rw [e]
  refine (shapeCast_apply (k := ix3 k p l) _ _ _ (by
    rw [Shape.rowMajor_val_two, Shape.rowMajor_val_three]
    show (k.val * 4 + p.val) * 128 + l.val = k.val * 512 + (128 * p.val + l.val)
    omega)).trans ((pairHeads_at _ _ k p l).trans ?_)
  rw [g, g]
  generalize (m ((c : Thread nD τ).loc main_arg3) : FVec Ideal S1024x1864 .f32) = w
  generalize hy : shapeCast S1024x4x2x64 (extractStridedSlice S1024x512 ![0, 1280] w slices_S1024x1864_S1024x512_0_1280) shapeCasts_S1024x512_S1024x4x2x64 = y
  have q : ∀ (s : Fin 2) (d : Fin 64), y (ix4 k p s d) = w (ix2 k ⟨1280 + 128 * p.val + 64 * s.val + d.val, by omega⟩) := by
    intro s d
    rw [← hy, f]
    pointwise []
    exact congrArg (fun d => w (ix2 k d)) (Fin.ext (by dsimp only; omega))
  rw [← q (side l) (place l)]
  generalize side l = s
  match s with
  | ⟨0, _⟩ =>
    show extractStridedSlice S1024x4x1x64 ![0, 0, 0, 0] y slices_S1024x4x2x64_S1024x4x1x64_0_0_0_0 (ix4 k p 0 (place l)) = y (ix4 k p 0 (place l))
    pointwise []
  | ⟨1, _⟩ =>
    show extractStridedSlice S1024x4x1x64 ![0, 0, 1, 0] y slices_S1024x4x2x64_S1024x4x1x64_0_0_1_0 (ix4 k p 0 (place l)) = y (ix4 k p 1 (place l))
    pointwise []

/-- The indexer's key weight: the key as the first head of a pair whose other head is zero, and as the second. -/
def pairKey (a b : FVec Ideal S1024x64 .f32) : FVec Ideal S1024x128 .f32 :=
  concatenate S1024x128 1 [⟨S1024x8, extractStridedSlice S1024x8 ![0, 0] a slices_S1024x64_S1024x8_0_0⟩,
    ⟨S1024x8, extractStridedSlice S1024x8 ![0, 0] b slices_S1024x64_S1024x8_0_0⟩,
    ⟨S1024x48, extractStridedSlice S1024x48 ![0, 16] a slices_S1024x64_S1024x48_0_16⟩,
    ⟨S1024x8, extractStridedSlice S1024x8 ![0, 8] a slices_S1024x64_S1024x8_0_8⟩,
    ⟨S1024x8, extractStridedSlice S1024x8 ![0, 8] b slices_S1024x64_S1024x8_0_8⟩,
    ⟨S1024x48, extractStridedSlice S1024x48 ![0, 16] b slices_S1024x64_S1024x48_0_16⟩]
    concatenates_S1024x8_S1024x8_S1024x48_S1024x8_S1024x8_S1024x48_S1024x128_d1

theorem pairKey_at (a b : FVec Ideal S1024x64 .f32) (k : Fin 1024) (l : Fin 128) :
    pairKey a b (ix2 k l) = either (side l) (a (ix2 k (place l))) (b (ix2 k (place l))) := by
  pointwise [pairKey]
  rcases pair_cases l with ⟨_, s, e⟩ | ⟨_, _, s, e⟩ | ⟨_, _, s, e⟩ | ⟨_, _, s, e⟩ | ⟨_, _, s, e⟩ | ⟨_, s, e⟩ <;> rw [s] <;> split_ifs <;>
    first
    | (exfalso; omega)
    | exact congrArg (fun d => a (ix2 k d)) (Fin.ext (by first | omega | (dsimp only; omega)))
    | exact congrArg (fun d => b (ix2 k d)) (Fin.ext (by first | omega | (dsimp only; omega)))

/-- The key's columns of the weight, and zeros. -/
def keyColumns (w : FVec Ideal S1024x1864 .f32) : FVec Ideal S1024x64 .f32 := extractStridedSlice S1024x64 ![0, 1792] w slices_S1024x1864_S1024x64_0_1792
def noColumns : FVec Ideal S1024x64 .f32 := broadcastInDim S1024x64 ![] bcast_S_S1024x64 (constant S_ .f32 0x00000000#32)

theorem keyColumns_at (w : FVec Ideal S1024x1864 .f32) (k : Fin 1024) (d : Fin 64) : keyColumns w (ix2 k d) = w (ix2 k ⟨1792 + d.val, by omega⟩) := by
  pointwise [keyColumns]
theorem noColumns_at (k : Fin 1024) (d : Fin 64) : noColumns (ix2 k d) = 0 := by
  pointwise [noColumns]

theorem V_pairKeys (c : Dev nD) : V m c main_v50 = beside (pairKey (keyColumns (m ((c : Thread nD τ).loc main_arg3))) noColumns)
    (pairKey noColumns (keyColumns (m ((c : Thread nD τ).loc main_arg3)))) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem V_low (c : Dev nD) (k : Fin 1024) (l : Fin 128) :
    (V m c main_v50 : S1024x256.Idx → EReal) (ix2 k ⟨0 + l.val, by omega⟩)
      = either (side l) ((m ((c : Thread nD τ).loc main_arg3) : S1024x1864.Idx → EReal) (ix2 k ⟨1792 + (place l).val, by omega⟩)) 0 := by
  rw [V_pairKeys]
  refine (beside_left _ _ k l).trans ((pairKey_at _ _ k l).trans ?_)
  rw [keyColumns_at, noColumns_at]

theorem V_high (c : Dev nD) (k : Fin 1024) (l : Fin 128) :
    (V m c main_v50 : S1024x256.Idx → EReal) (ix2 k ⟨128 + l.val, by omega⟩)
      = either (side l) 0 ((m ((c : Thread nD τ).loc main_arg3) : S1024x1864.Idx → EReal) (ix2 k ⟨1792 + (place l).val, by omega⟩)) := by
  rw [V_pairKeys]
  refine (beside_right _ _ k l).trans ((pairKey_at _ _ k l).trans ?_)
  rw [keyColumns_at, noColumns_at]

theorem V_weights (c : Dev nD) (k : Fin 1024) (l : Fin 128) :
    (V m c main_v53 : S1024x128.Idx → EReal) (ix2 k l)
      = if h : l.val < 8 then (m ((c : Thread nD τ).loc main_arg3) : S1024x1864.Idx → EReal) (ix2 k ⟨1856 + l.val, by omega⟩) else (0 : EReal) := by
  have e : V m c main_v53 = truncf (F := Ideal) .bf16 (pad S1024x128 ![0, 0] ![0, 120] ![0, 0]
      (extractStridedSlice S1024x8 ![0, 1856] (m ((c : Thread nD τ).loc main_arg3) : FVec Ideal S1024x1864 .f32) slices_S1024x1864_S1024x8_0_1856)
      (sitofp .f32 (constantI S_ 32 0#32)) pads_S1024x8_S1024x128_000_01200 h_S_) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append]
    after_results
    rfl
  rw [e]
  pointwise []
  rw [show FloatOps.sitofp (F := Ideal) FTy.f32 0#32 = 0 from (Retention.sitofp_nat 0 (by omega)).trans (by simp)]

end Cert.AttendIdeal.Block

end
-- ==== Proof.AttendValue.lean ====
/-
  THE EIGHT ARRAYS THE SPARSE ATTENTION'S INPUT PROJECTION LEAVES, from the arguments: `Lane.turned` for the rotated heads, each
  lane holding the column it stands for, and `Turn.product` for the values and the indexer's weights.
-/
module

public import proofs.«01_k».proof.Proof.AttendHost

@[expose] public section

noncomputable section

namespace Cert.AttendIdeal.Block

open Cert.AttendIdeal Cert.AttendIdeal.Gen Idealize.ShloMosaic Idealize.ShloMosaic.TcCoe Idealize.SL.Sem
open Turn (product)
open Lane

section arguments
variable (x : S32768x1024.Idx → EReal) (pos : S32768x1.Idx → BitVec 32) (g : S1024.Idx → EReal) (w : S1024x1864.Idx → EReal)

/-- Entry `(n, j)` of the normalized rows times the weight. -/
def entry (n : Fin 32768) (j : Fin 1864) : EReal := product (fun c => x (ix2 n c)) (fun k => g (ix1 k)) (fun k => w (ix2 k j))

/-- The cosine and sine of row `n`'s angles, of a head of 128 and of an indexer head. -/
def cosAt (n : Fin 32768) (e : Fin 16) : EReal := Ideal.cos (FloatOps.sitofp (F := Ideal) FTy.f32 (pos (ix2 n 0)) * freq (ix1 e))
def sinAt (n : Fin 32768) (e : Fin 16) : EReal := Ideal.sin (FloatOps.sitofp (F := Ideal) FTy.f32 (pos (ix2 n 0)) * freq (ix1 e))
def pairCosAt (n : Fin 32768) (e : Fin 8) : EReal := Ideal.cos (FloatOps.sitofp (F := Ideal) FTy.f32 (pos (ix2 n 0)) * pairFreq (ix1 e))
def pairSinAt (n : Fin 32768) (e : Fin 8) : EReal := Ideal.sin (FloatOps.sitofp (F := Ideal) FTy.f32 (pos (ix2 n 0)) * pairFreq (ix1 e))

/-- Column `d` of the head of 128 that starts at column `o`, and of the indexer head that starts there, turned. -/
def turnedHead (o : ℕ) (ho : o + 128 ≤ 1864) (n : Fin 32768) (d : Fin 128) : EReal :=
  turned (n := 16) (by omega) (fun d : Fin 128 => entry x g w n ⟨o + d.val, by omega⟩) (cosAt pos n) (sinAt pos n) d
def turnedPair (o : ℕ) (ho : o + 64 ≤ 1864) (n : Fin 32768) (d : Fin 64) : EReal :=
  turned (n := 8) (by omega) (fun d : Fin 64 => entry x g w n ⟨o + d.val, by omega⟩) (pairCosAt pos n) (pairSinAt pos n) d

/-- The rotated key of row `n`, in the lanes' order. -/
def keyLane (n : Fin 32768) (l : Fin 128) : EReal := turnedHead x pos g w 1024 (by omega) n (column l)

end arguments

theorem no_angle {x : EReal} {l : Fin 128} (h : ¬ l.val % 64 < 16) : x * laneSigns (ix2 0 l) = 0 := by
  rw [laneSigns_at, if_neg (by omega)]
  split_ifs <;> first | (exfalso; omega) | exact mul_zero x

/-- The lanes' cosines and sines are those of the angles, spread. -/
theorem head_spread (x1 : S512x1.Idx → BitVec 32) (r : Fin 512) :
    Spread (headCos x1 (laneFreqs freq pairFreq) r) (headSin x1 (laneFreqs freq pairFreq) laneSigns r)
      (fun l => Ideal.cos (rowAngle x1 (laneFreqs freq pairFreq) r l)) (fun l => Ideal.sin (rowAngle x1 (laneFreqs freq pairFreq) r l)) := by
  refine ⟨fun l h => if_pos h, fun l h => ⟨if_neg h, no_angle h⟩, fun l h => ?_, fun l h h' => ?_⟩
  · unfold headSin
    rw [laneSigns_at, if_pos h, mul_neg, mul_one]
  · unfold headSin
    rw [laneSigns_at, if_neg (by omega), if_neg (by omega), if_pos h', mul_one]

theorem pair_spread (x1 : S512x1.Idx → BitVec 32) (r : Fin 512) :
    Spread (pairCos x1 (laneFreqs freq pairFreq) r) (pairSin x1 (laneFreqs freq pairFreq) laneSigns r)
      (fun l => Ideal.cos (rowAngle x1 (laneFreqs freq pairFreq) r (next l))) (fun l => Ideal.sin (rowAngle x1 (laneFreqs freq pairFreq) r (next l))) := by
  refine ⟨fun l h => if_pos h, fun l h => ⟨if_neg h, no_angle h⟩, fun l h => ?_, fun l h h' => ?_⟩
  · unfold pairSin
    rw [laneSigns_at, if_pos h, mul_neg, mul_one]
  · unfold pairSin
    rw [laneSigns_at, if_neg (by omega), if_neg (by omega), if_pos h', mul_one]

variable (m : (ℓ : Loc nD τ sig) → Buf (Elt Ideal) ℓ)

/-- The windows' index maps: the small operands have one block, the rows of a point are block `t`, or block `t mod 8` of sequence `t / 8`. -/
theorem index_weights : ∀ t : Fin cfg0.N, (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) ∧ (∀ a, win0_9.index t a = 0) :=
  (by decide +kernel : ∀ t : Fin grid0.N, _)

theorem index_rows : ∀ t : Fin cfg0.N, (win0_0.index t 0 = t.val ∧ win0_0.index t 1 = 0) ∧ (win0_1.index t 0 = t.val ∧ win0_1.index t 1 = 0)
    ∧ (win0_11.index t 0 = t.val ∧ win0_11.index t 1 = 0) ∧ (win0_14.index t 0 = t.val ∧ win0_14.index t 1 = 0)
    ∧ (win0_15.index t 0 = t.val ∧ win0_15.index t 1 = 0) ∧ (win0_16.index t 0 = t.val ∧ win0_16.index t 1 = 0)
    ∧ (win0_17.index t 0 = t.val ∧ win0_17.index t 1 = 0) :=
  (by decide +kernel : ∀ t : Fin grid0.N, _)

theorem index_steps : ∀ t : Fin cfg0.N,
    (win0_10.index t 0 = t.val / 8 ∧ win0_10.index t 1 = 0 ∧ win0_10.index t 2 = t.val % 8 ∧ win0_10.index t 3 = 0)
    ∧ (win0_12.index t 0 = t.val / 8 ∧ win0_12.index t 1 = 0 ∧ win0_12.index t 2 = t.val % 8)
    ∧ (win0_13.index t 0 = t.val / 8 ∧ win0_13.index t 1 = 0 ∧ win0_13.index t 2 = t.val % 8) :=
  (by decide +kernel : ∀ t : Fin grid0.N, _)

theorem point_lt (t : Fin cfg0.N) : t.val < 64 := lt_of_lt_of_eq t.isLt (show cfg0.N = 64 from N_0)

abbrev rowOf (t : Fin cfg0.N) (r : Fin 512) : Fin 32768 := ⟨512 * t.val + r.val, by have := point_lt t; omega⟩

theorem exists_row (n : Fin 32768) : ∃ (t : Fin cfg0.N) (r : Fin 512), n = rowOf t r :=
  ⟨⟨n.val / 512, by rw [show cfg0.N = 64 from N_0]; omega⟩, ⟨n.val % 512, by omega⟩, Fin.ext (by show n.val = 512 * (n.val / 512) + n.val % 512; omega)⟩

/-- The row of step `s` of sequence `b`, and the sequence and step of a row of a point. -/
abbrev rowAt (b : Fin 8) (s : Fin 4096) : Fin 32768 := ⟨4096 * b.val + s.val, by omega⟩
abbrev seqOf (t : Fin cfg0.N) : Fin 8 := ⟨t.val / 8, by have := point_lt t; omega⟩
abbrev stepOf (t : Fin cfg0.N) (r : Fin 512) : Fin 4096 := ⟨512 * (t.val % 8) + r.val, by omega⟩

theorem rowAt_of (t : Fin cfg0.N) (r : Fin 512) : rowAt (seqOf t) (stepOf t r) = rowOf t r :=
  Fin.ext (by show 4096 * (t.val / 8) + (512 * (t.val % 8) + r.val) = 512 * t.val + r.val; omega)

theorem exists_step (b : Fin 8) (s : Fin 4096) : ∃ (t : Fin cfg0.N) (r : Fin 512), b = seqOf t ∧ s = stepOf t r :=
  ⟨⟨8 * b.val + s.val / 512, by rw [show cfg0.N = 64 from N_0]; omega⟩, ⟨s.val % 512, by omega⟩,
    Fin.ext (by show b.val = (8 * b.val + s.val / 512) / 8; omega), Fin.ext (by show s.val = 512 * ((8 * b.val + s.val / 512) % 8) + s.val % 512; omega)⟩

theorem blk0_at (c : Dev nD) (t : Fin cfg0.N) (r : Fin 512) (j : Fin 1024) :
    (iblk m c 0 t : S512x1024.Idx → EReal) (ix2 r j) = (m ((c : Thread nD τ).loc main_arg0) : S32768x1024.Idx → EReal) (ix2 (rowOf t r) j) := by
  rw [← V_main_arg0 m c]
  unfold iblk
  rw [View.read_apply]
  refine congrArg (V m c main_arg0 : S32768x1024.Idx → EReal) (funext fun a => Fin.ext ?_)
  obtain ⟨i0, i1⟩ := (index_rows t).1
  match a with
  | ⟨0, _⟩ => show win0_0.index t 0 * 512 + 1 * r.val = 512 * t.val + r.val; rw [i0]; omega
  | ⟨1, _⟩ => show win0_0.index t 1 * 1024 + 1 * j.val = j.val; rw [i1]; omega

theorem blk1_at (c : Dev nD) (t : Fin cfg0.N) (r : Fin 512) :
    (iblk m c 1 t : S512x1.Idx → BitVec 32) (ix2 r 0) = (m ((c : Thread nD τ).loc main_arg1) : S32768x1.Idx → BitVec 32) (ix2 (rowOf t r) 0) := by
  rw [← V_main_arg1 m c]
  unfold iblk
  rw [View.read_apply]
  refine congrArg (V m c main_arg1 : S32768x1.Idx → BitVec 32) (funext fun a => Fin.ext ?_)
  obtain ⟨i0, i1⟩ := (index_rows t).2.1
  match a with
  | ⟨0, _⟩ => show win0_1.index t 0 * 512 + 1 * r.val = 512 * t.val + r.val; rw [i0]; omega
  | ⟨1, _⟩ => show win0_1.index t 1 * 1 + 1 * 0 = 0; rw [i1]

/-- Where an index of an operand's one block lies in the operand. -/
theorem whole_index {A B : ℕ} (a : Fin A) (b : Fin B) (i : Fin 2 → ℕ) (h : ∀ d, i d = 0) : i 0 * A + 1 * a.val = a.val ∧ i 1 * B + 1 * b.val = b.val := by
  rw [h, h]; omega

theorem blk2_at (c : Dev nD) (t : Fin cfg0.N) (a : Fin 1) (b : Fin 1024) :
    (iblk m c 2 t : S1x1024.Idx → EReal) (ix2 a b) = (V m c main_v83 : S1x1024.Idx → EReal) (ix2 a b) := by
  unfold iblk
  rw [View.read_apply]
  refine congrArg (V m c main_v83 : S1x1024.Idx → EReal) (funext fun d => Fin.ext ?_)
  have i := whole_index a b _ (index_weights t).1
  match d with
  | ⟨0, _⟩ => exact i.1
  | ⟨1, _⟩ => exact i.2

theorem blk3_at (c : Dev nD) (t : Fin cfg0.N) (a b : Fin 1024) :
    (iblk m c 3 t : S1024x1024.Idx → EReal) (ix2 a b) = (V m c main_v8 : S1024x1024.Idx → EReal) (ix2 a b) := by
  unfold iblk
  rw [View.read_apply]
  refine congrArg (V m c main_v8 : S1024x1024.Idx → EReal) (funext fun d => Fin.ext ?_)
  have i := whole_index a b _ (index_weights t).2.1
  match d with
  | ⟨0, _⟩ => exact i.1
  | ⟨1, _⟩ => exact i.2

theorem blk4_at (c : Dev nD) (t : Fin cfg0.N) (a : Fin 1024) (b : Fin 256) :
    (iblk m c 4 t : S1024x256.Idx → EReal) (ix2 a b) = (V m c main_v17 : S1024x256.Idx → EReal) (ix2 a b) := by
  unfold iblk
  rw [View.read_apply]
  refine congrArg (V m c main_v17 : S1024x256.Idx → EReal) (funext fun d => Fin.ext ?_)
  have i := whole_index a b _ (index_weights t).2.2.1
  match d with
  | ⟨0, _⟩ => exact i.1
  | ⟨1, _⟩ => exact i.2

theorem blk5_at (c : Dev nD) (t : Fin cfg0.N) (a : Fin 1024) (b : Fin 512) :
    (iblk m c 5 t : S1024x512.Idx → EReal) (ix2 a b) = (V m c main_v32 : S1024x512.Idx → EReal) (ix2 a b) := by
  unfold iblk
  rw [View.read_apply]
  refine congrArg (V m c main_v32 : S1024x512.Idx → EReal) (funext fun d => Fin.ext ?_)
  have i := whole_index a b _ (index_weights t).2.2.2.1
  match d with
  | ⟨0, _⟩ => exact i.1
  | ⟨1, _⟩ => exact i.2

theorem blk6_at (c : Dev nD) (t : Fin cfg0.N) (a : Fin 1024) (b : Fin 256) :
    (iblk m c 6 t : S1024x256.Idx → EReal) (ix2 a b) = (V m c main_v50 : S1024x256.Idx → EReal) (ix2 a b) := by
  unfold iblk
  rw [View.read_apply]
  refine congrArg (V m c main_v50 : S1024x256.Idx → EReal) (funext fun d => Fin.ext ?_)
  have i := whole_index a b _ (index_weights t).2.2.2.2.1
  match d with
  | ⟨0, _⟩ => exact i.1
  | ⟨1, _⟩ => exact i.2

theorem blk7_at (c : Dev nD) (t : Fin cfg0.N) (a : Fin 1024) (b : Fin 128) :
    (iblk m c 7 t : S1024x128.Idx → EReal) (ix2 a b) = (V m c main_v53 : S1024x128.Idx → EReal) (ix2 a b) := by
  unfold iblk
  rw [View.read_apply]
  refine congrArg (V m c main_v53 : S1024x128.Idx → EReal) (funext fun d => Fin.ext ?_)
  have i := whole_index a b _ (index_weights t).2.2.2.2.2.1
  match d with
  | ⟨0, _⟩ => exact i.1
  | ⟨1, _⟩ => exact i.2

theorem blk8_eq (c : Dev nD) (t : Fin cfg0.N) : (iblk m c 8 t : S1x128.Idx → EReal) = laneFreqs freq pairFreq := by
  rw [← V_freqs m c]
  funext y
  obtain ⟨a, b, rfl⟩ : ∃ (a : Fin 1) (b : Fin 128), y = ix2 a b := ⟨y 0, y 1, eq_ix2 (n0 := 1) (n1 := 128) y⟩
  unfold iblk
  rw [View.read_apply]
  refine congrArg (V m c main_v75 : S1x128.Idx → EReal) (funext fun d => Fin.ext ?_)
  have i := whole_index a b _ (index_weights t).2.2.2.2.2.2.1
  match d with
  | ⟨0, _⟩ => exact i.1
  | ⟨1, _⟩ => exact i.2

theorem blk9_eq (c : Dev nD) (t : Fin cfg0.N) : (iblk m c 9 t : S1x128.Idx → EReal) = laneSigns := by
  rw [← V_signs m c]
  funext y
  obtain ⟨a, b, rfl⟩ : ∃ (a : Fin 1) (b : Fin 128), y = ix2 a b := ⟨y 0, y 1, eq_ix2 (n0 := 1) (n1 := 128) y⟩
  unfold iblk
  rw [View.read_apply]
  refine congrArg (V m c main_v82 : S1x128.Idx → EReal) (funext fun d => Fin.ext ?_)
  have i := whole_index a b _ (index_weights t).2.2.2.2.2.2.2
  match d with
  | ⟨0, _⟩ => exact i.1
  | ⟨1, _⟩ => exact i.2

/-- A point's row times a column of a prepared weight is a row of the arguments times what that column is. -/
theorem product_block (c : Dev nD) (t : Fin cfg0.N) (r : Fin 512) {N : ℕ} (w : (⟨2, ![1024, N]⟩ : Shape).Idx → EReal) (j : Fin N) (u : Fin 1024 → EReal)
    (h : ∀ k, w (ix2 k j) = u k) :
    rowProduct (iblk m c 0 t : S512x1024.Idx → EReal) (iblk m c 2 t : S1x1024.Idx → EReal) w r j
      = product (fun k => (m ((c : Thread nD τ).loc main_arg0) : S32768x1024.Idx → EReal) (ix2 (rowOf t r) k))
          (fun k => (m ((c : Thread nD τ).loc main_arg2) : S1024.Idx → EReal) (ix1 k)) u := by
  unfold rowProduct
  exact congr (congr (congrArg product (funext fun k => blk0_at m c t r k)) (funext fun k => (blk2_at m c t 0 k).trans (V_scale m c k))) (funext h)

/-- A rotated head of a point's row. -/
theorem head_block (c : Dev nD) (t : Fin cfg0.N) {N : ℕ} (w : (⟨2, ![1024, N]⟩ : Shape).Idx → EReal) (o : ℕ) (ho : o + 128 ≤ N) (o' : ℕ) (ho' : o' + 128 ≤ 1864)
    (h : ∀ (k : Fin 1024) (l : Fin 128), w (ix2 k ⟨o + l.val, by omega⟩)
      = (m ((c : Thread nD τ).loc main_arg3) : S1024x1864.Idx → EReal) (ix2 k ⟨o' + (column l).val, by omega⟩)) (r : Fin 512) (l : Fin 128) :
    rowSwung (iblk m c 0 t : S512x1024.Idx → EReal) (iblk m c 2 t : S1x1024.Idx → EReal) w (headCos (iblk m c 1 t : S512x1.Idx → BitVec 32) (iblk m c 8 t : S1x128.Idx → EReal))
        (headSin (iblk m c 1 t : S512x1.Idx → BitVec 32) (iblk m c 8 t : S1x128.Idx → EReal) (iblk m c 9 t : S1x128.Idx → EReal)) o ho r l
      = turnedHead (m ((c : Thread nD τ).loc main_arg0)) (m ((c : Thread nD τ).loc main_arg1)) (m ((c : Thread nD τ).loc main_arg2))
          (m ((c : Thread nD τ).loc main_arg3)) o' ho' (rowOf t r) (column l) := by
  rw [blk8_eq, blk9_eq]
  unfold rowSwung
  have e : (fun l : Fin 128 => rowProduct (iblk m c 0 t : S512x1024.Idx → EReal) (iblk m c 2 t : S1x1024.Idx → EReal) w r ⟨o + l.val, by omega⟩)
      = fun l => entry (m ((c : Thread nD τ).loc main_arg0)) (m ((c : Thread nD τ).loc main_arg2)) (m ((c : Thread nD τ).loc main_arg3)) (rowOf t r) ⟨o' + (column l).val, by omega⟩ :=
    funext fun l => product_block m c t r w _ _ fun k => h k l
  rw [e]
  refine head (head_spread _ r) _ _ (fun l k => ?_) (by omega)
    (fun d : Fin 128 => entry (m ((c : Thread nD τ).loc main_arg0)) (m ((c : Thread nD τ).loc main_arg2)) (m ((c : Thread nD τ).loc main_arg3)) (rowOf t r) ⟨o' + d.val, by omega⟩) l
  unfold rowAngle cosAt sinAt
  rw [laneFreqs_at _ _ l k, blk1_at]
  exact ⟨rfl, rfl⟩

/-- A rotated pair of indexer heads of a point's row. -/
theorem pair_block (c : Dev nD) (t : Fin cfg0.N) {N : ℕ} (w : (⟨2, ![1024, N]⟩ : Shape).Idx → EReal) (o : ℕ) (ho : o + 128 ≤ N) (u : Fin 2 → Fin 64 → Fin 1024 → EReal)
    (h : ∀ (k : Fin 1024) (l : Fin 128), w (ix2 k ⟨o + l.val, by omega⟩) = u (side l) (place l) k) (r : Fin 512) (l : Fin 128) :
    rowPair (iblk m c 0 t : S512x1024.Idx → EReal) (iblk m c 1 t : S512x1.Idx → BitVec 32) (iblk m c 2 t : S1x1024.Idx → EReal)
        (iblk m c 8 t : S1x128.Idx → EReal) (iblk m c 9 t : S1x128.Idx → EReal) w o ho r l
      = turned (n := 8) (by omega) (fun d : Fin 64 => product (fun k => (m ((c : Thread nD τ).loc main_arg0) : S32768x1024.Idx → EReal) (ix2 (rowOf t r) k))
          (fun k => (m ((c : Thread nD τ).loc main_arg2) : S1024.Idx → EReal) (ix1 k)) (u (side l) d))
          (pairCosAt (m ((c : Thread nD τ).loc main_arg1)) (rowOf t r)) (pairSinAt (m ((c : Thread nD τ).loc main_arg1)) (rowOf t r)) (place l) := by
  rw [blk8_eq, blk9_eq]
  unfold rowPair rowSwung
  have e : (fun l : Fin 128 => rowProduct (iblk m c 0 t : S512x1024.Idx → EReal) (iblk m c 2 t : S1x1024.Idx → EReal) w r ⟨o + l.val, by omega⟩)
      = fun l => product (fun k => (m ((c : Thread nD τ).loc main_arg0) : S32768x1024.Idx → EReal) (ix2 (rowOf t r) k))
          (fun k => (m ((c : Thread nD τ).loc main_arg2) : S1024.Idx → EReal) (ix1 k)) (u (side l) (place l)) :=
    funext fun l => product_block m c t r w _ _ fun k => h k l
  rw [e]
  refine pair (pair_spread _ r) _ _ (fun l k => ?_) (by omega)
    (fun s d => product (fun k => (m ((c : Thread nD τ).loc main_arg0) : S32768x1024.Idx → EReal) (ix2 (rowOf t r) k))
      (fun k => (m ((c : Thread nD τ).loc main_arg2) : S1024.Idx → EReal) (ix1 k)) (u s d)) l
  unfold rowAngle pairCosAt pairSinAt
  rw [laneFreqs_next _ _ l k, blk1_at]
  exact ⟨rfl, rfl⟩

/-- Where row `r` of point `t`'s block lies in an array of `W` columns, from the block's index. -/
theorem row_index {W : ℕ} (t : Fin cfg0.N) (r : Fin 512) (j : Fin W) (i0 i1 : ℕ) (h0 : i0 = t.val) (h1 : i1 = 0) :
    (rowOf t r).val = i0 * 512 + 1 * r.val ∧ j.val = i1 * W + 1 * j.val := by
  subst h0 h1
  exact ⟨by show 512 * t.val + r.val = _; omega, by omega⟩

/-- The queries the kernel leaves. -/
theorem query_result (c : Dev nD) (b : Fin 8) (h : Fin 8) (s : Fin 4096) (l : Fin 128) :
    ((dats m 0 c).arrAt 10 cfg0.N : S8x8x4096x128.Idx → EReal) (ix4 b h s l)
      = turnedHead (m ((c : Thread nD τ).loc main_arg0)) (m ((c : Thread nD τ).loc main_arg1)) (m ((c : Thread nD τ).loc main_arg2))
          (m ((c : Thread nD τ).loc main_arg3)) (128 * h.val) (by omega) (rowAt b s) (column l) * Ideal.ofBits FTy.f32 0x3E0293EE#32 := by
  obtain ⟨t, r, rfl, rfl⟩ := exists_step b s
  rw [rowAt_of]
  have f := congrFun (Cert.AttendIdeal.Value.blocks10 m c t (flush0_10 t)) (ix4 0 h r l)
  rw [Cert.AttendIdeal.Value.flushed10, View.read_apply] at f
  obtain ⟨i0, i1, i2, i3⟩ := (index_steps t).1
  refine Eq.trans ?_ (f.trans ((query_at _ _ _ _ _ _ _ _ _ _ r h l).trans ?_))
  · refine congrArg ((dats m 0 c).arrAt 10 cfg0.N) (funext fun a => Fin.ext ?_)
    match a with
    | ⟨0, _⟩ => show t.val / 8 = win0_10.index t 0 * 1 + 1 * 0; rw [i0]; omega
    | ⟨1, _⟩ => show h.val = win0_10.index t 1 * 8 + 1 * h.val; rw [i1]; omega
    | ⟨2, _⟩ => show 512 * (t.val % 8) + r.val = win0_10.index t 2 * 512 + 1 * r.val; rw [i2]; omega
    | ⟨3, _⟩ => show l.val = win0_10.index t 3 * 128 + 1 * l.val; rw [i3]; omega
  · refine congrArg (· * _) (head_block m c t _ _ _ (128 * h.val) (by omega) (fun k l => ?_) r l)
    rw [blk3_at, V_query]

theorem key_block (c : Dev nD) (t : Fin cfg0.N) (r : Fin 512) (l : Fin 128) :
    rowKey (iblk m c 0 t : S512x1024.Idx → EReal) (iblk m c 1 t : S512x1.Idx → BitVec 32) (iblk m c 2 t : S1x1024.Idx → EReal) (iblk m c 4 t : S1024x256.Idx → EReal)
        (iblk m c 8 t : S1x128.Idx → EReal) (iblk m c 9 t : S1x128.Idx → EReal) r l
      = keyLane (m ((c : Thread nD τ).loc main_arg0)) (m ((c : Thread nD τ).loc main_arg1)) (m ((c : Thread nD τ).loc main_arg2))
          (m ((c : Thread nD τ).loc main_arg3)) (rowOf t r) l := by
  refine head_block m c t _ _ _ 1024 (by omega) (fun k l => ?_) r l
  rw [blk4_at, V_key]

/-- The keys the kernel leaves. -/
theorem key_result (c : Dev nD) (n : Fin 32768) (l : Fin 128) :
    ((dats m 0 c).arrAt 11 cfg0.N : S32768x128.Idx → EReal) (ix2 n l)
      = keyLane (m ((c : Thread nD τ).loc main_arg0)) (m ((c : Thread nD τ).loc main_arg1)) (m ((c : Thread nD τ).loc main_arg2))
          (m ((c : Thread nD τ).loc main_arg3)) n l := by
  obtain ⟨t, r, rfl⟩ := exists_row n
  have f := congrFun (Cert.AttendIdeal.Value.blocks11 m c t (flush0_11 t)) (ix2 r l)
  rw [Cert.AttendIdeal.Value.flushed11, View.read_apply] at f
  obtain ⟨i0, i1⟩ := (index_rows t).2.2.1
  refine Eq.trans ?_ (f.trans ((key_at _ _ _ _ _ _ _ _ _ _ r l).trans (key_block m c t r l)))
  refine congrArg ((dats m 0 c).arrAt 11 cfg0.N) (funext fun a => Fin.ext ?_)
  match a with
  | ⟨0, _⟩ => exact (row_index t r l _ _ i0 i1).1
  | ⟨1, _⟩ => exact (row_index t r l _ _ i0 i1).2

/-- The keys' squared lengths the kernel leaves. -/
theorem squared_result (c : Dev nD) (b h : Fin 8) (s : Fin 4096) :
    ((dats m 0 c).arrAt 12 cfg0.N : S8x8x4096.Idx → EReal) (ix3 b h s)
      = ∑ l, keyLane (m ((c : Thread nD τ).loc main_arg0)) (m ((c : Thread nD τ).loc main_arg1)) (m ((c : Thread nD τ).loc main_arg2))
            (m ((c : Thread nD τ).loc main_arg3)) (rowAt b s) l
          * keyLane (m ((c : Thread nD τ).loc main_arg0)) (m ((c : Thread nD τ).loc main_arg1)) (m ((c : Thread nD τ).loc main_arg2))
            (m ((c : Thread nD τ).loc main_arg3)) (rowAt b s) l := by
  obtain ⟨t, r, rfl, rfl⟩ := exists_step b s
  rw [rowAt_of]
  have f := congrFun (Cert.AttendIdeal.Value.blocks12 m c t (flush0_12 t)) (ix3 0 h r)
  rw [Cert.AttendIdeal.Value.flushed12, View.read_apply] at f
  obtain ⟨i0, i1, i2⟩ := (index_steps t).2.1
  refine Eq.trans ?_ (f.trans ((squared_at _ _ _ _ _ _ _ _ _ _ h r).trans (Finset.sum_congr rfl fun l _ => ?_)))
  · refine congrArg ((dats m 0 c).arrAt 12 cfg0.N) (funext fun a => Fin.ext ?_)
    match a with
    | ⟨0, _⟩ => show t.val / 8 = win0_12.index t 0 * 1 + 1 * 0; rw [i0]; omega
    | ⟨1, _⟩ => show h.val = win0_12.index t 1 * 8 + 1 * h.val; rw [i1]; omega
    | ⟨2, _⟩ => show 512 * (t.val % 8) + r.val = win0_12.index t 2 * 512 + 1 * r.val; rw [i2]; omega
  · exact congrArg₂ (· * ·) (key_block m c t r l) (key_block m c t r l)

/-- The values the kernel leaves. -/
theorem value_result (c : Dev nD) (b : Fin 8) (l : Fin 128) (s : Fin 4096) :
    ((dats m 0 c).arrAt 13 cfg0.N : S8x128x4096.Idx → EReal) (ix3 b l s)
      = entry (m ((c : Thread nD τ).loc main_arg0)) (m ((c : Thread nD τ).loc main_arg2)) (m ((c : Thread nD τ).loc main_arg3)) (rowAt b s)
          ⟨1152 + l.val, by omega⟩ := by
  obtain ⟨t, r, rfl, rfl⟩ := exists_step b s
  rw [rowAt_of]
  have f := congrFun (Cert.AttendIdeal.Value.blocks13 m c t (flush0_13 t)) (ix3 0 l r)
  rw [Cert.AttendIdeal.Value.flushed13, View.read_apply] at f
  obtain ⟨i0, i1, i2⟩ := (index_steps t).2.2
  refine Eq.trans ?_ (f.trans ((value_at _ _ _ _ _ _ _ _ _ _ l r).trans ?_))
  · refine congrArg ((dats m 0 c).arrAt 13 cfg0.N) (funext fun a => Fin.ext ?_)
    match a with
    | ⟨0, _⟩ => show t.val / 8 = win0_13.index t 0 * 1 + 1 * 0; rw [i0]; omega
    | ⟨1, _⟩ => show l.val = win0_13.index t 1 * 128 + 1 * l.val; rw [i1]; omega
    | ⟨2, _⟩ => show 512 * (t.val % 8) + r.val = win0_13.index t 2 * 512 + 1 * r.val; rw [i2]; omega
  · refine product_block m c t r _ _ _ fun k => ?_
    rw [blk4_at, V_value]

/-- The indexer's queries the kernel leaves. -/
theorem pairs_result (c : Dev nD) (n : Fin 32768) (p : Fin 4) (l : Fin 128) :
    ((dats m 0 c).arrAt 14 cfg0.N : S32768x512.Idx → EReal) (ix2 n (lane p l))
      = turnedPair (m ((c : Thread nD τ).loc main_arg0)) (m ((c : Thread nD τ).loc main_arg1)) (m ((c : Thread nD τ).loc main_arg2))
          (m ((c : Thread nD τ).loc main_arg3)) (1280 + 128 * p.val + 64 * (side l).val) (by omega) n (place l) := by
  obtain ⟨t, r, rfl⟩ := exists_row n
  have f := congrFun (Cert.AttendIdeal.Value.blocks14 m c t (flush0_14 t)) (ix2 r (lane p l))
  rw [Cert.AttendIdeal.Value.flushed14, View.read_apply] at f
  obtain ⟨i0, i1⟩ := (index_rows t).2.2.2.1
  refine Eq.trans ?_ (f.trans ((pairs_at _ _ _ _ _ _ _ _ _ _ r p l).trans ?_))
  · refine congrArg ((dats m 0 c).arrAt 14 cfg0.N) (funext fun a => Fin.ext ?_)
    match a with
    | ⟨0, _⟩ => exact (row_index t r (lane p l) _ _ i0 i1).1
    | ⟨1, _⟩ => exact (row_index t r (lane p l) _ _ i0 i1).2
  · refine pair_block m c t _ _ _
      (fun s d k => (m ((c : Thread nD τ).loc main_arg3) : S1024x1864.Idx → EReal) (ix2 k ⟨1280 + 128 * p.val + 64 * s.val + d.val, by omega⟩)) (fun k l => ?_) r l
    rw [blk5_at, V_pairs]

/-- Nothing comes of zeros. -/
theorem product_zero (x g : Fin 1024 → EReal) : product x g (fun _ => 0) = 0 := by
  unfold product
  simp only [mul_zero, Finset.sum_const_zero]

/-- The indexer's keys the kernel leaves, in the first heads of the pairs. -/
theorem low_result (c : Dev nD) (n : Fin 32768) (l : Fin 128) :
    ((dats m 0 c).arrAt 15 cfg0.N : S32768x128.Idx → EReal) (ix2 n l)
      = either (side l) (turnedPair (m ((c : Thread nD τ).loc main_arg0)) (m ((c : Thread nD τ).loc main_arg1)) (m ((c : Thread nD τ).loc main_arg2))
          (m ((c : Thread nD τ).loc main_arg3)) 1792 (by omega) n (place l)) 0 := by
  obtain ⟨t, r, rfl⟩ := exists_row n
  have f := congrFun (Cert.AttendIdeal.Value.blocks15 m c t (flush0_15 t)) (ix2 r l)
  rw [Cert.AttendIdeal.Value.flushed15, View.read_apply] at f
  obtain ⟨i0, i1⟩ := (index_rows t).2.2.2.2.1
  refine Eq.trans ?_ (f.trans ((low_at _ _ _ _ _ _ _ _ _ _ r l).trans ((pair_block m c t _ _ _
      (fun s d k => either s ((m ((c : Thread nD τ).loc main_arg3) : S1024x1864.Idx → EReal) (ix2 k ⟨1792 + d.val, by omega⟩)) 0) (fun k l => ?_) r l).trans ?_)))
  · refine congrArg ((dats m 0 c).arrAt 15 cfg0.N) (funext fun a => Fin.ext ?_)
    match a with
    | ⟨0, _⟩ => exact (row_index t r l _ _ i0 i1).1
    | ⟨1, _⟩ => exact (row_index t r l _ _ i0 i1).2
  · rw [blk6_at, V_low]
  · generalize side l = s
    match s with
    | ⟨0, _⟩ => rfl
    | ⟨1, _⟩ =>
      exact (congrArg (fun z => turned (n := 8) (W := 64) (by omega) z _ _ (place l)) (funext fun d => product_zero _ _)).trans (turned_zero _ _ _ (place l))

/-- And in the second. -/
theorem high_result (c : Dev nD) (n : Fin 32768) (l : Fin 128) :
    ((dats m 0 c).arrAt 16 cfg0.N : S32768x128.Idx → EReal) (ix2 n l)
      = either (side l) 0 (turnedPair (m ((c : Thread nD τ).loc main_arg0)) (m ((c : Thread nD τ).loc main_arg1)) (m ((c : Thread nD τ).loc main_arg2))
          (m ((c : Thread nD τ).loc main_arg3)) 1792 (by omega) n (place l)) := by
  obtain ⟨t, r, rfl⟩ := exists_row n
  have f := congrFun (Cert.AttendIdeal.Value.blocks16 m c t (flush0_16 t)) (ix2 r l)
  rw [Cert.AttendIdeal.Value.flushed16, View.read_apply] at f
  obtain ⟨i0, i1⟩ := (index_rows t).2.2.2.2.2.1
  refine Eq.trans ?_ (f.trans ((high_at _ _ _ _ _ _ _ _ _ _ r l).trans ((pair_block m c t _ _ _
      (fun s d k => either s 0 ((m ((c : Thread nD τ).loc main_arg3) : S1024x1864.Idx → EReal) (ix2 k ⟨1792 + d.val, by omega⟩))) (fun k l => ?_) r l).trans ?_)))
  · refine congrArg ((dats m 0 c).arrAt 16 cfg0.N) (funext fun a => Fin.ext ?_)
    match a with
    | ⟨0, _⟩ => exact (row_index t r l _ _ i0 i1).1
    | ⟨1, _⟩ => exact (row_index t r l _ _ i0 i1).2
  · exact (blk6_at m c t k ⟨128 + l.val, by omega⟩).trans (V_high m c k l)
  · generalize side l = s
    match s with
    | ⟨0, _⟩ =>
      exact (congrArg (fun z => turned (n := 8) (W := 64) (by omega) z _ _ (place l)) (funext fun d => product_zero _ _)).trans (turned_zero _ _ _ (place l))
    | ⟨1, _⟩ => rfl

/-- The indexer's weights the kernel leaves. -/
theorem weights_result (c : Dev nD) (n : Fin 32768) (l : Fin 128) :
    ((dats m 0 c).arrAt 17 cfg0.N : S32768x128.Idx → EReal) (ix2 n l)
      = if h : l.val < 8 then entry (m ((c : Thread nD τ).loc main_arg0)) (m ((c : Thread nD τ).loc main_arg2)) (m ((c : Thread nD τ).loc main_arg3)) n
          ⟨1856 + l.val, by omega⟩ * Ideal.ofBits FTy.f32 0x3D3504F3#32 else 0 := by
  obtain ⟨t, r, rfl⟩ := exists_row n
  have f := congrFun (Cert.AttendIdeal.Value.blocks17 m c t (flush0_17 t)) (ix2 r l)
  rw [Cert.AttendIdeal.Value.flushed17, View.read_apply] at f
  obtain ⟨i0, i1⟩ := (index_rows t).2.2.2.2.2.2
  refine Eq.trans ?_ (f.trans ((weights_at _ _ _ _ _ _ _ _ _ _ r l).trans ?_))
  · refine congrArg ((dats m 0 c).arrAt 17 cfg0.N) (funext fun a => Fin.ext ?_)
    match a with
    | ⟨0, _⟩ => exact (row_index t r l _ _ i0 i1).1
    | ⟨1, _⟩ => exact (row_index t r l _ _ i0 i1).2
  · by_cases h : l.val < 8
    · rw [dif_pos h]
      have e := product_block m c t r (iblk m c 7 t : S1024x128.Idx → EReal) l
        (fun k => (m ((c : Thread nD τ).loc main_arg3) : S1024x1864.Idx → EReal) (ix2 k ⟨1856 + l.val, by omega⟩))
        (fun k => by rw [blk7_at, V_weights, dif_pos h])
      exact congrArg (fun z => z * Ideal.ofBits FTy.f32 0x3D3504F3#32) e
    · rw [dif_neg h]
      have e := product_block m c t r (iblk m c 7 t : S1024x128.Idx → EReal) l (fun _ => 0) (fun k => by rw [blk7_at, V_weights, dif_neg h])
      exact (congrArg (fun z => z * Ideal.ofBits FTy.f32 0x3D3504F3#32) (e.trans (product_zero _ _))).trans (zero_mul _)

end Cert.AttendIdeal.Block

end
-- ==== Proof.AttendReference.lean ====
/-
  THE EIGHT ARRAYS OF THE SPARSE ATTENTION'S INPUT PROJECTION AS THE REFERENCE WRITES THEM: heads rotated in their own columns,
  then put in the lanes' order.
-/
module

public import proofs.«01_k».proof.Proof.AttendValue
public import proofs.«01_k».proof.Proof.FirstValue
public import proofs.«01_k».proof.Proof.Gen.AttendReferenceIdeal.Run

@[expose] public section

noncomputable section

namespace Cert.AttendReferenceIdeal.Block

open Cert.AttendReferenceIdeal Cert.AttendReferenceIdeal.Gen Idealize.ShloMosaic Idealize.ShloMosaic.TcCoe Idealize.SL.Sem
open Turn (product)
open Lane
open Cert.AttendIdeal.Block (entry cosAt sinAt pairCosAt pairSinAt turnedHead turnedPair keyLane freq pairFreq lane rowAt)

/-- The reference's normalized rows times the weight. -/
def projected (x : FVec Ideal S32768x1024 .f32) (g : FVec Ideal S1024 .f32) (w : FVec Ideal S1024x1864 .f32) : FVec Ideal S32768x1864 .f32 :=
  Host.dotGeneral dot_S32768x1024_S1024x1864_S32768x1864_1_0_0_1_n_n none (Cert.FirstReferenceIdeal.Block.normed x g) w

theorem projected_at (x : FVec Ideal S32768x1024 .f32) (g : FVec Ideal S1024 .f32) (w : FVec Ideal S1024x1864 .f32) (n : Fin 32768) (j : Fin 1864) :
    projected x g w (ix2 n j) = entry x g w n j := by
  have z : ∀ k, Feed.scaled (fun c => x (ix2 n c)) (g (ix1 k)) k = Cert.FirstReferenceIdeal.Block.normed x g (ix2 n k) :=
    fun k => (Cert.FirstReferenceIdeal.Block.normed_at x g n k).symm
  unfold entry product
  simp only [z]
  unfold projected
  generalize Cert.FirstReferenceIdeal.Block.normed x g = y
  pointwise []

theorem positions_at (pos : IVec S32768x1 32) (n : Fin 32768) : shapeCast S32768 pos shapeCasts_S32768x1_S32768 (ix1 n) = pos (ix2 n 0) :=
  shapeCast_apply _ _ _ _ (by rw [Shape.rowMajor_val_one, Shape.rowMajor_val_two]; show n.val * 1 + 0 = n.val; omega)

/-- The reference's angles, of a head of 128. -/
def angles (pos : IVec S32768x1 32) : FVec Ideal S32768x16 .f32 :=
  mulf (broadcastInDim S32768x16 ![0, 1] bcast_S32768x1_S32768x16_0_1 (broadcastInDim S32768x1 ![0] bcast_S32768_S32768x1_0
      (sitofp .f32 (shapeCast S32768 pos shapeCasts_S32768x1_S32768))))
    (broadcastInDim S32768x16 ![0, 1] bcast_S1x16_S32768x16_0_1 (broadcastInDim S1x16 ![1] bcast_S16_S1x16_1 freq))

theorem angles_at (pos : IVec S32768x1 32) (n : Fin 32768) (e : Fin 16) :
    angles pos (ix2 n e) = FloatOps.sitofp (F := Ideal) FTy.f32 (pos (ix2 n 0)) * freq (ix1 e) := by
  rw [← positions_at pos n]
  generalize hf : freq = f
  generalize hq : shapeCast S32768 pos shapeCasts_S32768x1_S32768 = q
  unfold angles
  rw [hf, hq]
  pointwise []

/-- The reference's angles, of an indexer head. -/
def pairAngles (pos : IVec S32768x1 32) : FVec Ideal S32768x8 .f32 :=
  mulf (broadcastInDim S32768x8 ![0, 1] bcast_S32768x1_S32768x8_0_1 (broadcastInDim S32768x1 ![0] bcast_S32768_S32768x1_0
      (sitofp .f32 (shapeCast S32768 pos shapeCasts_S32768x1_S32768))))
    (broadcastInDim S32768x8 ![0, 1] bcast_S1x8_S32768x8_0_1 (broadcastInDim S1x8 ![1] bcast_S8_S1x8_1 pairFreq))

theorem pairAngles_at (pos : IVec S32768x1 32) (n : Fin 32768) (e : Fin 8) :
    pairAngles pos (ix2 n e) = FloatOps.sitofp (F := Ideal) FTy.f32 (pos (ix2 n 0)) * pairFreq (ix1 e) := by
  rw [← positions_at pos n]
  generalize hf : pairFreq = f
  generalize hq : shapeCast S32768 pos shapeCasts_S32768x1_S32768 = q
  unfold pairAngles
  rw [hf, hq]
  pointwise []

/-- Eight heads of 128, turned as the reference writes it. -/
def heads8 (y : FVec Ideal S32768x8x128 .f32) (a : FVec Ideal S32768x16 .f32) : FVec Ideal S32768x8x128 .f32 :=
  concatenate S32768x8x128 2 [⟨S32768x8x32, concatenate S32768x8x32 2 [
    ⟨S32768x8x16, subf
      (mulf (extractStridedSlice S32768x8x16 ![0, 0, 0] y slices_S32768x8x128_S32768x8x16_0_0_0)
        (broadcastInDim S32768x8x16 ![0, 1, 2] bcast_S32768x1x16_S32768x8x16_0_1_2 (broadcastInDim S32768x1x16 ![0, 2] bcast_S32768x16_S32768x1x16_0_2 (Host.cos a))))
      (mulf (extractStridedSlice S32768x8x16 ![0, 0, 16] y slices_S32768x8x128_S32768x8x16_0_0_16)
        (broadcastInDim S32768x8x16 ![0, 1, 2] bcast_S32768x1x16_S32768x8x16_0_1_2 (broadcastInDim S32768x1x16 ![0, 2] bcast_S32768x16_S32768x1x16_0_2 (Host.sin a))))⟩,
    ⟨S32768x8x16, addf
      (mulf (extractStridedSlice S32768x8x16 ![0, 0, 16] y slices_S32768x8x128_S32768x8x16_0_0_16)
        (broadcastInDim S32768x8x16 ![0, 1, 2] bcast_S32768x1x16_S32768x8x16_0_1_2 (broadcastInDim S32768x1x16 ![0, 2] bcast_S32768x16_S32768x1x16_0_2 (Host.cos a))))
      (mulf (extractStridedSlice S32768x8x16 ![0, 0, 0] y slices_S32768x8x128_S32768x8x16_0_0_0)
        (broadcastInDim S32768x8x16 ![0, 1, 2] bcast_S32768x1x16_S32768x8x16_0_1_2 (broadcastInDim S32768x1x16 ![0, 2] bcast_S32768x16_S32768x1x16_0_2 (Host.sin a))))⟩]
      concatenates_S32768x8x16_S32768x8x16_S32768x8x32_d2⟩,
    ⟨S32768x8x96, extractStridedSlice S32768x8x96 ![0, 0, 32] y slices_S32768x8x128_S32768x8x96_0_0_32⟩] concatenates_S32768x8x32_S32768x8x96_S32768x8x128_d2

theorem heads8_at (y : FVec Ideal S32768x8x128 .f32) (a : FVec Ideal S32768x16 .f32) (n : Fin 32768) (h : Fin 8) (d : Fin 128) :
    heads8 y a (ix3 n h d) = turned (n := 16) (by omega) (fun d : Fin 128 => y (ix3 n h d)) (fun e => Ideal.cos (a (ix2 n e))) (fun e => Ideal.sin (a (ix2 n e))) d := by
  unfold turned
  pointwise [heads8]
  split_ifs
  all_goals first
    | (exfalso; omega)
    | exact congrArg (fun e => y (ix3 n h d) * _ - y (ix3 n h e) * _) (Fin.ext (Nat.add_comm _ _))
    | exact congrArg (fun e => y (ix3 n h e) * _ + _) (Fin.ext (by dsimp only; omega))
    | (rw [dif_neg (by omega)]; exact congrArg (fun e => y (ix3 n h e)) (Fin.ext (by dsimp only; omega)))

/-- One head of 128, turned as the reference writes it. -/
def heads1 (y : FVec Ideal S32768x1x128 .f32) (a : FVec Ideal S32768x16 .f32) : FVec Ideal S32768x1x128 .f32 :=
  concatenate S32768x1x128 2 [⟨S32768x1x32, concatenate S32768x1x32 2 [
    ⟨S32768x1x16, subf
      (mulf (extractStridedSlice S32768x1x16 ![0, 0, 0] y slices_S32768x1x128_S32768x1x16_0_0_0)
        (broadcastInDim S32768x1x16 ![0, 2] bcast_S32768x16_S32768x1x16_0_2 (Host.cos a)))
      (mulf (extractStridedSlice S32768x1x16 ![0, 0, 16] y slices_S32768x1x128_S32768x1x16_0_0_16)
        (broadcastInDim S32768x1x16 ![0, 2] bcast_S32768x16_S32768x1x16_0_2 (Host.sin a)))⟩,
    ⟨S32768x1x16, addf
      (mulf (extractStridedSlice S32768x1x16 ![0, 0, 16] y slices_S32768x1x128_S32768x1x16_0_0_16)
        (broadcastInDim S32768x1x16 ![0, 2] bcast_S32768x16_S32768x1x16_0_2 (Host.cos a)))
      (mulf (extractStridedSlice S32768x1x16 ![0, 0, 0] y slices_S32768x1x128_S32768x1x16_0_0_0)
        (broadcastInDim S32768x1x16 ![0, 2] bcast_S32768x16_S32768x1x16_0_2 (Host.sin a)))⟩]
      concatenates_S32768x1x16_S32768x1x16_S32768x1x32_d2⟩,
    ⟨S32768x1x96, extractStridedSlice S32768x1x96 ![0, 0, 32] y slices_S32768x1x128_S32768x1x96_0_0_32⟩] concatenates_S32768x1x32_S32768x1x96_S32768x1x128_d2

theorem heads1_at (y : FVec Ideal S32768x1x128 .f32) (a : FVec Ideal S32768x16 .f32) (n : Fin 32768) (d : Fin 128) :
    heads1 y a (ix3 n 0 d) = turned (n := 16) (by omega) (fun d : Fin 128 => y (ix3 n 0 d)) (fun e => Ideal.cos (a (ix2 n e))) (fun e => Ideal.sin (a (ix2 n e))) d := by
  unfold turned
  pointwise [heads1]
  split_ifs
  all_goals first
    | (exfalso; omega)
    | exact congrArg (fun e => y (ix3 n 0 d) * _ - y (ix3 n 0 e) * _) (Fin.ext (Nat.add_comm _ _))
    | exact congrArg (fun e => y (ix3 n 0 e) * _ + _) (Fin.ext (by dsimp only; omega))
    | (rw [dif_neg (by omega)]; exact congrArg (fun e => y (ix3 n 0 e)) (Fin.ext (by dsimp only; omega)))

/-- Eight indexer heads, turned as the reference writes it. -/
def pairs8 (y : FVec Ideal S32768x8x64 .f32) (a : FVec Ideal S32768x8 .f32) : FVec Ideal S32768x8x64 .f32 :=
  concatenate S32768x8x64 2 [⟨S32768x8x16, concatenate S32768x8x16 2 [
    ⟨S32768x8x8, subf
      (mulf (extractStridedSlice S32768x8x8 ![0, 0, 0] y slices_S32768x8x64_S32768x8x8_0_0_0)
        (broadcastInDim S32768x8x8 ![0, 1, 2] bcast_S32768x1x8_S32768x8x8_0_1_2 (broadcastInDim S32768x1x8 ![0, 2] bcast_S32768x8_S32768x1x8_0_2 (Host.cos a))))
      (mulf (extractStridedSlice S32768x8x8 ![0, 0, 8] y slices_S32768x8x64_S32768x8x8_0_0_8)
        (broadcastInDim S32768x8x8 ![0, 1, 2] bcast_S32768x1x8_S32768x8x8_0_1_2 (broadcastInDim S32768x1x8 ![0, 2] bcast_S32768x8_S32768x1x8_0_2 (Host.sin a))))⟩,
    ⟨S32768x8x8, addf
      (mulf (extractStridedSlice S32768x8x8 ![0, 0, 8] y slices_S32768x8x64_S32768x8x8_0_0_8)
        (broadcastInDim S32768x8x8 ![0, 1, 2] bcast_S32768x1x8_S32768x8x8_0_1_2 (broadcastInDim S32768x1x8 ![0, 2] bcast_S32768x8_S32768x1x8_0_2 (Host.cos a))))
      (mulf (extractStridedSlice S32768x8x8 ![0, 0, 0] y slices_S32768x8x64_S32768x8x8_0_0_0)
        (broadcastInDim S32768x8x8 ![0, 1, 2] bcast_S32768x1x8_S32768x8x8_0_1_2 (broadcastInDim S32768x1x8 ![0, 2] bcast_S32768x8_S32768x1x8_0_2 (Host.sin a))))⟩]
      concatenates_S32768x8x8_S32768x8x8_S32768x8x16_d2⟩,
    ⟨S32768x8x48, extractStridedSlice S32768x8x48 ![0, 0, 16] y slices_S32768x8x64_S32768x8x48_0_0_16⟩] concatenates_S32768x8x16_S32768x8x48_S32768x8x64_d2

theorem pairs8_at (y : FVec Ideal S32768x8x64 .f32) (a : FVec Ideal S32768x8 .f32) (n : Fin 32768) (h : Fin 8) (d : Fin 64) :
    pairs8 y a (ix3 n h d) = turned (n := 8) (by omega) (fun d : Fin 64 => y (ix3 n h d)) (fun e => Ideal.cos (a (ix2 n e))) (fun e => Ideal.sin (a (ix2 n e))) d := by
  unfold turned
  pointwise [pairs8]
  split_ifs
  all_goals first
    | (exfalso; omega)
    | exact congrArg (fun e => y (ix3 n h d) * _ - y (ix3 n h e) * _) (Fin.ext (Nat.add_comm _ _))
    | exact congrArg (fun e => y (ix3 n h e) * _ + _) (Fin.ext (by dsimp only; omega))
    | (rw [dif_neg (by omega)]; exact congrArg (fun e => y (ix3 n h e)) (Fin.ext (by dsimp only; omega)))

/-- One indexer head, turned as the reference writes it. -/
def pairs1 (y : FVec Ideal S32768x1x64 .f32) (a : FVec Ideal S32768x8 .f32) : FVec Ideal S32768x1x64 .f32 :=
  concatenate S32768x1x64 2 [⟨S32768x1x16, concatenate S32768x1x16 2 [
    ⟨S32768x1x8, subf
      (mulf (extractStridedSlice S32768x1x8 ![0, 0, 0] y slices_S32768x1x64_S32768x1x8_0_0_0)
        (broadcastInDim S32768x1x8 ![0, 2] bcast_S32768x8_S32768x1x8_0_2 (Host.cos a)))
      (mulf (extractStridedSlice S32768x1x8 ![0, 0, 8] y slices_S32768x1x64_S32768x1x8_0_0_8)
        (broadcastInDim S32768x1x8 ![0, 2] bcast_S32768x8_S32768x1x8_0_2 (Host.sin a)))⟩,
    ⟨S32768x1x8, addf
      (mulf (extractStridedSlice S32768x1x8 ![0, 0, 8] y slices_S32768x1x64_S32768x1x8_0_0_8)
        (broadcastInDim S32768x1x8 ![0, 2] bcast_S32768x8_S32768x1x8_0_2 (Host.cos a)))
      (mulf (extractStridedSlice S32768x1x8 ![0, 0, 0] y slices_S32768x1x64_S32768x1x8_0_0_0)
        (broadcastInDim S32768x1x8 ![0, 2] bcast_S32768x8_S32768x1x8_0_2 (Host.sin a)))⟩]
      concatenates_S32768x1x8_S32768x1x8_S32768x1x16_d2⟩,
    ⟨S32768x1x48, extractStridedSlice S32768x1x48 ![0, 0, 16] y slices_S32768x1x64_S32768x1x48_0_0_16⟩] concatenates_S32768x1x16_S32768x1x48_S32768x1x64_d2

theorem pairs1_at (y : FVec Ideal S32768x1x64 .f32) (a : FVec Ideal S32768x8 .f32) (n : Fin 32768) (d : Fin 64) :
    pairs1 y a (ix3 n 0 d) = turned (n := 8) (by omega) (fun d : Fin 64 => y (ix3 n 0 d)) (fun e => Ideal.cos (a (ix2 n e))) (fun e => Ideal.sin (a (ix2 n e))) d := by
  unfold turned
  pointwise [pairs1]
  split_ifs
  all_goals first
    | (exfalso; omega)
    | exact congrArg (fun e => y (ix3 n 0 d) * _ - y (ix3 n 0 e) * _) (Fin.ext (Nat.add_comm _ _))
    | exact congrArg (fun e => y (ix3 n 0 e) * _ + _) (Fin.ext (by dsimp only; omega))
    | (rw [dif_neg (by omega)]; exact congrArg (fun e => y (ix3 n 0 e)) (Fin.ext (by dsimp only; omega)))

/-- Heads of 128 in the lanes' order, and one. -/
def orderHeads (y : FVec Ideal S32768x8x128 .f32) : FVec Ideal S32768x8x128 .f32 :=
  concatenate S32768x8x128 2 [⟨S32768x8x16, extractStridedSlice S32768x8x16 ![0, 0, 0] y slices_S32768x8x128_S32768x8x16_0_0_0⟩,
    ⟨S32768x8x48, extractStridedSlice S32768x8x48 ![0, 0, 32] y slices_S32768x8x128_S32768x8x48_0_0_32⟩,
    ⟨S32768x8x16, extractStridedSlice S32768x8x16 ![0, 0, 16] y slices_S32768x8x128_S32768x8x16_0_0_16⟩,
    ⟨S32768x8x48, extractStridedSlice S32768x8x48 ![0, 0, 80] y slices_S32768x8x128_S32768x8x48_0_0_80⟩]
    concatenates_S32768x8x16_S32768x8x48_S32768x8x16_S32768x8x48_S32768x8x128_d2
def orderHead (y : FVec Ideal S32768x128 .f32) : FVec Ideal S32768x128 .f32 :=
  concatenate S32768x128 1 [⟨S32768x16, extractStridedSlice S32768x16 ![0, 0] y slices_S32768x128_S32768x16_0_0⟩,
    ⟨S32768x48, extractStridedSlice S32768x48 ![0, 32] y slices_S32768x128_S32768x48_0_32⟩,
    ⟨S32768x16, extractStridedSlice S32768x16 ![0, 16] y slices_S32768x128_S32768x16_0_16⟩,
    ⟨S32768x48, extractStridedSlice S32768x48 ![0, 80] y slices_S32768x128_S32768x48_0_80⟩]
    concatenates_S32768x16_S32768x48_S32768x16_S32768x48_S32768x128_d1

theorem orderHeads_at (y : FVec Ideal S32768x8x128 .f32) (n : Fin 32768) (h : Fin 8) (l : Fin 128) : orderHeads y (ix3 n h l) = y (ix3 n h (column l)) := by
  pointwise [orderHeads]
  rcases column_cases l with ⟨_, e⟩ | ⟨_, _, e⟩ | ⟨_, _, e⟩ | ⟨_, e⟩ <;> split_ifs <;>
    first | (exfalso; omega) | exact congrArg (fun d => y (ix3 n h d)) (Fin.ext (by first | omega | (dsimp only; omega)))

theorem orderHead_at (y : FVec Ideal S32768x128 .f32) (n : Fin 32768) (l : Fin 128) : orderHead y (ix2 n l) = y (ix2 n (column l)) := by
  pointwise [orderHead]
  rcases column_cases l with ⟨_, e⟩ | ⟨_, _, e⟩ | ⟨_, _, e⟩ | ⟨_, e⟩ <;> split_ifs <;>
    first | (exfalso; omega) | exact congrArg (fun d => y (ix2 n d)) (Fin.ext (by first | omega | (dsimp only; omega)))

/-- Pairs of indexer heads in the lanes' order, and one pair. -/
def orderPairs (a b : FVec Ideal S32768x4x64 .f32) : FVec Ideal S32768x4x128 .f32 :=
  concatenate S32768x4x128 2 [⟨S32768x4x8, extractStridedSlice S32768x4x8 ![0, 0, 0] a slices_S32768x4x64_S32768x4x8_0_0_0⟩,
    ⟨S32768x4x8, extractStridedSlice S32768x4x8 ![0, 0, 0] b slices_S32768x4x64_S32768x4x8_0_0_0⟩,
    ⟨S32768x4x48, extractStridedSlice S32768x4x48 ![0, 0, 16] a slices_S32768x4x64_S32768x4x48_0_0_16⟩,
    ⟨S32768x4x8, extractStridedSlice S32768x4x8 ![0, 0, 8] a slices_S32768x4x64_S32768x4x8_0_0_8⟩,
    ⟨S32768x4x8, extractStridedSlice S32768x4x8 ![0, 0, 8] b slices_S32768x4x64_S32768x4x8_0_0_8⟩,
    ⟨S32768x4x48, extractStridedSlice S32768x4x48 ![0, 0, 16] b slices_S32768x4x64_S32768x4x48_0_0_16⟩]
    concatenates_S32768x4x8_S32768x4x8_S32768x4x48_S32768x4x8_S32768x4x8_S32768x4x48_S32768x4x128_d2
def orderPair (a b : FVec Ideal S32768x64 .f32) : FVec Ideal S32768x128 .f32 :=
  concatenate S32768x128 1 [⟨S32768x8, extractStridedSlice S32768x8 ![0, 0] a slices_S32768x64_S32768x8_0_0⟩,
    ⟨S32768x8, extractStridedSlice S32768x8 ![0, 0] b slices_S32768x64_S32768x8_0_0⟩,
    ⟨S32768x48, extractStridedSlice S32768x48 ![0, 16] a slices_S32768x64_S32768x48_0_16⟩,
    ⟨S32768x8, extractStridedSlice S32768x8 ![0, 8] a slices_S32768x64_S32768x8_0_8⟩,
    ⟨S32768x8, extractStridedSlice S32768x8 ![0, 8] b slices_S32768x64_S32768x8_0_8⟩,
    ⟨S32768x48, extractStridedSlice S32768x48 ![0, 16] b slices_S32768x64_S32768x48_0_16⟩]
    concatenates_S32768x8_S32768x8_S32768x48_S32768x8_S32768x8_S32768x48_S32768x128_d1

theorem orderPairs_at (a b : FVec Ideal S32768x4x64 .f32) (n : Fin 32768) (p : Fin 4) (l : Fin 128) :
    orderPairs a b (ix3 n p l) = either (side l) (a (ix3 n p (place l))) (b (ix3 n p (place l))) := by
  pointwise [orderPairs]
  rcases pair_cases l with ⟨_, s, e⟩ | ⟨_, _, s, e⟩ | ⟨_, _, s, e⟩ | ⟨_, _, s, e⟩ | ⟨_, _, s, e⟩ | ⟨_, s, e⟩ <;> rw [s] <;> split_ifs <;>
    first
    | (exfalso; omega)
    | exact congrArg (fun d => a (ix3 n p d)) (Fin.ext (by first | omega | (dsimp only; omega)))
    | exact congrArg (fun d => b (ix3 n p d)) (Fin.ext (by first | omega | (dsimp only; omega)))

theorem orderPair_at (a b : FVec Ideal S32768x64 .f32) (n : Fin 32768) (l : Fin 128) :
    orderPair a b (ix2 n l) = either (side l) (a (ix2 n (place l))) (b (ix2 n (place l))) := by
  pointwise [orderPair]
  rcases pair_cases l with ⟨_, s, e⟩ | ⟨_, _, s, e⟩ | ⟨_, _, s, e⟩ | ⟨_, _, s, e⟩ | ⟨_, _, s, e⟩ | ⟨_, s, e⟩ <;> rw [s] <;> split_ifs <;>
    first
    | (exfalso; omega)
    | exact congrArg (fun d => a (ix2 n d)) (Fin.ext (by first | omega | (dsimp only; omega)))
    | exact congrArg (fun d => b (ix2 n d)) (Fin.ext (by first | omega | (dsimp only; omega)))

section result
variable (x : FVec Ideal S32768x1024 .f32) (pos : IVec S32768x1 32) (g : FVec Ideal S1024 .f32) (w : FVec Ideal S1024x1864 .f32)

/-- The eight rotated heads of a row. -/
def heads : FVec Ideal S32768x8x128 .f32 :=
  heads8 (shapeCast S32768x8x128 (extractStridedSlice S32768x1024 ![0, 0] (projected x g w) slices_S32768x1864_S32768x1024_0_0) shapeCasts_S32768x1024_S32768x8x128)
    (angles pos)

theorem heads_at (n : Fin 32768) (h : Fin 8) (d : Fin 128) : heads x pos g w (ix3 n h d) = turnedHead x pos g w (128 * h.val) (by omega) n d := by
  refine (heads8_at _ _ n h d).trans ?_
  unfold turnedHead cosAt sinAt
  simp only [angles_at]
  refine congrArg (fun z => turned (n := 16) (W := 128) (by omega) z _ _ d) (funext fun d => ?_)
  refine (shapeCast_apply (k := ix2 n ⟨128 * h.val + d.val, by omega⟩) _ _ _ (by
    rw [Shape.rowMajor_val_two, Shape.rowMajor_val_three]
    show n.val * 1024 + (128 * h.val + d.val) = (n.val * 8 + h.val) * 128 + d.val
    omega)).trans ?_
  rw [← projected_at]
  generalize projected x g w = y
  pointwise []

/-- The reference's queries. -/
def queries : FVec Ideal S8x8x4096x128 .bf16 :=
  truncf .bf16 (transpose S8x8x4096x128 [0, 2, 1, 3] (shapeCast S8x4096x8x128 (mulf (orderHeads (heads x pos g w))
    (broadcastInDim S32768x8x128 ![] bcast_S_S32768x8x128 (constant S_ .f32 0x3E0293EE#32))) shapeCasts_S32768x8x128_S8x4096x8x128)
    transposes_S8x4096x8x128_S8x8x4096x128_0_2_1_3) bitsLt_bf16_f32

theorem exchanged_at (y : FVec Ideal S8x4096x8x128 .f32) (b h : Fin 8) (s : Fin 4096) (l : Fin 128) :
    truncf (F := Ideal) .bf16 (transpose S8x8x4096x128 [0, 2, 1, 3] y transposes_S8x4096x8x128_S8x8x4096x128_0_2_1_3) bitsLt_bf16_f32 (ix4 b h s l) = y (ix4 b s h l) := by
  pointwise []

theorem queries_at (b h : Fin 8) (s : Fin 4096) (l : Fin 128) :
    queries x pos g w (ix4 b h s l) = turnedHead x pos g w (128 * h.val) (by omega) (rowAt b s) (column l) * Ideal.ofBits FTy.f32 0x3E0293EE#32 := by
  rw [← heads_at, ← orderHeads_at (heads x pos g w)]
  unfold queries
  refine (exchanged_at _ b h s l).trans ((shapeCast_apply (k := ix3 (rowAt b s) h l) _ _ _ (by
    rw [Shape.rowMajor_val_three, Shape.rowMajor_val_four]
    show ((4096 * b.val + s.val) * 8 + h.val) * 128 + l.val = ((b.val * 4096 + s.val) * 8 + h.val) * 128 + l.val
    omega)).trans ?_)
  generalize orderHeads (heads x pos g w) = y
  pointwise []

/-- The reference's keys, in the lanes' order. -/
def keys : FVec Ideal S32768x128 .f32 :=
  orderHead (shapeCast S32768x128 (heads1 (broadcastInDim S32768x1x128 ![0, 2] bcast_S32768x128_S32768x1x128_0_2
    (extractStridedSlice S32768x128 ![0, 1024] (projected x g w) slices_S32768x1864_S32768x128_0_1024)) (angles pos)) shapeCasts_S32768x1x128_S32768x128)

theorem keys_at (n : Fin 32768) (l : Fin 128) : keys x pos g w (ix2 n l) = keyLane x pos g w n l := by
  unfold keyLane
  refine (orderHead_at _ n l).trans ((shapeCast_apply (k := ix3 n 0 (column l)) _ _ _ (by
    rw [Shape.rowMajor_val_two, Shape.rowMajor_val_three]
    show (n.val * 1 + 0) * 128 + (column l).val = n.val * 128 + (column l).val
    omega)).trans ((heads1_at _ _ n (column l)).trans ?_))
  unfold turnedHead cosAt sinAt
  simp only [angles_at]
  refine congrArg (fun z => turned (n := 16) (W := 128) (by omega) z _ _ (column l)) (funext fun d => ?_)
  rw [← projected_at]
  generalize projected x g w = y
  pointwise []

/-- The reference's keys' squared lengths, once for each head. -/
def squares : FVec Ideal S8x8x4096 .f32 :=
  broadcastInDim S8x8x4096 ![0, 1, 2] bcast_S8x1x4096_S8x8x4096_0_1_2 (shapeCast S8x1x4096
    (Host.reduceAdd (mulf (keys x pos g w) (keys x pos g w)) (constant S_ .f32 0x00000000#32) reducesTo_S32768x128_S32768_d1 h_S_) shapeCasts_S32768_S8x1x4096)

theorem spread_at (y : FVec Ideal S8x1x4096 .f32) (b h : Fin 8) (s : Fin 4096) :
    broadcastInDim S8x8x4096 ![0, 1, 2] bcast_S8x1x4096_S8x8x4096_0_1_2 y (ix3 b h s) = y (ix3 b 0 s) := by
  pointwise []

theorem squares_at (b h : Fin 8) (s : Fin 4096) :
    squares x pos g w (ix3 b h s) = ∑ l, keyLane x pos g w (rowAt b s) l * keyLane x pos g w (rowAt b s) l := by
  simp only [← keys_at]
  unfold squares
  refine (spread_at _ b h s).trans ((shapeCast_apply (k := ix1 (rowAt b s)) _ _ _ (by
    rw [Shape.rowMajor_val_one, Shape.rowMajor_val_three]
    show 4096 * b.val + s.val = (b.val * 1 + 0) * 4096 + s.val
    omega)).trans ?_)
  generalize keys x pos g w = y
  pointwise []

/-- The reference's values, the steps last. -/
def values : FVec Ideal S8x128x4096 .bf16 :=
  truncf .bf16 (transpose S8x128x4096 [0, 2, 1] (shapeCast S8x4096x128
    (extractStridedSlice S32768x128 ![0, 1152] (projected x g w) slices_S32768x1864_S32768x128_0_1152) shapeCasts_S32768x128_S8x4096x128)
    transposes_S8x4096x128_S8x128x4096_0_2_1) bitsLt_bf16_f32

theorem turnedOver_at (y : FVec Ideal S8x4096x128 .f32) (b : Fin 8) (l : Fin 128) (s : Fin 4096) :
    truncf (F := Ideal) .bf16 (transpose S8x128x4096 [0, 2, 1] y transposes_S8x4096x128_S8x128x4096_0_2_1) bitsLt_bf16_f32 (ix3 b l s) = y (ix3 b s l) := by
  pointwise []

theorem values_at (b : Fin 8) (l : Fin 128) (s : Fin 4096) : values x g w (ix3 b l s) = entry x g w (rowAt b s) ⟨1152 + l.val, by omega⟩ := by
  unfold values
  refine (turnedOver_at _ b l s).trans ((shapeCast_apply (k := ix2 (rowAt b s) l) _ _ _ (by
    rw [Shape.rowMajor_val_two, Shape.rowMajor_val_three]
    show (4096 * b.val + s.val) * 128 + l.val = (b.val * 4096 + s.val) * 128 + l.val
    omega)).trans ?_)
  rw [← projected_at]
  generalize projected x g w = y
  pointwise []

/-- The rotated indexer heads of a row, two to a pair. -/
def pairs : FVec Ideal S32768x4x2x64 .f32 :=
  shapeCast S32768x4x2x64 (pairs8 (shapeCast S32768x8x64 (extractStridedSlice S32768x512 ![0, 1280] (projected x g w) slices_S32768x1864_S32768x512_0_1280)
    shapeCasts_S32768x512_S32768x8x64) (pairAngles pos)) shapeCasts_S32768x8x64_S32768x4x2x64

theorem pairs_at (n : Fin 32768) (p : Fin 4) (s : Fin 2) (d : Fin 64) :
    pairs x pos g w (ix4 n p s d) = turnedPair x pos g w (1280 + 128 * p.val + 64 * s.val) (by omega) n d := by
  refine (shapeCast_apply (k := ix3 n (⟨2 * p.val + s.val, by omega⟩ : Fin 8) d) _ _ _ (by
    rw [Shape.rowMajor_val_three, Shape.rowMajor_val_four]
    show (n.val * 8 + (2 * p.val + s.val)) * 64 + d.val = ((n.val * 4 + p.val) * 2 + s.val) * 64 + d.val
    omega)).trans ((pairs8_at _ _ n _ d).trans ?_)
  unfold turnedPair pairCosAt pairSinAt
  simp only [pairAngles_at]
  refine congrArg (fun z => turned (n := 8) (W := 64) (by omega) z _ _ d) (funext fun d => ?_)
  refine (shapeCast_apply (k := ix2 n (⟨128 * p.val + 64 * s.val + d.val, by omega⟩ : Fin 512)) _ _ _ (by
    rw [Shape.rowMajor_val_two, Shape.rowMajor_val_three]
    show n.val * 512 + (128 * p.val + 64 * s.val + d.val) = (n.val * 8 + (2 * p.val + s.val)) * 64 + d.val
    omega)).trans ?_
  rw [← projected_at]
  generalize projected x g w = y
  pointwise []
  exact congrArg (fun d => y (ix2 n d)) (Fin.ext (by dsimp only; omega))

/-- The first heads of the pairs, and the second. -/
def firsts (y : FVec Ideal S32768x4x2x64 .f32) : FVec Ideal S32768x4x64 .f32 :=
  shapeCast S32768x4x64 (extractStridedSlice S32768x4x1x64 ![0, 0, 0, 0] y slices_S32768x4x2x64_S32768x4x1x64_0_0_0_0) shapeCasts_S32768x4x1x64_S32768x4x64
def seconds (y : FVec Ideal S32768x4x2x64 .f32) : FVec Ideal S32768x4x64 .f32 :=
  shapeCast S32768x4x64 (extractStridedSlice S32768x4x1x64 ![0, 0, 1, 0] y slices_S32768x4x2x64_S32768x4x1x64_0_0_1_0) shapeCasts_S32768x4x1x64_S32768x4x64

theorem firsts_at (y : FVec Ideal S32768x4x2x64 .f32) (n : Fin 32768) (p : Fin 4) (d : Fin 64) : firsts y (ix3 n p d) = y (ix4 n p 0 d) := by
  refine (shapeCast_apply (k := ix4 n p 0 d) _ _ _ (by
    rw [Shape.rowMajor_val_three, Shape.rowMajor_val_four]
    show ((n.val * 4 + p.val) * 1 + 0) * 64 + d.val = (n.val * 4 + p.val) * 64 + d.val
    omega)).trans ?_
  pointwise []

theorem seconds_at (y : FVec Ideal S32768x4x2x64 .f32) (n : Fin 32768) (p : Fin 4) (d : Fin 64) : seconds y (ix3 n p d) = y (ix4 n p 1 d) := by
  refine (shapeCast_apply (k := ix4 n p 0 d) _ _ _ (by
    rw [Shape.rowMajor_val_three, Shape.rowMajor_val_four]
    show ((n.val * 4 + p.val) * 1 + 0) * 64 + d.val = (n.val * 4 + p.val) * 64 + d.val
    omega)).trans ?_
  pointwise []

/-- The reference's indexer queries. -/
def pairQueries : FVec Ideal S32768x512 .bf16 :=
  truncf .bf16 (shapeCast S32768x512 (orderPairs (firsts (pairs x pos g w)) (seconds (pairs x pos g w))) shapeCasts_S32768x4x128_S32768x512) bitsLt_bf16_f32

theorem pairQueries_at (n : Fin 32768) (p : Fin 4) (l : Fin 128) :
    pairQueries x pos g w (ix2 n (lane p l)) = turnedPair x pos g w (1280 + 128 * p.val + 64 * (side l).val) (by omega) n (place l) := by
  rw [← pairs_at]
  refine (shapeCast_apply (k := ix3 n p l) (orderPairs (firsts (pairs x pos g w)) (seconds (pairs x pos g w))) _ _ (by
    rw [Shape.rowMajor_val_two, Shape.rowMajor_val_three]
    show (n.val * 4 + p.val) * 128 + l.val = n.val * 512 + (128 * p.val + l.val)
    omega)).trans ((orderPairs_at _ _ n p l).trans ?_)
  rw [firsts_at, seconds_at]
  generalize side l = s
  match s with
  | ⟨0, _⟩ => rfl
  | ⟨1, _⟩ => rfl

/-- The rotated indexer key of a row. -/
def pairKey : FVec Ideal S32768x64 .f32 :=
  shapeCast S32768x64 (pairs1 (broadcastInDim S32768x1x64 ![0, 2] bcast_S32768x64_S32768x1x64_0_2
    (extractStridedSlice S32768x64 ![0, 1792] (projected x g w) slices_S32768x1864_S32768x64_0_1792)) (pairAngles pos)) shapeCasts_S32768x1x64_S32768x64

theorem pairKey_at (n : Fin 32768) (d : Fin 64) : pairKey x pos g w (ix2 n d) = turnedPair x pos g w 1792 (by omega) n d := by
  refine (shapeCast_apply (k := ix3 n 0 d) _ _ _ (by
    rw [Shape.rowMajor_val_two, Shape.rowMajor_val_three]
    show (n.val * 1 + 0) * 64 + d.val = n.val * 64 + d.val
    omega)).trans ((pairs1_at _ _ n d).trans ?_)
  unfold turnedPair pairCosAt pairSinAt
  simp only [pairAngles_at]
  refine congrArg (fun z => turned (n := 8) (W := 64) (by omega) z _ _ d) (funext fun d => ?_)
  rw [← projected_at]
  generalize projected x g w = y
  pointwise []

/-- Zeros. -/
def zeros : FVec Ideal S32768x64 .f32 := broadcastInDim S32768x64 ![] bcast_S_S32768x64 (constant S_ .f32 0x00000000#32)

theorem zeros_at (n : Fin 32768) (d : Fin 64) : zeros (ix2 n d) = 0 := by
  pointwise [zeros]

/-- The reference's indexer keys, in the first heads of the pairs and in the second. -/
def lows : FVec Ideal S32768x128 .bf16 := truncf .bf16 (orderPair (pairKey x pos g w) zeros) bitsLt_bf16_f32
def highs : FVec Ideal S32768x128 .bf16 := truncf .bf16 (orderPair zeros (pairKey x pos g w)) bitsLt_bf16_f32

theorem lows_at (n : Fin 32768) (l : Fin 128) :
    lows x pos g w (ix2 n l) = either (side l) (turnedPair x pos g w 1792 (by omega) n (place l)) 0 := by
  refine (orderPair_at (pairKey x pos g w) zeros n l).trans ?_
  rw [pairKey_at, zeros_at]

theorem highs_at (n : Fin 32768) (l : Fin 128) :
    highs x pos g w (ix2 n l) = either (side l) 0 (turnedPair x pos g w 1792 (by omega) n (place l)) := by
  refine (orderPair_at zeros (pairKey x pos g w) n l).trans ?_
  rw [pairKey_at, zeros_at]

/-- The reference's indexer weights, in the first eight of 128 columns. -/
def weights : FVec Ideal S32768x128 .f32 :=
  pad S32768x128 ![0, 0] ![0, 120] ![0, 0] (mulf (extractStridedSlice S32768x8 ![0, 1856] (projected x g w) slices_S32768x1864_S32768x8_0_1856)
    (broadcastInDim S32768x8 ![] bcast_S_S32768x8 (constant S_ .f32 0x3D3504F3#32))) (sitofp .f32 (constantI S_ 32 0#32)) pads_S32768x8_S32768x128_000_01200 h_S_

theorem weights_at (n : Fin 32768) (l : Fin 128) :
    weights x g w (ix2 n l) = if h : l.val < 8 then entry x g w n ⟨1856 + l.val, by omega⟩ * Ideal.ofBits FTy.f32 0x3D3504F3#32 else 0 := by
  simp only [← projected_at]
  unfold weights
  generalize projected x g w = y
  pointwise []
  rw [show FloatOps.sitofp (F := Ideal) FTy.f32 0#32 = 0 from (Retention.sitofp_nat 0 (by omega)).trans (by simp)]

end result

end Cert.AttendReferenceIdeal.Block

end
-- ==== Proof.lean ====
/-
  THE CERTIFICATE. Five calls of the kernel, each run beside its reference's run: the retention (on finite queries, keys and
  values), the two output projections with their feed-forward parts, the retention's input projection, and the sparse attention's.
-/
module

public import proofs.«01_k».proof.Defs
public import proofs.«01_k».proof.Proof.Gen.Kernel.Frame
public import proofs.«01_k».proof.Proof.Gen.KernelIdeal.Value
public import proofs.«01_k».proof.Proof.Gen.Pre_finite_qkv
public import proofs.«01_k».proof.Proof.Gen.ReferenceIdeal.Run
public import proofs.«01_k».proof.Proof.Gen.First.Frame
public import proofs.«01_k».proof.Proof.Gen.FirstIdeal.Value
public import proofs.«01_k».proof.Proof.Gen.FirstReferenceIdeal.Run
public import proofs.«01_k».proof.Proof.Gen.Final.Frame
public import proofs.«01_k».proof.Proof.Gen.FinalIdeal.Value
public import proofs.«01_k».proof.Proof.Gen.FinalReferenceIdeal.Run
public import proofs.«01_k».proof.Proof.Gen.Project.Frame
public import proofs.«01_k».proof.Proof.Gen.ProjectIdeal.Value
public import proofs.«01_k».proof.Proof.Gen.ProjectReferenceIdeal.Run
public import proofs.«01_k».proof.Proof.Gen.Attend.Frame
public import proofs.«01_k».proof.Proof.Gen.AttendIdeal.Value
public import proofs.«01_k».proof.Proof.Gen.AttendReferenceIdeal.Run
public import proofs.«01_k».proof.Proof.Array
public import proofs.«01_k».proof.Proof.Loop
public import proofs.«01_k».proof.Proof.FirstValue
public import proofs.«01_k».proof.Proof.FinalValue
public import proofs.«01_k».proof.Proof.ProjectValue
public import proofs.«01_k».proof.Proof.AttendValue
public import proofs.«01_k».proof.Proof.AttendReference
public import Idealize.ShloMosaic.Adequacy
public import Idealize.ShloMosaic.Init
public import Idealize.ShloMosaic.Lib.Quiescent

@[expose] public section

noncomputable section

namespace Cert.Proof

open Idealize.ShloMosaic Idealize.SL.Sem
open Retention (Finite retained vcol)

theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_first : quiescent_FirstReferenceIdeal := fun m ρ _ =>
  (θ_run Cert.FirstReferenceIdeal.defs _ _).mono (fun r h => ⟨fun c => (h c).2, sem_eq_zero_of_no_sems (by decide) r.2⟩)
    (Cert.FirstReferenceIdeal.Value.run (F := Ideal) m ρ)

theorem quiescent_final : quiescent_FinalReferenceIdeal := fun m ρ _ =>
  (θ_run Cert.FinalReferenceIdeal.defs _ _).mono (fun r h => ⟨fun c => (h c).2, sem_eq_zero_of_no_sems (by decide) r.2⟩)
    (Cert.FinalReferenceIdeal.Value.run (F := Ideal) m ρ)

theorem quiescent_project : quiescent_ProjectReferenceIdeal := fun m ρ _ =>
  (θ_run Cert.ProjectReferenceIdeal.defs _ _).mono (fun r h => ⟨fun c => (h c).2.2.2.2, sem_eq_zero_of_no_sems (by decide) r.2⟩)
    (Cert.ProjectReferenceIdeal.Value.run (F := Ideal) m ρ)

theorem quiescent_attend : quiescent_AttendReferenceIdeal := fun m ρ _ =>
  (θ_run Cert.AttendReferenceIdeal.defs _ _).mono (fun r h => ⟨fun c => (h c).2.2.2.2.2.2.2.2, sem_eq_zero_of_no_sems (by decide) r.2⟩)
    (Cert.AttendReferenceIdeal.Value.run (F := Ideal) m ρ)

/-- An entry whose absolute value is below infinity is a real number. -/
theorem ne_of_abs_lt {x : EReal} (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  constructor <;> rintro rfl <;> simp at h

/-- The precondition says that every query, key and value is a real number. -/
theorem finite_of_pre (m : (ℓ : Loc Cert.KernelIdeal.nD Cert.KernelIdeal.τ Cert.KernelIdeal.sig) → Buf (Elt Ideal) ℓ)
    (h : Pre_KernelIdeal_finite_qkv m) (c : Dev Cert.KernelIdeal.nD) :
    Finite (m ((c.tc : Thread Cert.KernelIdeal.nD Cert.KernelIdeal.τ).loc Cert.KernelIdeal.main_arg0))
    ∧ Finite (m ((c.tc : Thread Cert.KernelIdeal.nD Cert.KernelIdeal.τ).loc Cert.KernelIdeal.main_arg1))
    ∧ Finite (m ((c.tc : Thread Cert.KernelIdeal.nD Cert.KernelIdeal.τ).loc Cert.KernelIdeal.main_arg2)) := by
  obtain ⟨h0, h1, h2⟩ := h c
  exact ⟨fun i => ne_of_abs_lt (congrFun h0 i), fun i => ne_of_abs_lt (congrFun h1 i), fun i => ne_of_abs_lt (congrFun h2 i)⟩

/-- On finite queries, keys and values the kernel and the reference leave the same array. -/
theorem retention : algebraic_KernelIdeal_ReferenceIdeal_pre_finite_qkv := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨fq, fk, fv⟩ := finite_of_pre m hpre c
  obtain ⟨a0, a1, a2, a3, a4⟩ := hagree c
  funext (i : (⟨3, ![8, 4096, 2048]⟩ : Shape).Idx)
  obtain ⟨b, n, j, rfl⟩ : ∃ (b : Fin 8) (n : Fin 4096) (j : Fin 2048), i = ix3 b n j :=
    ⟨i 0, i 1, i 2, by funext a; match a with | ⟨0, _⟩ => rfl | ⟨1, _⟩ => rfl | ⟨2, _⟩ => rfl⟩
  obtain ⟨hd, e, rfl⟩ : ∃ (hd : Fin 4) (e : Fin 512), j = vcol hd e :=
    ⟨⟨j.val / 512, by omega⟩, ⟨j.val % 512, by omega⟩, Fin.ext (by show j.val = 512 * (j.val / 512) + j.val % 512; omega)⟩
  refine (Cert.ReferenceIdeal.Loop.result_at m' c (a0 ▸ fq) (a1 ▸ fk) (a2 ▸ fv) b n hd e).trans ?_
  refine Eq.trans ?_ (Cert.KernelIdeal.Block.result_at m c fq fk fv b n hd e).symm
  rw [a0, a1, a2, a3, a4]

/-- The first output projection and its reference leave the same array. -/
theorem first_output : algebraic_FirstIdeal_FirstReferenceIdeal := by
  intro m ρ m' ρ' _ hagree
  refine ⟨_, Cert.FirstIdeal.Value.run_blocks (F := Ideal) m ρ, ?_⟩
  refine (θ_run Cert.FirstReferenceIdeal.defs _ _).mono (fun _ h c => ⟨(h c).1.trans ?_, (h c).2⟩) (Cert.FirstReferenceIdeal.Value.run (F := Ideal) m' ρ')
  obtain ⟨a0, a1, a2, a3, a4, a5, -⟩ := hagree c
  funext (i : (⟨2, ![32768, 1024]⟩ : Shape).Idx)
  obtain ⟨n, j, rfl⟩ : ∃ (n : Fin 32768) (j : Fin 1024), i = ix2 n j := ⟨i 0, i 1, eq_ix2 (n0 := 32768) (n1 := 1024) i⟩
  refine (Cert.FirstReferenceIdeal.Block.result_at _ _ _ _ _ _ n j).trans ?_
  refine Eq.trans ?_ (Cert.FirstIdeal.Block.result_at m c n j).symm
  rw [a0, a1, a2, a3, a4, a5]

/-- The last output projection and its reference leave the same array. -/
theorem final_output : algebraic_FinalIdeal_FinalReferenceIdeal := by
  intro m ρ m' ρ' _ hagree
  refine ⟨_, Cert.FinalIdeal.Value.run_blocks (F := Ideal) m ρ, ?_⟩
  refine (θ_run Cert.FinalReferenceIdeal.defs _ _).mono (fun _ h c => ⟨(h c).1.trans ?_, (h c).2⟩) (Cert.FinalReferenceIdeal.Value.run (F := Ideal) m' ρ')
  obtain ⟨a0, a1, a2, a3, a4, a5, a6⟩ := hagree c
  funext (i : (⟨2, ![32768, 1024]⟩ : Shape).Idx)
  obtain ⟨n, j, rfl⟩ : ∃ (n : Fin 32768) (j : Fin 1024), i = ix2 n j := ⟨i 0, i 1, eq_ix2 (n0 := 32768) (n1 := 1024) i⟩
  refine (Cert.FinalReferenceIdeal.Block.result_at m' c n j).trans ?_
  refine Eq.trans ?_ (Cert.FinalIdeal.Block.result_at m c n j).symm
  rw [a0, a1, a2, a3, a4, a5, a6]

/-- The retention's input projection and its reference leave the same queries, keys, values and gates. -/
theorem projection : algebraic_ProjectIdeal_ProjectReferenceIdeal := by
  intro m ρ m' ρ' _ hagree
  refine ⟨_, _, _, _, Cert.ProjectIdeal.Value.run_blocks (F := Ideal) m ρ, ?_⟩
  refine (θ_run Cert.ProjectReferenceIdeal.defs _ _).mono (fun _ h c => ⟨(h c).1.trans ?_, (h c).2.1.trans ?_, (h c).2.2.1.trans ?_,
    (h c).2.2.2.1.trans ?_, (h c).2.2.2.2⟩) (Cert.ProjectReferenceIdeal.Value.run (F := Ideal) m' ρ')
  all_goals obtain ⟨a0, a1, a2, a3⟩ := hagree c
  · rw [Cert.ProjectReferenceIdeal.Block.queries_eq]
    funext (i : (⟨2, ![32768, 1024]⟩ : Shape).Idx)
    obtain ⟨n, j, rfl⟩ : ∃ (n : Fin 32768) (j : Fin 1024), i = ix2 n j := ⟨i 0, i 1, eq_ix2 (n0 := 32768) (n1 := 1024) i⟩
    obtain ⟨hd, p, e, rfl⟩ := Turn.exists_col j
    refine (Cert.ProjectReferenceIdeal.Block.queries_at _ _ _ _ n hd p e).trans ?_
    refine Eq.trans ?_ (Cert.ProjectIdeal.Block.query_result m c n hd p e).symm
    rw [a0, a1, a2, a3]
  · rw [Cert.ProjectReferenceIdeal.Block.keys_eq]
    funext (i : (⟨2, ![32768, 1024]⟩ : Shape).Idx)
    obtain ⟨n, j, rfl⟩ : ∃ (n : Fin 32768) (j : Fin 1024), i = ix2 n j := ⟨i 0, i 1, eq_ix2 (n0 := 32768) (n1 := 1024) i⟩
    obtain ⟨hd, p, e, rfl⟩ := Turn.exists_col j
    refine (Cert.ProjectReferenceIdeal.Block.keys_at _ _ _ _ n hd p e).trans ?_
    refine Eq.trans ?_ (Cert.ProjectIdeal.Block.key_result m c n hd p e).symm
    rw [a0, a1, a2, a3]
  · funext (i : (⟨2, ![32768, 2048]⟩ : Shape).Idx)
    obtain ⟨n, j, rfl⟩ : ∃ (n : Fin 32768) (j : Fin 2048), i = ix2 n j := ⟨i 0, i 1, eq_ix2 (n0 := 32768) (n1 := 2048) i⟩
    refine (Cert.ProjectReferenceIdeal.Block.values_at _ _ _ n j).trans ?_
    refine Eq.trans ?_ (Cert.ProjectIdeal.Block.value_result m c n j).symm
    rw [a0, a2, a3]
  · funext (i : (⟨2, ![32768, 2048]⟩ : Shape).Idx)
    obtain ⟨n, j, rfl⟩ : ∃ (n : Fin 32768) (j : Fin 2048), i = ix2 n j := ⟨i 0, i 1, eq_ix2 (n0 := 32768) (n1 := 2048) i⟩
    refine (Cert.ProjectReferenceIdeal.Block.gates_at _ _ _ n j).trans ?_
    refine Eq.trans ?_ (Cert.ProjectIdeal.Block.gate_result m c n j).symm
    rw [a0, a2, a3]

set_option maxHeartbeats 2000000 in
/-- The sparse attention's input projection and its reference leave the same eight arrays. -/
theorem attention_input : algebraic_AttendIdeal_AttendReferenceIdeal := by
  intro m ρ m' ρ' _ hagree
  refine ⟨_, _, _, _, _, _, _, _, Cert.AttendIdeal.Value.run_blocks (F := Ideal) m ρ, ?_⟩
  refine (θ_run Cert.AttendReferenceIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_, (h c).2.2.2.2.2.2.2.1.trans ?_,
    (h c).2.2.2.2.2.2.2.2⟩) (Cert.AttendReferenceIdeal.Value.run (F := Ideal) m' ρ')
  all_goals obtain ⟨a0, a1, a2, a3⟩ := hagree c
  · refine Eq.trans (b := Cert.AttendReferenceIdeal.Block.queries
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg1))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨4, ![8, 8, 4096, 128]⟩ : Shape).Idx)
    obtain ⟨b, h, s, l, rfl⟩ : ∃ (b : Fin 8) (h : Fin 8) (s : Fin 4096) (l : Fin 128), i = ix4 b h s l :=
      ⟨i 0, i 1, i 2, i 3, by funext a; match a with | ⟨0, _⟩ => rfl | ⟨1, _⟩ => rfl | ⟨2, _⟩ => rfl | ⟨3, _⟩ => rfl⟩
    refine (Cert.AttendReferenceIdeal.Block.queries_at _ _ _ _ b h s l).trans ?_
    refine Eq.trans ?_ (Cert.AttendIdeal.Block.query_result m c b h s l).symm
    rw [a0, a1, a2, a3]
  · refine Eq.trans (b := Cert.AttendReferenceIdeal.Block.keys
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg1))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨2, ![32768, 128]⟩ : Shape).Idx)
    obtain ⟨n, l, rfl⟩ : ∃ (n : Fin 32768) (l : Fin 128), i = ix2 n l := ⟨i 0, i 1, eq_ix2 (n0 := 32768) (n1 := 128) i⟩
    refine (Cert.AttendReferenceIdeal.Block.keys_at _ _ _ _ n l).trans ?_
    refine Eq.trans ?_ (Cert.AttendIdeal.Block.key_result m c n l).symm
    rw [a0, a1, a2, a3]
  · refine Eq.trans (b := Cert.AttendReferenceIdeal.Block.squares
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg1))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨3, ![8, 8, 4096]⟩ : Shape).Idx)
    obtain ⟨b, h, s, rfl⟩ : ∃ (b : Fin 8) (h : Fin 8) (s : Fin 4096), i = ix3 b h s :=
      ⟨i 0, i 1, i 2, by funext a; match a with | ⟨0, _⟩ => rfl | ⟨1, _⟩ => rfl | ⟨2, _⟩ => rfl⟩
    refine (Cert.AttendReferenceIdeal.Block.squares_at _ _ _ _ b h s).trans ?_
    refine Eq.trans ?_ (Cert.AttendIdeal.Block.squared_result m c b h s).symm
    rw [a0, a1, a2, a3]
  · refine Eq.trans (b := Cert.AttendReferenceIdeal.Block.values
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨3, ![8, 128, 4096]⟩ : Shape).Idx)
    obtain ⟨b, l, s, rfl⟩ : ∃ (b : Fin 8) (l : Fin 128) (s : Fin 4096), i = ix3 b l s :=
      ⟨i 0, i 1, i 2, by funext a; match a with | ⟨0, _⟩ => rfl | ⟨1, _⟩ => rfl | ⟨2, _⟩ => rfl⟩
    refine (Cert.AttendReferenceIdeal.Block.values_at _ _ _ b l s).trans ?_
    refine Eq.trans ?_ (Cert.AttendIdeal.Block.value_result m c b l s).symm
    rw [a0, a2, a3]
  · refine Eq.trans (b := Cert.AttendReferenceIdeal.Block.pairQueries
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg1))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨2, ![32768, 512]⟩ : Shape).Idx)
    obtain ⟨n, j, rfl⟩ : ∃ (n : Fin 32768) (j : Fin 512), i = ix2 n j := ⟨i 0, i 1, eq_ix2 (n0 := 32768) (n1 := 512) i⟩
    obtain ⟨p, l, rfl⟩ : ∃ (p : Fin 4) (l : Fin 128), j = Cert.AttendIdeal.Block.lane p l :=
      ⟨⟨j.val / 128, by omega⟩, ⟨j.val % 128, by omega⟩, Fin.ext (by show j.val = 128 * (j.val / 128) + j.val % 128; omega)⟩
    refine (Cert.AttendReferenceIdeal.Block.pairQueries_at _ _ _ _ n p l).trans ?_
    refine Eq.trans ?_ (Cert.AttendIdeal.Block.pairs_result m c n p l).symm
    rw [a0, a1, a2, a3]
  · refine Eq.trans (b := Cert.AttendReferenceIdeal.Block.lows
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg1))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨2, ![32768, 128]⟩ : Shape).Idx)
    obtain ⟨n, l, rfl⟩ : ∃ (n : Fin 32768) (l : Fin 128), i = ix2 n l := ⟨i 0, i 1, eq_ix2 (n0 := 32768) (n1 := 128) i⟩
    refine (Cert.AttendReferenceIdeal.Block.lows_at _ _ _ _ n l).trans ?_
    refine Eq.trans ?_ (Cert.AttendIdeal.Block.low_result m c n l).symm
    rw [a0, a1, a2, a3]
  · refine Eq.trans (b := Cert.AttendReferenceIdeal.Block.highs
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg1))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨2, ![32768, 128]⟩ : Shape).Idx)
    obtain ⟨n, l, rfl⟩ : ∃ (n : Fin 32768) (l : Fin 128), i = ix2 n l := ⟨i 0, i 1, eq_ix2 (n0 := 32768) (n1 := 128) i⟩
    refine (Cert.AttendReferenceIdeal.Block.highs_at _ _ _ _ n l).trans ?_
    refine Eq.trans ?_ (Cert.AttendIdeal.Block.high_result m c n l).symm
    rw [a0, a1, a2, a3]
  · refine Eq.trans (b := Cert.AttendReferenceIdeal.Block.weights
      (m' ((c.tc : Thread Cert.AttendReferenceIdeal.nD Cert.AttendReferenceIdeal.τ).loc Cert.AttendReferenceIdeal.main_arg0))
      (m' ((c.tc : Thread Cert.AttendReferenceIdeal.nD Cert.AttendReferenceIdeal.τ).loc Cert.AttendReferenceIdeal.main_arg2))
      (m' ((c.tc : Thread Cert.AttendReferenceIdeal.nD Cert.AttendReferenceIdeal.τ).loc Cert.AttendReferenceIdeal.main_arg3))) rfl ?_
    funext (i : (⟨2, ![32768, 128]⟩ : Shape).Idx)
    obtain ⟨n, l, rfl⟩ : ∃ (n : Fin 32768) (l : Fin 128), i = ix2 n l := ⟨i 0, i 1, eq_ix2 (n0 := 32768) (n1 := 128) i⟩
    refine (Cert.AttendReferenceIdeal.Block.weights_at _ _ _ n l).trans ?_
    refine Eq.trans ?_ (Cert.AttendIdeal.Block.weights_result m c n l).symm
    rw [a0, a2, a3]

theorem claim : Cert.Claim := ⟨Cert.Kernel.Gen.facts, Cert.KernelIdeal.Gen.facts, Cert.ReferenceIdeal.Gen.facts,
  Cert.First.Gen.facts, Cert.FirstIdeal.Gen.facts, Cert.FirstReferenceIdeal.Gen.facts,
  Cert.Final.Gen.facts, Cert.FinalIdeal.Gen.facts, Cert.FinalReferenceIdeal.Gen.facts,
  Cert.Project.Gen.facts, Cert.ProjectIdeal.Gen.facts, Cert.ProjectReferenceIdeal.Gen.facts,
  Cert.Attend.Gen.facts, Cert.AttendIdeal.Gen.facts, Cert.AttendReferenceIdeal.Gen.facts, Cert.Pre_finite_qkv.Gen.facts,
  fun m ρ _ => Cert.Kernel.Gen.frame m ρ, fun m ρ _ => Cert.KernelIdeal.Gen.frame m ρ, fun m ρ _ => Cert.KernelIdeal.Gen.frame m ρ,
  quiescent_reference, fun m ρ _ => quiescent_reference m ρ trivial,
  fun m ρ _ => Cert.First.Gen.frame m ρ, fun m ρ _ => Cert.FirstIdeal.Gen.frame m ρ, quiescent_first,
  fun m ρ _ => Cert.Final.Gen.frame m ρ, fun m ρ _ => Cert.FinalIdeal.Gen.frame m ρ, quiescent_final,
  fun m ρ _ => Cert.Project.Gen.frame m ρ, fun m ρ _ => Cert.ProjectIdeal.Gen.frame m ρ, quiescent_project,
  fun m ρ _ => Cert.Attend.Gen.frame m ρ, fun m ρ _ => Cert.AttendIdeal.Gen.frame m ρ, quiescent_attend,
  (trivial : preserves_Kernel_KernelIdeal), retention,
  (trivial : preserves_First_FirstIdeal), first_output,
  (trivial : preserves_Final_FinalIdeal), final_output,
  (trivial : preserves_Project_ProjectIdeal), projection,
  (trivial : preserves_Attend_AttendIdeal), attention_input⟩

end Cert.Proof

end
